-- ==== Defs.lean ====
def Pre_Kernel (m : (ℓ : Loc Cert.Kernel.nD Cert.Kernel.τ Cert.Kernel.sig) → Buf (Elt Bits) ℓ) : Prop :=
  True

def Pre_Kernel_score_words [hPre_score_words : Cert.Pre_score_words.Facts] (m : (ℓ : Loc Cert.Kernel.nD Cert.Kernel.τ Cert.Kernel.sig) → Buf (Elt Bits) ℓ) : Prop :=
  ∀ c : Dev Cert.Kernel.nD,
    (Cert.Pre_score_words.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Reference (m : (ℓ : Loc Cert.Reference.nD Cert.Reference.τ Cert.Reference.sig) → Buf (Elt Bits) ℓ) : Prop :=
  True

def Pre_Reference_score_words [hPre_score_words : Cert.Pre_score_words.Facts] (m : (ℓ : Loc Cert.Reference.nD Cert.Reference.τ Cert.Reference.sig) → Buf (Elt Bits) ℓ) : Prop :=
  ∀ c : Dev Cert.Reference.nD,
    (Cert.Pre_score_words.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreReferenceIdeal (m : (ℓ : Loc Cert.ScoreReferenceIdeal.nD Cert.ScoreReferenceIdeal.τ Cert.ScoreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_score_words [hKernel : Cert.Kernel.Facts] [hPre_score_words : Cert.Pre_score_words.Facts] : Prop :=
  ∀ (m : (ℓ : Loc Cert.Kernel.nD Cert.Kernel.τ Cert.Kernel.sig) → Buf (Elt Bits) ℓ) (g : Dev Cert.Kernel.nD → PrngReg), Pre_Kernel_score_words m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_score_words [hReference : Cert.Reference.Facts] [hPre_score_words : Cert.Pre_score_words.Facts] : Prop :=
  ∀ (m : (ℓ : Loc Cert.Reference.nD Cert.Reference.τ Cert.Reference.sig) → Buf (Elt Bits) ℓ) (g : Dev Cert.Reference.nD → PrngReg), Pre_Reference_score_words m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1)
      ∧ r.2.mem ((c.tc : Thread Cert.Score.nD Cert.Score.τ).loc Cert.Score.main_arg2) = m ((c.tc : Thread Cert.Score.nD Cert.Score.τ).loc Cert.Score.main_arg2)
      ∧ r.2.mem ((c.tc : Thread Cert.Score.nD Cert.Score.τ).loc Cert.Score.main_arg3) = m ((c.tc : Thread Cert.Score.nD Cert.Score.τ).loc Cert.Score.main_arg3)
      ∧ r.2.mem ((c.tc : Thread Cert.Score.nD Cert.Score.τ).loc Cert.Score.main_arg4) = m ((c.tc : Thread Cert.Score.nD Cert.Score.τ).loc Cert.Score.main_arg4))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
      ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3)
      ∧ r.2.mem ((c.tc : Thread Cert.ScoreIdeal.nD Cert.ScoreIdeal.τ).loc Cert.ScoreIdeal.main_arg4) = m ((c.tc : Thread Cert.ScoreIdeal.nD Cert.ScoreIdeal.τ).loc Cert.ScoreIdeal.main_arg4))
      ∧ r.2.sem = fun _ => 0)

def quiescent_ScoreReferenceIdeal [hScoreReferenceIdeal : Cert.ScoreReferenceIdeal.Facts] : Prop :=
  ∀ (m : (ℓ : Loc Cert.ScoreReferenceIdeal.nD Cert.ScoreReferenceIdeal.τ Cert.ScoreReferenceIdeal.sig) → Buf (Elt Ideal) ℓ) (g : Dev Cert.ScoreReferenceIdeal.nD → PrngReg), Pre_ScoreReferenceIdeal m →
    θ_run (Cert.ScoreReferenceIdeal.defs (F := Ideal)) (onTc (τ := Cert.ScoreReferenceIdeal.τ) (Cert.ScoreReferenceIdeal.main (F := Ideal))) ⟨m, fun _ => 0, g⟩ (fun r => (∀ c : Dev Cert.ScoreReferenceIdeal.nD,
      r.2.mem ((c.tc : Thread Cert.ScoreReferenceIdeal.nD Cert.ScoreReferenceIdeal.τ).loc Cert.ScoreReferenceIdeal.main_arg0) = m ((c.tc : Thread Cert.ScoreReferenceIdeal.nD Cert.ScoreReferenceIdeal.τ).loc Cert.ScoreReferenceIdeal.main_arg0)
      ∧ r.2.mem ((c.tc : Thread Cert.ScoreReferenceIdeal.nD Cert.ScoreReferenceIdeal.τ).loc Cert.ScoreReferenceIdeal.main_arg1) = m ((c.tc : Thread Cert.ScoreReferenceIdeal.nD Cert.ScoreReferenceIdeal.τ).loc Cert.ScoreReferenceIdeal.main_arg1)
      ∧ r.2.mem ((c.tc : Thread Cert.ScoreReferenceIdeal.nD Cert.ScoreReferenceIdeal.τ).loc Cert.ScoreReferenceIdeal.main_arg2) = m ((c.tc : Thread Cert.ScoreReferenceIdeal.nD Cert.ScoreReferenceIdeal.τ).loc Cert.ScoreReferenceIdeal.main_arg2)
      ∧ r.2.mem ((c.tc : Thread Cert.ScoreReferenceIdeal.nD Cert.ScoreReferenceIdeal.τ).loc Cert.ScoreReferenceIdeal.main_arg3) = m ((c.tc : Thread Cert.ScoreReferenceIdeal.nD Cert.ScoreReferenceIdeal.τ).loc Cert.ScoreReferenceIdeal.main_arg3)
      ∧ r.2.mem ((c.tc : Thread Cert.ScoreReferenceIdeal.nD Cert.ScoreReferenceIdeal.τ).loc Cert.ScoreReferenceIdeal.main_arg4) = m ((c.tc : Thread Cert.ScoreReferenceIdeal.nD Cert.ScoreReferenceIdeal.τ).loc Cert.ScoreReferenceIdeal.main_arg4))
      ∧ r.2.sem = fun _ => 0)

def bitexact_Kernel_Reference_pre_score_words [hKernel : Cert.Kernel.Facts] [hReference : Cert.Reference.Facts] [hPre_score_words : Cert.Pre_score_words.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_score_words m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v7)) (v1 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v7) = v0 c
          ∧ r.2.mem ((c.tc : Thread Cert.Kernel.nD Cert.Kernel.τ).loc Cert.Kernel.main_v4) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v28) = v0 c
          ∧ r.2.mem ((c.tc : Thread Cert.Reference.nD Cert.Reference.τ).loc Cert.Reference.main_values) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Score_ScoreIdeal : Prop :=
  True

def algebraic_ScoreIdeal_ScoreReferenceIdeal [hScoreIdeal : Cert.ScoreIdeal.Facts] [hScoreReferenceIdeal : Cert.ScoreReferenceIdeal.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreReferenceIdeal.nD Cert.ScoreReferenceIdeal.τ Cert.ScoreReferenceIdeal.sig) → Buf (Elt Ideal) ℓ) (g' : Dev Cert.ScoreReferenceIdeal.nD → PrngReg), Pre_ScoreIdeal m →
    (∀ c : Dev Cert.ScoreIdeal.nD,
      m' ((c.tc : Thread Cert.ScoreReferenceIdeal.nD Cert.ScoreReferenceIdeal.τ).loc Cert.ScoreReferenceIdeal.main_arg0) = m ((c.tc : Thread Cert.ScoreIdeal.nD Cert.ScoreIdeal.τ).loc Cert.ScoreIdeal.main_arg0)
      ∧ m' ((c.tc : Thread Cert.ScoreReferenceIdeal.nD Cert.ScoreReferenceIdeal.τ).loc Cert.ScoreReferenceIdeal.main_arg1) = m ((c.tc : Thread Cert.ScoreIdeal.nD Cert.ScoreIdeal.τ).loc Cert.ScoreIdeal.main_arg1)
      ∧ m' ((c.tc : Thread Cert.ScoreReferenceIdeal.nD Cert.ScoreReferenceIdeal.τ).loc Cert.ScoreReferenceIdeal.main_arg2) = m ((c.tc : Thread Cert.ScoreIdeal.nD Cert.ScoreIdeal.τ).loc Cert.ScoreIdeal.main_arg2)
      ∧ m' ((c.tc : Thread Cert.ScoreReferenceIdeal.nD Cert.ScoreReferenceIdeal.τ).loc Cert.ScoreReferenceIdeal.main_arg3) = m ((c.tc : Thread Cert.ScoreIdeal.nD Cert.ScoreIdeal.τ).loc Cert.ScoreIdeal.main_arg3)
      ∧ m' ((c.tc : Thread Cert.ScoreReferenceIdeal.nD Cert.ScoreReferenceIdeal.τ).loc Cert.ScoreReferenceIdeal.main_arg4) = m ((c.tc : Thread Cert.ScoreIdeal.nD Cert.ScoreIdeal.τ).loc Cert.ScoreIdeal.main_arg4)) →
    ∃ (v0 : (c : Dev Cert.ScoreIdeal.nD) → Buf (Elt Ideal) ((c.tc : Thread Cert.ScoreIdeal.nD Cert.ScoreIdeal.τ).loc Cert.ScoreIdeal.main_v2)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v2) = v0 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
          ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
          ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3)
          ∧ r.2.mem ((c.tc : Thread Cert.ScoreIdeal.nD Cert.ScoreIdeal.τ).loc Cert.ScoreIdeal.main_arg4) = m ((c.tc : Thread Cert.ScoreIdeal.nD Cert.ScoreIdeal.τ).loc Cert.ScoreIdeal.main_arg4))
      ∧ θ_run (Cert.ScoreReferenceIdeal.defs (F := Ideal)) (onTc (τ := Cert.ScoreReferenceIdeal.τ) (Cert.ScoreReferenceIdeal.main (F := Ideal))) ⟨m', fun _ => 0, g'⟩ (fun r => ∀ c : Dev Cert.ScoreReferenceIdeal.nD,
          r.2.mem ((c.tc : Thread Cert.ScoreReferenceIdeal.nD Cert.ScoreReferenceIdeal.τ).loc Cert.ScoreReferenceIdeal.main_v18) = v0 c
          ∧ r.2.mem ((c.tc : Thread Cert.ScoreReferenceIdeal.nD Cert.ScoreReferenceIdeal.τ).loc Cert.ScoreReferenceIdeal.main_arg0) = m' ((c.tc : Thread Cert.ScoreReferenceIdeal.nD Cert.ScoreReferenceIdeal.τ).loc Cert.ScoreReferenceIdeal.main_arg0)
          ∧ r.2.mem ((c.tc : Thread Cert.ScoreReferenceIdeal.nD Cert.ScoreReferenceIdeal.τ).loc Cert.ScoreReferenceIdeal.main_arg1) = m' ((c.tc : Thread Cert.ScoreReferenceIdeal.nD Cert.ScoreReferenceIdeal.τ).loc Cert.ScoreReferenceIdeal.main_arg1)
          ∧ r.2.mem ((c.tc : Thread Cert.ScoreReferenceIdeal.nD Cert.ScoreReferenceIdeal.τ).loc Cert.ScoreReferenceIdeal.main_arg2) = m' ((c.tc : Thread Cert.ScoreReferenceIdeal.nD Cert.ScoreReferenceIdeal.τ).loc Cert.ScoreReferenceIdeal.main_arg2)
          ∧ r.2.mem ((c.tc : Thread Cert.ScoreReferenceIdeal.nD Cert.ScoreReferenceIdeal.τ).loc Cert.ScoreReferenceIdeal.main_arg3) = m' ((c.tc : Thread Cert.ScoreReferenceIdeal.nD Cert.ScoreReferenceIdeal.τ).loc Cert.ScoreReferenceIdeal.main_arg3)
          ∧ r.2.mem ((c.tc : Thread Cert.ScoreReferenceIdeal.nD Cert.ScoreReferenceIdeal.τ).loc Cert.ScoreReferenceIdeal.main_arg4) = m' ((c.tc : Thread Cert.ScoreReferenceIdeal.nD Cert.ScoreReferenceIdeal.τ).loc Cert.ScoreReferenceIdeal.main_arg4))

def Claim : Prop :=
  ∃ (hKernel : Cert.Kernel.Facts) (hReference : Cert.Reference.Facts) (hScore : Cert.Score.Facts) (hScoreIdeal : Cert.ScoreIdeal.Facts) (hScoreReferenceIdeal : Cert.ScoreReferenceIdeal.Facts) (hPre_score_words : Cert.Pre_score_words.Facts),
    quiescent_Kernel (hKernel := hKernel)
    ∧ quiescent_Kernel_pre_score_words (hKernel := hKernel) (hPre_score_words := hPre_score_words)
    ∧ quiescent_Reference (hReference := hReference)
    ∧ quiescent_Reference_pre_score_words (hReference := hReference) (hPre_score_words := hPre_score_words)
    ∧ quiescent_Score (hScore := hScore)
    ∧ quiescent_ScoreIdeal (hScoreIdeal := hScoreIdeal)
    ∧ quiescent_ScoreReferenceIdeal (hScoreReferenceIdeal := hScoreReferenceIdeal)
    ∧ bitexact_Kernel_Reference_pre_score_words (hKernel := hKernel) (hReference := hReference) (hPre_score_words := hPre_score_words)
    ∧ preserves_Score_ScoreIdeal
    ∧ algebraic_ScoreIdeal_ScoreReferenceIdeal (hScoreIdeal := hScoreIdeal) (hScoreReferenceIdeal := hScoreReferenceIdeal)
-- ==== Pre_score_words.lean ====
abbrev S8x256x100x252 : Shape := ⟨4, ![8, 256, 100, 252]⟩
abbrev S8x100x252 : Shape := ⟨3, ![8, 100, 252]⟩
abbrev S_ : Shape := ⟨0, ![]⟩

class Facts : Prop where
  bcast_S_S8x100x252 : S_.BroadcastsInDim S8x100x252 (![] : Fin 0 → Fin S8x100x252.rank)

variable [Facts]

def fn {F : FTy → Type} [BitOps F] (main_arg0 : FVec F S8x256x100x252 .f32) (main_arg1 : FVec F S8x100x252 .f32) : IVec S8x100x252 1 :=
  let main_v0 : IVec S8x100x252 32 := bitcastToInt main_arg1
  let main_c : IVec S_ 32 := constantI S_ 32 0#32
  let main_v1 : IVec S8x100x252 32 := broadcastInDim S8x100x252 ![] bcast_S_S8x100x252 main_c
  let main_v2 : IVec S8x100x252 1 := cmpi .sge main_v0 main_v1
  let main_c_0 : IVec S_ 32 := constantI S_ 32 1073741824#32
  let main_v3 : IVec S8x100x252 32 := broadcastInDim S8x100x252 ![] bcast_S_S8x100x252 main_c_0
  let main_v4 : IVec S8x100x252 1 := cmpi .slt main_v0 main_v3
  let main_v5 : IVec S8x100x252 1 := andi main_v2 main_v4
  main_v5
-- ==== Kernel.lean ====
abbrev S8x256x100x252 : Shape := ⟨4, ![8, 256, 100, 252]⟩
abbrev S8x100x252 : Shape := ⟨3, ![8, 100, 252]⟩
abbrev S201600 : Shape := ⟨1, ![201600]⟩
abbrev S40320 : Shape := ⟨1, ![40320]⟩
abbrev S25200 : Shape := ⟨1, ![25200]⟩
abbrev S16384 : Shape := ⟨1, ![16384]⟩
abbrev S16 : Shape := ⟨1, ![16]⟩
abbrev S_ : Shape := ⟨0, ![]⟩
abbrev S5040 : Shape := ⟨1, ![5040]⟩
abbrev S8x5040 : Shape := ⟨2, ![8, 5040]⟩
abbrev S1x32x100x252 : Shape := ⟨4, ![1, 32, 100, 252]⟩
abbrev S1x100x252 : Shape := ⟨3, ![1, 100, 252]⟩
abbrev S32x100x252 : Shape := ⟨3, ![32, 100, 252]⟩

abbrev nBuf : Table → Nat
  | .hbm => 11
  | .local .tc .vmem => 6
  | .local .scVector .vmem => 5
  | _ => 0

abbrev bufTy : (tb : Table) → Fin (nBuf tb) → BufTy
  | .hbm, ⟨0, _⟩ => ⟨S8x256x100x252, .f32⟩
  | .hbm, ⟨1, _⟩ => ⟨S8x100x252, .f32⟩
  | .hbm, ⟨2, _⟩ => ⟨S8x100x252, .i32⟩
  | .hbm, ⟨3, _⟩ => ⟨S201600, .i32⟩
  | .hbm, ⟨4, _⟩ => ⟨S40320, .i32⟩
  | .hbm, ⟨5, _⟩ => ⟨S201600, .i32⟩
  | .hbm, ⟨6, _⟩ => ⟨S8x5040, .i32⟩
  | .hbm, ⟨7, _⟩ => ⟨S8x5040, .f32⟩
  | .hbm, ⟨8, _⟩ => ⟨S8x100x252, .i32⟩
  | .hbm, ⟨9, _⟩ => ⟨S8x100x252, .f32⟩
  | .hbm, ⟨10, _⟩ => ⟨S8x256x100x252, .f32⟩
  | .local .tc .vmem, ⟨0, _⟩ => ⟨S1x32x100x252, .f32⟩
  | .local .tc .vmem, ⟨1, _⟩ => ⟨S1x32x100x252, .f32⟩
  | .local .tc .vmem, ⟨2, _⟩ => ⟨S1x100x252, .f32⟩
  | .local .tc .vmem, ⟨3, _⟩ => ⟨S1x100x252, .f32⟩
  | .local .tc .vmem, ⟨4, _⟩ => ⟨S1x32x100x252, .f32⟩
  | .local .tc .vmem, ⟨5, _⟩ => ⟨S1x32x100x252, .f32⟩
  | .local .scVector .vmem, ⟨0, _⟩ => ⟨S25200, .i32⟩
  | .local .scVector .vmem, ⟨1, _⟩ => ⟨S25200, .i32⟩
  | .local .scVector .vmem, ⟨2, _⟩ => ⟨S25200, .i32⟩
  | .local .scVector .vmem, ⟨3, _⟩ => ⟨S25200, .i32⟩
  | .local .scVector .vmem, ⟨4, _⟩ => ⟨S16384, .i32⟩
  | _, _ => ⟨S8x256x100x252, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25200_i32 : BitVec 32 := 25200#32
  let v10 : BitVec 32 := Scalar.muli v1 c25200_i32
  ![v10.toNat]
@[reducible] def k0_t1_loop : Scf.Loop 32 :=
  let c0_i32_2 : BitVec 32 := 0#32
  let c315_i32 : BitVec 32 := 315#32
  let v11 : BitVec 32 := Scalar.addi c0_i32_2 c315_i32
  let c1_i32_3 : BitVec 32 := 1#32
  ⟨c0_i32_2, v11, c1_i32_3⟩
def k0_off2 (k0_t1 : Fin k0_t1_loop.trips) (c0_i32_79 : BitVec 32) : Fin 1 → Nat :=
  let c0_i32_2 : BitVec 32 := 0#32
  let c1_i32_3 : BitVec 32 := 1#32
  let arg10 : BitVec 32 := Scf.iv c0_i32_2 c1_i32_3 k0_t1
  let c5_i32 : BitVec 32 := 5#32
  let v45 : BitVec 32 := Scalar.muli arg10 c5_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t2_loop : Scf.Loop 32 :=
  let c0_i32_6 : BitVec 32 := 0#32
  let c256_i32 : BitVec 32 := 256#32
  let v13 : BitVec 32 := Scalar.addi c0_i32_6 c256_i32
  let c1_i32_7 : BitVec 32 := 1#32
  ⟨c0_i32_6, v13, c1_i32_7⟩
def k0_off3 (k0_t2 : Fin k0_t2_loop.trips) (c0_i32_79 : BitVec 32) : Fin 1 → Nat :=
  let c0_i32_6 : BitVec 32 := 0#32
  let c1_i32_7 : BitVec 32 := 1#32
  let arg10 : BitVec 32 := Scf.iv c0_i32_6 c1_i32_7 k0_t2
  let c4_i32 : BitVec 32 := 4#32
  let v45 : BitVec 32 := Scalar.muli arg10 c4_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t3_loop : Scf.Loop 32 :=
  let c0_i32_10 : BitVec 32 := 0#32
  let c315_i32_11 : BitVec 32 := 315#32
  let v15 : BitVec 32 := Scalar.addi c0_i32_10 c315_i32_11
  let c1_i32_12 : BitVec 32 := 1#32
  ⟨c0_i32_10, v15, c1_i32_12⟩

def k0_chk1 (i : grid0.Coords) (v48 : IVec S16 32) : Prop :=
  (∀ (k0_h1 : k0_cond1 i = 1#1), ∀ a x, ((![v48] : Fin 1 → IVec S16 32) a x).toNat < S25200.size a)
theorem k0_idx1_inb : ∀ (i : grid0.Coords) (v48 : IVec S16 32) (k0_hw1 : k0_chk1 i v48), ∀ (k0_h1 : k0_cond1 i = 1#1), ∀ a x, ((![v48] : Fin 1 → IVec S16 32) a x).toNat < S25200.size a := fun i v48 k0_hw1 k0_h1 => k0_hw1 k0_h1

def k0_chk2 (i : grid0.Coords) (v56 : IVec S16 32) : Prop :=
  (∀ (k0_h1 : k0_cond1 i = 1#1), ∀ a x, ((![v56] : Fin 1 → IVec S16 32) a x).toNat < S16384.size a)
theorem k0_idx2_inb : ∀ (i : grid0.Coords) (v56 : IVec S16 32) (k0_hw2 : k0_chk2 i v56), ∀ (k0_h1 : k0_cond1 i = 1#1), ∀ a x, ((![v56] : Fin 1 → IVec S16 32) a x).toNat < S16384.size a := fun i v56 k0_hw2 k0_h1 => k0_hw2 k0_h1

def k0_chk3 (i : grid0.Coords) (v60 : IVec S16 32) : Prop :=
  (∀ (k0_h1 : k0_cond1 i = 1#1), ∀ a x, ((![v60] : Fin 1 → IVec S16 32) a x).toNat < S25200.size a)
theorem k0_idx3_inb : ∀ (i : grid0.Coords) (v60 : IVec S16 32) (k0_hw3 : k0_chk3 i v60), ∀ (k0_h1 : k0_cond1 i = 1#1), ∀ a x, ((![v60] : Fin 1 → IVec S16 32) a x).toNat < S25200.size a := fun i v60 k0_hw3 k0_h1 => k0_hw3 k0_h1

def k0_chk4 (i : grid0.Coords) (v68 : IVec S16 32) : Prop :=
  (∀ (k0_h1 : k0_cond1 i = 1#1), ∀ a x, ((![v68] : Fin 1 → IVec S16 32) a x).toNat < S16384.size a)
theorem k0_idx4_inb : ∀ (i : grid0.Coords) (v68 : IVec S16 32) (k0_hw4 : k0_chk4 i v68), ∀ (k0_h1 : k0_cond1 i = 1#1), ∀ a x, ((![v68] : Fin 1 → IVec S16 32) a x).toNat < S16384.size a := fun i v68 k0_hw4 k0_h1 => k0_hw4 k0_h1

def k0_chk5 (i : grid0.Coords) (v72 : IVec S16 32) : Prop :=
  (∀ (k0_h1 : k0_cond1 i = 1#1), ∀ a x, ((![v72] : Fin 1 → IVec S16 32) a x).toNat < S25200.size a)
theorem k0_idx5_inb : ∀ (i : grid0.Coords) (v72 : IVec S16 32) (k0_hw5 : k0_chk5 i v72), ∀ (k0_h1 : k0_cond1 i = 1#1), ∀ a x, ((![v72] : Fin 1 → IVec S16 32) a x).toNat < S25200.size a := fun i v72 k0_hw5 k0_h1 => k0_hw5 k0_h1

def k0_chk6 (i : grid0.Coords) (v80 : IVec S16 32) : Prop :=
  (∀ (k0_h1 : k0_cond1 i = 1#1), ∀ a x, ((![v80] : Fin 1 → IVec S16 32) a x).toNat < S16384.size a)
theorem k0_idx6_inb : ∀ (i : grid0.Coords) (v80 : IVec S16 32) (k0_hw6 : k0_chk6 i v80), ∀ (k0_h1 : k0_cond1 i = 1#1), ∀ a x, ((![v80] : Fin 1 → IVec S16 32) a x).toNat < S16384.size a := fun i v80 k0_hw6 k0_h1 => k0_hw6 k0_h1

def k0_chk7 (i : grid0.Coords) (v84 : IVec S16 32) : Prop :=
  (∀ (k0_h1 : k0_cond1 i = 1#1), ∀ a x, ((![v84] : Fin 1 → IVec S16 32) a x).toNat < S25200.size a)
theorem k0_idx7_inb : ∀ (i : grid0.Coords) (v84 : IVec S16 32) (k0_hw7 : k0_chk7 i v84), ∀ (k0_h1 : k0_cond1 i = 1#1), ∀ a x, ((![v84] : Fin 1 → IVec S16 32) a x).toNat < S25200.size a := fun i v84 k0_hw7 k0_h1 => k0_hw7 k0_h1

def k0_chk8 (i : grid0.Coords) (v92 : IVec S16 32) : Prop :=
  (∀ (k0_h1 : k0_cond1 i = 1#1), ∀ a x, ((![v92] : Fin 1 → IVec S16 32) a x).toNat < S16384.size a)
theorem k0_idx8_inb : ∀ (i : grid0.Coords) (v92 : IVec S16 32) (k0_hw8 : k0_chk8 i v92), ∀ (k0_h1 : k0_cond1 i = 1#1), ∀ a x, ((![v92] : Fin 1 → IVec S16 32) a x).toNat < S16384.size a := fun i v92 k0_hw8 k0_h1 => k0_hw8 k0_h1

def k0_chk9 (i : grid0.Coords) (v96 : IVec S16 32) : Prop :=
  (∀ (k0_h1 : k0_cond1 i = 1#1), ∀ a x, ((![v96] : Fin 1 → IVec S16 32) a x).toNat < S25200.size a)
theorem k0_idx9_inb : ∀ (i : grid0.Coords) (v96 : IVec S16 32) (k0_hw9 : k0_chk9 i v96), ∀ (k0_h1 : k0_cond1 i = 1#1), ∀ a x, ((![v96] : Fin 1 → IVec S16 32) a x).toNat < S25200.size a := fun i v96 k0_hw9 k0_h1 => k0_hw9 k0_h1

def k0_chk10 (i : grid0.Coords) (v104 : IVec S16 32) : Prop :=
  (∀ (k0_h1 : k0_cond1 i = 1#1), ∀ a x, ((![v104] : Fin 1 → IVec S16 32) a x).toNat < S16384.size a)
theorem k0_idx10_inb : ∀ (i : grid0.Coords) (v104 : IVec S16 32) (k0_hw10 : k0_chk10 i v104), ∀ (k0_h1 : k0_cond1 i = 1#1), ∀ a x, ((![v104] : Fin 1 → IVec S16 32) a x).toNat < S16384.size a := fun i v104 k0_hw10 k0_h1 => k0_hw10 k0_h1
@[reducible] def k0_t4_loop : Scf.Loop 32 :=
  let c0_i32_15 : BitVec 32 := 0#32
  let c256_i32_16 : BitVec 32 := 256#32
  let v17 : BitVec 32 := Scalar.addi c0_i32_15 c256_i32_16
  let c1_i32_17 : BitVec 32 := 1#32
  ⟨c0_i32_15, v17, c1_i32_17⟩
def k0_off4 (k0_t4 : Fin k0_t4_loop.trips) (c0_i32_79 : BitVec 32) : Fin 1 → Nat :=
  let c0_i32_15 : BitVec 32 := 0#32
  let c1_i32_17 : BitVec 32 := 1#32
  let arg10 : BitVec 32 := Scf.iv c0_i32_15 c1_i32_17 k0_t4
  let c4_i32 : BitVec 32 := 4#32
  let v45 : BitVec 32 := Scalar.muli arg10 c4_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t5_loop : Scf.Loop 32 :=
  let c0_i32_20 : BitVec 32 := 0#32
  let c315_i32_21 : BitVec 32 := 315#32
  let v19 : BitVec 32 := Scalar.addi c0_i32_20 c315_i32_21
  let c1_i32_22 : BitVec 32 := 1#32
  ⟨c0_i32_20, v19, c1_i32_22⟩

def k0_chk11 (i : grid0.Coords) (v48 : IVec S16 32) : Prop :=
  (∀ (k0_h1 : k0_cond1 i = 1#1), ∀ a x, ((![v48] : Fin 1 → IVec S16 32) a x).toNat < S25200.size a) ∧
  (∀ (k0_h1 : k0_cond1 i = 1#1), ∀ a x, ((![v48] : Fin 1 → IVec S16 32) a x).toNat < S25200.size a)
theorem k0_idx11_inb : ∀ (i : grid0.Coords) (v48 : IVec S16 32) (k0_hw11 : k0_chk11 i v48), ∀ (k0_h1 : k0_cond1 i = 1#1), ∀ a x, ((![v48] : Fin 1 → IVec S16 32) a x).toNat < S25200.size a := fun i v48 k0_hw11 k0_h1 => k0_hw11.1 k0_h1
theorem k0_idx12_inb : ∀ (i : grid0.Coords) (v48 : IVec S16 32) (k0_hw11 : k0_chk11 i v48), ∀ (k0_h1 : k0_cond1 i = 1#1), ∀ a x, ((![v48] : Fin 1 → IVec S16 32) a x).toNat < S25200.size a := fun i v48 k0_hw11 k0_h1 => k0_hw11.2 k0_h1

def k0_chk13 (i : grid0.Coords) (v58 : IVec S16 32) : Prop :=
  (∀ (k0_h1 : k0_cond1 i = 1#1), ∀ a x, ((![v58] : Fin 1 → IVec S16 32) a x).toNat < S25200.size a) ∧
  (∀ (k0_h1 : k0_cond1 i = 1#1), ∀ a x, ((![v58] : Fin 1 → IVec S16 32) a x).toNat < S25200.size a)
theorem k0_idx14_inb : ∀ (i : grid0.Coords) (v58 : IVec S16 32) (k0_hw13 : k0_chk13 i v58), ∀ (k0_h1 : k0_cond1 i = 1#1), ∀ a x, ((![v58] : Fin 1 → IVec S16 32) a x).toNat < S25200.size a := fun i v58 k0_hw13 k0_h1 => k0_hw13.1 k0_h1
theorem k0_idx15_inb : ∀ (i : grid0.Coords) (v58 : IVec S16 32) (k0_hw13 : k0_chk13 i v58), ∀ (k0_h1 : k0_cond1 i = 1#1), ∀ a x, ((![v58] : Fin 1 → IVec S16 32) a x).toNat < S25200.size a := fun i v58 k0_hw13 k0_h1 => k0_hw13.2 k0_h1

def k0_chk12 (i : grid0.Coords) (v57 : IVec S16 32) : Prop :=
  (∀ (k0_h1 : k0_cond1 i = 1#1), ∀ a x, ((![v57] : Fin 1 → IVec S16 32) a x).toNat < S16384.size a) ∧
  (∀ (k0_h1 : k0_cond1 i = 1#1), ∀ a x, ((![v57] : Fin 1 → IVec S16 32) a x).toNat < S16384.size a)
theorem k0_idx13_inb : ∀ (i : grid0.Coords) (v57 : IVec S16 32) (k0_hw12 : k0_chk12 i v57), ∀ (k0_h1 : k0_cond1 i = 1#1), ∀ a x, ((![v57] : Fin 1 → IVec S16 32) a x).toNat < S16384.size a := fun i v57 k0_hw12 k0_h1 => k0_hw12.1 k0_h1
theorem k0_idx16_inb : ∀ (i : grid0.Coords) (v57 : IVec S16 32) (k0_hw12 : k0_chk12 i v57), ∀ (k0_h1 : k0_cond1 i = 1#1), ∀ a x, ((![v57] : Fin 1 → IVec S16 32) a x).toNat < S16384.size a := fun i v57 k0_hw12 k0_h1 => k0_hw12.2 k0_h1

def k0_chk14 (i : grid0.Coords) (v62 : IVec S16 32) : Prop :=
  (∀ (k0_h1 : k0_cond1 i = 1#1), ∀ a x, ((![v62] : Fin 1 → IVec S16 32) a x).toNat < S25200.size a) ∧
  (∀ (k0_h1 : k0_cond1 i = 1#1), ∀ a x, ((![v62] : Fin 1 → IVec S16 32) a x).toNat < S25200.size a)
theorem k0_idx17_inb : ∀ (i : grid0.Coords) (v62 : IVec S16 32) (k0_hw14 : k0_chk14 i v62), ∀ (k0_h1 : k0_cond1 i = 1#1), ∀ a x, ((![v62] : Fin 1 → IVec S16 32) a x).toNat < S25200.size a := fun i v62 k0_hw14 k0_h1 => k0_hw14.1 k0_h1
theorem k0_idx18_inb : ∀ (i : grid0.Coords) (v62 : IVec S16 32) (k0_hw14 : k0_chk14 i v62), ∀ (k0_h1 : k0_cond1 i = 1#1), ∀ a x, ((![v62] : Fin 1 → IVec S16 32) a x).toNat < S25200.size a := fun i v62 k0_hw14 k0_h1 => k0_hw14.2 k0_h1

def k0_chk16 (i : grid0.Coords) (v72 : IVec S16 32) : Prop :=
  (∀ (k0_h1 : k0_cond1 i = 1#1), ∀ a x, ((![v72] : Fin 1 → IVec S16 32) a x).toNat < S25200.size a) ∧
  (∀ (k0_h1 : k0_cond1 i = 1#1), ∀ a x, ((![v72] : Fin 1 → IVec S16 32) a x).toNat < S25200.size a)
theorem k0_idx20_inb : ∀ (i : grid0.Coords) (v72 : IVec S16 32) (k0_hw16 : k0_chk16 i v72), ∀ (k0_h1 : k0_cond1 i = 1#1), ∀ a x, ((![v72] : Fin 1 → IVec S16 32) a x).toNat < S25200.size a := fun i v72 k0_hw16 k0_h1 => k0_hw16.1 k0_h1
theorem k0_idx21_inb : ∀ (i : grid0.Coords) (v72 : IVec S16 32) (k0_hw16 : k0_chk16 i v72), ∀ (k0_h1 : k0_cond1 i = 1#1), ∀ a x, ((![v72] : Fin 1 → IVec S16 32) a x).toNat < S25200.size a := fun i v72 k0_hw16 k0_h1 => k0_hw16.2 k0_h1

def k0_chk15 (i : grid0.Coords) (v71 : IVec S16 32) : Prop :=
  (∀ (k0_h1 : k0_cond1 i = 1#1), ∀ a x, ((![v71] : Fin 1 → IVec S16 32) a x).toNat < S16384.size a) ∧
  (∀ (k0_h1 : k0_cond1 i = 1#1), ∀ a x, ((![v71] : Fin 1 → IVec S16 32) a x).toNat < S16384.size a)
theorem k0_idx19_inb : ∀ (i : grid0.Coords) (v71 : IVec S16 32) (k0_hw15 : k0_chk15 i v71), ∀ (k0_h1 : k0_cond1 i = 1#1), ∀ a x, ((![v71] : Fin 1 → IVec S16 32) a x).toNat < S16384.size a := fun i v71 k0_hw15 k0_h1 => k0_hw15.1 k0_h1
theorem k0_idx22_inb : ∀ (i : grid0.Coords) (v71 : IVec S16 32) (k0_hw15 : k0_chk15 i v71), ∀ (k0_h1 : k0_cond1 i = 1#1), ∀ a x, ((![v71] : Fin 1 → IVec S16 32) a x).toNat < S16384.size a := fun i v71 k0_hw15 k0_h1 => k0_hw15.2 k0_h1

def k0_chk17 (i : grid0.Coords) (v76 : IVec S16 32) : Prop :=
  (∀ (k0_h1 : k0_cond1 i = 1#1), ∀ a x, ((![v76] : Fin 1 → IVec S16 32) a x).toNat < S25200.size a) ∧
  (∀ (k0_h1 : k0_cond1 i = 1#1), ∀ a x, ((![v76] : Fin 1 → IVec S16 32) a x).toNat < S25200.size a)
theorem k0_idx23_inb : ∀ (i : grid0.Coords) (v76 : IVec S16 32) (k0_hw17 : k0_chk17 i v76), ∀ (k0_h1 : k0_cond1 i = 1#1), ∀ a x, ((![v76] : Fin 1 → IVec S16 32) a x).toNat < S25200.size a := fun i v76 k0_hw17 k0_h1 => k0_hw17.1 k0_h1
theorem k0_idx24_inb : ∀ (i : grid0.Coords) (v76 : IVec S16 32) (k0_hw17 : k0_chk17 i v76), ∀ (k0_h1 : k0_cond1 i = 1#1), ∀ a x, ((![v76] : Fin 1 → IVec S16 32) a x).toNat < S25200.size a := fun i v76 k0_hw17 k0_h1 => k0_hw17.2 k0_h1

def k0_chk19 (i : grid0.Coords) (v86 : IVec S16 32) : Prop :=
  (∀ (k0_h1 : k0_cond1 i = 1#1), ∀ a x, ((![v86] : Fin 1 → IVec S16 32) a x).toNat < S25200.size a) ∧
  (∀ (k0_h1 : k0_cond1 i = 1#1), ∀ a x, ((![v86] : Fin 1 → IVec S16 32) a x).toNat < S25200.size a)
theorem k0_idx26_inb : ∀ (i : grid0.Coords) (v86 : IVec S16 32) (k0_hw19 : k0_chk19 i v86), ∀ (k0_h1 : k0_cond1 i = 1#1), ∀ a x, ((![v86] : Fin 1 → IVec S16 32) a x).toNat < S25200.size a := fun i v86 k0_hw19 k0_h1 => k0_hw19.1 k0_h1
theorem k0_idx27_inb : ∀ (i : grid0.Coords) (v86 : IVec S16 32) (k0_hw19 : k0_chk19 i v86), ∀ (k0_h1 : k0_cond1 i = 1#1), ∀ a x, ((![v86] : Fin 1 → IVec S16 32) a x).toNat < S25200.size a := fun i v86 k0_hw19 k0_h1 => k0_hw19.2 k0_h1

def k0_chk18 (i : grid0.Coords) (v85 : IVec S16 32) : Prop :=
  (∀ (k0_h1 : k0_cond1 i = 1#1), ∀ a x, ((![v85] : Fin 1 → IVec S16 32) a x).toNat < S16384.size a) ∧
  (∀ (k0_h1 : k0_cond1 i = 1#1), ∀ a x, ((![v85] : Fin 1 → IVec S16 32) a x).toNat < S16384.size a)
theorem k0_idx25_inb : ∀ (i : grid0.Coords) (v85 : IVec S16 32) (k0_hw18 : k0_chk18 i v85), ∀ (k0_h1 : k0_cond1 i = 1#1), ∀ a x, ((![v85] : Fin 1 → IVec S16 32) a x).toNat < S16384.size a := fun i v85 k0_hw18 k0_h1 => k0_hw18.1 k0_h1
theorem k0_idx28_inb : ∀ (i : grid0.Coords) (v85 : IVec S16 32) (k0_hw18 : k0_chk18 i v85), ∀ (k0_h1 : k0_cond1 i = 1#1), ∀ a x, ((![v85] : Fin 1 → IVec S16 32) a x).toNat < S16384.size a := fun i v85 k0_hw18 k0_h1 => k0_hw18.2 k0_h1

def k0_chk20 (i : grid0.Coords) (v90 : IVec S16 32) : Prop :=
  (∀ (k0_h1 : k0_cond1 i = 1#1), ∀ a x, ((![v90] : Fin 1 → IVec S16 32) a x).toNat < S25200.size a) ∧
  (∀ (k0_h1 : k0_cond1 i = 1#1), ∀ a x, ((![v90] : Fin 1 → IVec S16 32) a x).toNat < S25200.size a)
theorem k0_idx29_inb : ∀ (i : grid0.Coords) (v90 : IVec S16 32) (k0_hw20 : k0_chk20 i v90), ∀ (k0_h1 : k0_cond1 i = 1#1), ∀ a x, ((![v90] : Fin 1 → IVec S16 32) a x).toNat < S25200.size a := fun i v90 k0_hw20 k0_h1 => k0_hw20.1 k0_h1
theorem k0_idx30_inb : ∀ (i : grid0.Coords) (v90 : IVec S16 32) (k0_hw20 : k0_chk20 i v90), ∀ (k0_h1 : k0_cond1 i = 1#1), ∀ a x, ((![v90] : Fin 1 → IVec S16 32) a x).toNat < S25200.size a := fun i v90 k0_hw20 k0_h1 => k0_hw20.2 k0_h1

def k0_chk22 (i : grid0.Coords) (v100 : IVec S16 32) : Prop :=
  (∀ (k0_h1 : k0_cond1 i = 1#1), ∀ a x, ((![v100] : Fin 1 → IVec S16 32) a x).toNat < S25200.size a) ∧
  (∀ (k0_h1 : k0_cond1 i = 1#1), ∀ a x, ((![v100] : Fin 1 → IVec S16 32) a x).toNat < S25200.size a)
theorem k0_idx32_inb : ∀ (i : grid0.Coords) (v100 : IVec S16 32) (k0_hw22 : k0_chk22 i v100), ∀ (k0_h1 : k0_cond1 i = 1#1), ∀ a x, ((![v100] : Fin 1 → IVec S16 32) a x).toNat < S25200.size a := fun i v100 k0_hw22 k0_h1 => k0_hw22.1 k0_h1
theorem k0_idx33_inb : ∀ (i : grid0.Coords) (v100 : IVec S16 32) (k0_hw22 : k0_chk22 i v100), ∀ (k0_h1 : k0_cond1 i = 1#1), ∀ a x, ((![v100] : Fin 1 → IVec S16 32) a x).toNat < S25200.size a := fun i v100 k0_hw22 k0_h1 => k0_hw22.2 k0_h1

def k0_chk21 (i : grid0.Coords) (v99 : IVec S16 32) : Prop :=
  (∀ (k0_h1 : k0_cond1 i = 1#1), ∀ a x, ((![v99] : Fin 1 → IVec S16 32) a x).toNat < S16384.size a) ∧
  (∀ (k0_h1 : k0_cond1 i = 1#1), ∀ a x, ((![v99] : Fin 1 → IVec S16 32) a x).toNat < S16384.size a)
theorem k0_idx31_inb : ∀ (i : grid0.Coords) (v99 : IVec S16 32) (k0_hw21 : k0_chk21 i v99), ∀ (k0_h1 : k0_cond1 i = 1#1), ∀ a x, ((![v99] : Fin 1 → IVec S16 32) a x).toNat < S16384.size a := fun i v99 k0_hw21 k0_h1 => k0_hw21.1 k0_h1
theorem k0_idx34_inb : ∀ (i : grid0.Coords) (v99 : IVec S16 32) (k0_hw21 : k0_chk21 i v99), ∀ (k0_h1 : k0_cond1 i = 1#1), ∀ a x, ((![v99] : Fin 1 → IVec S16 32) a x).toNat < S16384.size a := fun i v99 k0_hw21 k0_h1 => k0_hw21.2 k0_h1

def k0_chk23 (i : grid0.Coords) (v104 : IVec S16 32) : Prop :=
  (∀ (k0_h1 : k0_cond1 i = 1#1), ∀ a x, ((![v104] : Fin 1 → IVec S16 32) a x).toNat < S25200.size a) ∧
  (∀ (k0_h1 : k0_cond1 i = 1#1), ∀ a x, ((![v104] : Fin 1 → IVec S16 32) a x).toNat < S25200.size a)
theorem k0_idx35_inb : ∀ (i : grid0.Coords) (v104 : IVec S16 32) (k0_hw23 : k0_chk23 i v104), ∀ (k0_h1 : k0_cond1 i = 1#1), ∀ a x, ((![v104] : Fin 1 → IVec S16 32) a x).toNat < S25200.size a := fun i v104 k0_hw23 k0_h1 => k0_hw23.1 k0_h1
theorem k0_idx36_inb : ∀ (i : grid0.Coords) (v104 : IVec S16 32) (k0_hw23 : k0_chk23 i v104), ∀ (k0_h1 : k0_cond1 i = 1#1), ∀ a x, ((![v104] : Fin 1 → IVec S16 32) a x).toNat < S25200.size a := fun i v104 k0_hw23 k0_h1 => k0_hw23.2 k0_h1

def k0_chk25 (i : grid0.Coords) (v114 : IVec S16 32) : Prop :=
  (∀ (k0_h1 : k0_cond1 i = 1#1), ∀ a x, ((![v114] : Fin 1 → IVec S16 32) a x).toNat < S25200.size a) ∧
  (∀ (k0_h1 : k0_cond1 i = 1#1), ∀ a x, ((![v114] : Fin 1 → IVec S16 32) a x).toNat < S25200.size a)
theorem k0_idx38_inb : ∀ (i : grid0.Coords) (v114 : IVec S16 32) (k0_hw25 : k0_chk25 i v114), ∀ (k0_h1 : k0_cond1 i = 1#1), ∀ a x, ((![v114] : Fin 1 → IVec S16 32) a x).toNat < S25200.size a := fun i v114 k0_hw25 k0_h1 => k0_hw25.1 k0_h1
theorem k0_idx39_inb : ∀ (i : grid0.Coords) (v114 : IVec S16 32) (k0_hw25 : k0_chk25 i v114), ∀ (k0_h1 : k0_cond1 i = 1#1), ∀ a x, ((![v114] : Fin 1 → IVec S16 32) a x).toNat < S25200.size a := fun i v114 k0_hw25 k0_h1 => k0_hw25.2 k0_h1

def k0_chk24 (i : grid0.Coords) (v113 : IVec S16 32) : Prop :=
  (∀ (k0_h1 : k0_cond1 i = 1#1), ∀ a x, ((![v113] : Fin 1 → IVec S16 32) a x).toNat < S16384.size a) ∧
  (∀ (k0_h1 : k0_cond1 i = 1#1), ∀ a x, ((![v113] : Fin 1 → IVec S16 32) a x).toNat < S16384.size a)
theorem k0_idx37_inb : ∀ (i : grid0.Coords) (v113 : IVec S16 32) (k0_hw24 : k0_chk24 i v113), ∀ (k0_h1 : k0_cond1 i = 1#1), ∀ a x, ((![v113] : Fin 1 → IVec S16 32) a x).toNat < S16384.size a := fun i v113 k0_hw24 k0_h1 => k0_hw24.1 k0_h1
theorem k0_idx40_inb : ∀ (i : grid0.Coords) (v113 : IVec S16 32) (k0_hw24 : k0_chk24 i v113), ∀ (k0_h1 : k0_cond1 i = 1#1), ∀ a x, ((![v113] : Fin 1 → IVec S16 32) a x).toNat < S16384.size a := fun i v113 k0_hw24 k0_h1 => k0_hw24.2 k0_h1
@[reducible] def k0_t6_loop : Scf.Loop 32 :=
  let c0_i32_25 : BitVec 32 := 0#32
  let c256_i32_26 : BitVec 32 := 256#32
  let v21 : BitVec 32 := Scalar.addi c0_i32_25 c256_i32_26
  let c1_i32_27 : BitVec 32 := 1#32
  ⟨c0_i32_25, v21, c1_i32_27⟩
def k0_off5 (k0_t6 : Fin k0_t6_loop.trips) (c0_i32_79 : BitVec 32) : Fin 1 → Nat :=
  let c0_i32_25 : BitVec 32 := 0#32
  let c1_i32_27 : BitVec 32 := 1#32
  let arg10 : BitVec 32 := Scf.iv c0_i32_25 c1_i32_27 k0_t6
  let c4_i32 : BitVec 32 := 4#32
  let v45 : BitVec 32 := Scalar.muli arg10 c4_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t7_loop : Scf.Loop 32 :=
  let c0_i32_30 : BitVec 32 := 0#32
  let c315_i32_31 : BitVec 32 := 315#32
  let v23 : BitVec 32 := Scalar.addi c0_i32_30 c315_i32_31
  let c1_i32_32 : BitVec 32 := 1#32
  ⟨c0_i32_30, v23, c1_i32_32⟩

def k0_chk26 (i : grid0.Coords) (v48 : IVec S16 32) : Prop :=
  (∀ (k0_h1 : k0_cond1 i = 1#1), ∀ a x, ((![v48] : Fin 1 → IVec S16 32) a x).toNat < S25200.size a)
theorem k0_idx41_inb : ∀ (i : grid0.Coords) (v48 : IVec S16 32) (k0_hw26 : k0_chk26 i v48), ∀ (k0_h1 : k0_cond1 i = 1#1), ∀ a x, ((![v48] : Fin 1 → IVec S16 32) a x).toNat < S25200.size a := fun i v48 k0_hw26 k0_h1 => k0_hw26 k0_h1

def k0_chk27 (i : grid0.Coords) (v56 : IVec S16 32) : Prop :=
  (∀ (k0_h1 : k0_cond1 i = 1#1), ∀ a x, ((![v56] : Fin 1 → IVec S16 32) a x).toNat < S16384.size a)
theorem k0_idx42_inb : ∀ (i : grid0.Coords) (v56 : IVec S16 32) (k0_hw27 : k0_chk27 i v56), ∀ (k0_h1 : k0_cond1 i = 1#1), ∀ a x, ((![v56] : Fin 1 → IVec S16 32) a x).toNat < S16384.size a := fun i v56 k0_hw27 k0_h1 => k0_hw27 k0_h1

def k0_chk28 (i : grid0.Coords) (v60 : IVec S16 32) : Prop :=
  (∀ (k0_h1 : k0_cond1 i = 1#1), ∀ a x, ((![v60] : Fin 1 → IVec S16 32) a x).toNat < S25200.size a)
theorem k0_idx43_inb : ∀ (i : grid0.Coords) (v60 : IVec S16 32) (k0_hw28 : k0_chk28 i v60), ∀ (k0_h1 : k0_cond1 i = 1#1), ∀ a x, ((![v60] : Fin 1 → IVec S16 32) a x).toNat < S25200.size a := fun i v60 k0_hw28 k0_h1 => k0_hw28 k0_h1

def k0_chk29 (i : grid0.Coords) (v68 : IVec S16 32) : Prop :=
  (∀ (k0_h1 : k0_cond1 i = 1#1), ∀ a x, ((![v68] : Fin 1 → IVec S16 32) a x).toNat < S16384.size a)
theorem k0_idx44_inb : ∀ (i : grid0.Coords) (v68 : IVec S16 32) (k0_hw29 : k0_chk29 i v68), ∀ (k0_h1 : k0_cond1 i = 1#1), ∀ a x, ((![v68] : Fin 1 → IVec S16 32) a x).toNat < S16384.size a := fun i v68 k0_hw29 k0_h1 => k0_hw29 k0_h1

def k0_chk30 (i : grid0.Coords) (v72 : IVec S16 32) : Prop :=
  (∀ (k0_h1 : k0_cond1 i = 1#1), ∀ a x, ((![v72] : Fin 1 → IVec S16 32) a x).toNat < S25200.size a)
theorem k0_idx45_inb : ∀ (i : grid0.Coords) (v72 : IVec S16 32) (k0_hw30 : k0_chk30 i v72), ∀ (k0_h1 : k0_cond1 i = 1#1), ∀ a x, ((![v72] : Fin 1 → IVec S16 32) a x).toNat < S25200.size a := fun i v72 k0_hw30 k0_h1 => k0_hw30 k0_h1

def k0_chk31 (i : grid0.Coords) (v80 : IVec S16 32) : Prop :=
  (∀ (k0_h1 : k0_cond1 i = 1#1), ∀ a x, ((![v80] : Fin 1 → IVec S16 32) a x).toNat < S16384.size a)
theorem k0_idx46_inb : ∀ (i : grid0.Coords) (v80 : IVec S16 32) (k0_hw31 : k0_chk31 i v80), ∀ (k0_h1 : k0_cond1 i = 1#1), ∀ a x, ((![v80] : Fin 1 → IVec S16 32) a x).toNat < S16384.size a := fun i v80 k0_hw31 k0_h1 => k0_hw31 k0_h1

def k0_chk32 (i : grid0.Coords) (v84 : IVec S16 32) : Prop :=
  (∀ (k0_h1 : k0_cond1 i = 1#1), ∀ a x, ((![v84] : Fin 1 → IVec S16 32) a x).toNat < S25200.size a)
theorem k0_idx47_inb : ∀ (i : grid0.Coords) (v84 : IVec S16 32) (k0_hw32 : k0_chk32 i v84), ∀ (k0_h1 : k0_cond1 i = 1#1), ∀ a x, ((![v84] : Fin 1 → IVec S16 32) a x).toNat < S25200.size a := fun i v84 k0_hw32 k0_h1 => k0_hw32 k0_h1

def k0_chk33 (i : grid0.Coords) (v92 : IVec S16 32) : Prop :=
  (∀ (k0_h1 : k0_cond1 i = 1#1), ∀ a x, ((![v92] : Fin 1 → IVec S16 32) a x).toNat < S16384.size a)
theorem k0_idx48_inb : ∀ (i : grid0.Coords) (v92 : IVec S16 32) (k0_hw33 : k0_chk33 i v92), ∀ (k0_h1 : k0_cond1 i = 1#1), ∀ a x, ((![v92] : Fin 1 → IVec S16 32) a x).toNat < S16384.size a := fun i v92 k0_hw33 k0_h1 => k0_hw33 k0_h1

def k0_chk34 (i : grid0.Coords) (v96 : IVec S16 32) : Prop :=
  (∀ (k0_h1 : k0_cond1 i = 1#1), ∀ a x, ((![v96] : Fin 1 → IVec S16 32) a x).toNat < S25200.size a)
theorem k0_idx49_inb : ∀ (i : grid0.Coords) (v96 : IVec S16 32) (k0_hw34 : k0_chk34 i v96), ∀ (k0_h1 : k0_cond1 i = 1#1), ∀ a x, ((![v96] : Fin 1 → IVec S16 32) a x).toNat < S25200.size a := fun i v96 k0_hw34 k0_h1 => k0_hw34 k0_h1

def k0_chk35 (i : grid0.Coords) (v104 : IVec S16 32) : Prop :=
  (∀ (k0_h1 : k0_cond1 i = 1#1), ∀ a x, ((![v104] : Fin 1 → IVec S16 32) a x).toNat < S16384.size a)
theorem k0_idx50_inb : ∀ (i : grid0.Coords) (v104 : IVec S16 32) (k0_hw35 : k0_chk35 i v104), ∀ (k0_h1 : k0_cond1 i = 1#1), ∀ a x, ((![v104] : Fin 1 → IVec S16 32) a x).toNat < S16384.size a := fun i v104 k0_hw35 k0_h1 => k0_hw35 k0_h1
@[reducible] def k0_t8_loop : Scf.Loop 32 :=
  let c0_i32_35 : BitVec 32 := 0#32
  let c256_i32_36 : BitVec 32 := 256#32
  let v25 : BitVec 32 := Scalar.addi c0_i32_35 c256_i32_36
  let c1_i32_37 : BitVec 32 := 1#32
  ⟨c0_i32_35, v25, c1_i32_37⟩
def k0_off6 (k0_t8 : Fin k0_t8_loop.trips) (c0_i32_79 : BitVec 32) : Fin 1 → Nat :=
  let c0_i32_35 : BitVec 32 := 0#32
  let c1_i32_37 : BitVec 32 := 1#32
  let arg10 : BitVec 32 := Scf.iv c0_i32_35 c1_i32_37 k0_t8
  let c4_i32 : BitVec 32 := 4#32
  let v45 : BitVec 32 := Scalar.muli arg10 c4_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t9_loop : Scf.Loop 32 :=
  let c0_i32_40 : BitVec 32 := 0#32
  let c315_i32_41 : BitVec 32 := 315#32
  let v27 : BitVec 32 := Scalar.addi c0_i32_40 c315_i32_41
  let c1_i32_42 : BitVec 32 := 1#32
  ⟨c0_i32_40, v27, c1_i32_42⟩

def k0_chk36 (i : grid0.Coords) (v48 : IVec S16 32) : Prop :=
  (∀ (k0_h1 : k0_cond1 i = 1#1), ∀ a x, ((![v48] : Fin 1 → IVec S16 32) a x).toNat < S25200.size a) ∧
  (∀ (k0_h1 : k0_cond1 i = 1#1), ∀ a x, ((![v48] : Fin 1 → IVec S16 32) a x).toNat < S25200.size a)
theorem k0_idx51_inb : ∀ (i : grid0.Coords) (v48 : IVec S16 32) (k0_hw36 : k0_chk36 i v48), ∀ (k0_h1 : k0_cond1 i = 1#1), ∀ a x, ((![v48] : Fin 1 → IVec S16 32) a x).toNat < S25200.size a := fun i v48 k0_hw36 k0_h1 => k0_hw36.1 k0_h1
theorem k0_idx52_inb : ∀ (i : grid0.Coords) (v48 : IVec S16 32) (k0_hw36 : k0_chk36 i v48), ∀ (k0_h1 : k0_cond1 i = 1#1), ∀ a x, ((![v48] : Fin 1 → IVec S16 32) a x).toNat < S25200.size a := fun i v48 k0_hw36 k0_h1 => k0_hw36.2 k0_h1

def k0_chk38 (i : grid0.Coords) (v58 : IVec S16 32) : Prop :=
  (∀ (k0_h1 : k0_cond1 i = 1#1), ∀ a x, ((![v58] : Fin 1 → IVec S16 32) a x).toNat < S25200.size a) ∧
  (∀ (k0_h1 : k0_cond1 i = 1#1), ∀ a x, ((![v58] : Fin 1 → IVec S16 32) a x).toNat < S25200.size a)
theorem k0_idx54_inb : ∀ (i : grid0.Coords) (v58 : IVec S16 32) (k0_hw38 : k0_chk38 i v58), ∀ (k0_h1 : k0_cond1 i = 1#1), ∀ a x, ((![v58] : Fin 1 → IVec S16 32) a x).toNat < S25200.size a := fun i v58 k0_hw38 k0_h1 => k0_hw38.1 k0_h1
theorem k0_idx55_inb : ∀ (i : grid0.Coords) (v58 : IVec S16 32) (k0_hw38 : k0_chk38 i v58), ∀ (k0_h1 : k0_cond1 i = 1#1), ∀ a x, ((![v58] : Fin 1 → IVec S16 32) a x).toNat < S25200.size a := fun i v58 k0_hw38 k0_h1 => k0_hw38.2 k0_h1

def k0_chk37 (i : grid0.Coords) (v57 : IVec S16 32) : Prop :=
  (∀ (k0_h1 : k0_cond1 i = 1#1), ∀ a x, ((![v57] : Fin 1 → IVec S16 32) a x).toNat < S16384.size a) ∧
  (∀ (k0_h1 : k0_cond1 i = 1#1), ∀ a x, ((![v57] : Fin 1 → IVec S16 32) a x).toNat < S16384.size a)
theorem k0_idx53_inb : ∀ (i : grid0.Coords) (v57 : IVec S16 32) (k0_hw37 : k0_chk37 i v57), ∀ (k0_h1 : k0_cond1 i = 1#1), ∀ a x, ((![v57] : Fin 1 → IVec S16 32) a x).toNat < S16384.size a := fun i v57 k0_hw37 k0_h1 => k0_hw37.1 k0_h1
theorem k0_idx56_inb : ∀ (i : grid0.Coords) (v57 : IVec S16 32) (k0_hw37 : k0_chk37 i v57), ∀ (k0_h1 : k0_cond1 i = 1#1), ∀ a x, ((![v57] : Fin 1 → IVec S16 32) a x).toNat < S16384.size a := fun i v57 k0_hw37 k0_h1 => k0_hw37.2 k0_h1

def k0_chk39 (i : grid0.Coords) (v62 : IVec S16 32) : Prop :=
  (∀ (k0_h1 : k0_cond1 i = 1#1), ∀ a x, ((![v62] : Fin 1 → IVec S16 32) a x).toNat < S25200.size a) ∧
  (∀ (k0_h1 : k0_cond1 i = 1#1), ∀ a x, ((![v62] : Fin 1 → IVec S16 32) a x).toNat < S25200.size a)
theorem k0_idx57_inb : ∀ (i : grid0.Coords) (v62 : IVec S16 32) (k0_hw39 : k0_chk39 i v62), ∀ (k0_h1 : k0_cond1 i = 1#1), ∀ a x, ((![v62] : Fin 1 → IVec S16 32) a x).toNat < S25200.size a := fun i v62 k0_hw39 k0_h1 => k0_hw39.1 k0_h1
theorem k0_idx58_inb : ∀ (i : grid0.Coords) (v62 : IVec S16 32) (k0_hw39 : k0_chk39 i v62), ∀ (k0_h1 : k0_cond1 i = 1#1), ∀ a x, ((![v62] : Fin 1 → IVec S16 32) a x).toNat < S25200.size a := fun i v62 k0_hw39 k0_h1 => k0_hw39.2 k0_h1

def k0_chk41 (i : grid0.Coords) (v72 : IVec S16 32) : Prop :=
  (∀ (k0_h1 : k0_cond1 i = 1#1), ∀ a x, ((![v72] : Fin 1 → IVec S16 32) a x).toNat < S25200.size a) ∧
  (∀ (k0_h1 : k0_cond1 i = 1#1), ∀ a x, ((![v72] : Fin 1 → IVec S16 32) a x).toNat < S25200.size a)
theorem k0_idx60_inb : ∀ (i : grid0.Coords) (v72 : IVec S16 32) (k0_hw41 : k0_chk41 i v72), ∀ (k0_h1 : k0_cond1 i = 1#1), ∀ a x, ((![v72] : Fin 1 → IVec S16 32) a x).toNat < S25200.size a := fun i v72 k0_hw41 k0_h1 => k0_hw41.1 k0_h1
theorem k0_idx61_inb : ∀ (i : grid0.Coords) (v72 : IVec S16 32) (k0_hw41 : k0_chk41 i v72), ∀ (k0_h1 : k0_cond1 i = 1#1), ∀ a x, ((![v72] : Fin 1 → IVec S16 32) a x).toNat < S25200.size a := fun i v72 k0_hw41 k0_h1 => k0_hw41.2 k0_h1

def k0_chk40 (i : grid0.Coords) (v71 : IVec S16 32) : Prop :=
  (∀ (k0_h1 : k0_cond1 i = 1#1), ∀ a x, ((![v71] : Fin 1 → IVec S16 32) a x).toNat < S16384.size a) ∧
  (∀ (k0_h1 : k0_cond1 i = 1#1), ∀ a x, ((![v71] : Fin 1 → IVec S16 32) a x).toNat < S16384.size a)
theorem k0_idx59_inb : ∀ (i : grid0.Coords) (v71 : IVec S16 32) (k0_hw40 : k0_chk40 i v71), ∀ (k0_h1 : k0_cond1 i = 1#1), ∀ a x, ((![v71] : Fin 1 → IVec S16 32) a x).toNat < S16384.size a := fun i v71 k0_hw40 k0_h1 => k0_hw40.1 k0_h1
theorem k0_idx62_inb : ∀ (i : grid0.Coords) (v71 : IVec S16 32) (k0_hw40 : k0_chk40 i v71), ∀ (k0_h1 : k0_cond1 i = 1#1), ∀ a x, ((![v71] : Fin 1 → IVec S16 32) a x).toNat < S16384.size a := fun i v71 k0_hw40 k0_h1 => k0_hw40.2 k0_h1

def k0_chk42 (i : grid0.Coords) (v76 : IVec S16 32) : Prop :=
  (∀ (k0_h1 : k0_cond1 i = 1#1), ∀ a x, ((![v76] : Fin 1 → IVec S16 32) a x).toNat < S25200.size a) ∧
  (∀ (k0_h1 : k0_cond1 i = 1#1), ∀ a x, ((![v76] : Fin 1 → IVec S16 32) a x).toNat < S25200.size a)
theorem k0_idx63_inb : ∀ (i : grid0.Coords) (v76 : IVec S16 32) (k0_hw42 : k0_chk42 i v76), ∀ (k0_h1 : k0_cond1 i = 1#1), ∀ a x, ((![v76] : Fin 1 → IVec S16 32) a x).toNat < S25200.size a := fun i v76 k0_hw42 k0_h1 => k0_hw42.1 k0_h1
theorem k0_idx64_inb : ∀ (i : grid0.Coords) (v76 : IVec S16 32) (k0_hw42 : k0_chk42 i v76), ∀ (k0_h1 : k0_cond1 i = 1#1), ∀ a x, ((![v76] : Fin 1 → IVec S16 32) a x).toNat < S25200.size a := fun i v76 k0_hw42 k0_h1 => k0_hw42.2 k0_h1

def k0_chk44 (i : grid0.Coords) (v86 : IVec S16 32) : Prop :=
  (∀ (k0_h1 : k0_cond1 i = 1#1), ∀ a x, ((![v86] : Fin 1 → IVec S16 32) a x).toNat < S25200.size a) ∧
  (∀ (k0_h1 : k0_cond1 i = 1#1), ∀ a x, ((![v86] : Fin 1 → IVec S16 32) a x).toNat < S25200.size a)
theorem k0_idx66_inb : ∀ (i : grid0.Coords) (v86 : IVec S16 32) (k0_hw44 : k0_chk44 i v86), ∀ (k0_h1 : k0_cond1 i = 1#1), ∀ a x, ((![v86] : Fin 1 → IVec S16 32) a x).toNat < S25200.size a := fun i v86 k0_hw44 k0_h1 => k0_hw44.1 k0_h1
theorem k0_idx67_inb : ∀ (i : grid0.Coords) (v86 : IVec S16 32) (k0_hw44 : k0_chk44 i v86), ∀ (k0_h1 : k0_cond1 i = 1#1), ∀ a x, ((![v86] : Fin 1 → IVec S16 32) a x).toNat < S25200.size a := fun i v86 k0_hw44 k0_h1 => k0_hw44.2 k0_h1

def k0_chk43 (i : grid0.Coords) (v85 : IVec S16 32) : Prop :=
  (∀ (k0_h1 : k0_cond1 i = 1#1), ∀ a x, ((![v85] : Fin 1 → IVec S16 32) a x).toNat < S16384.size a) ∧
  (∀ (k0_h1 : k0_cond1 i = 1#1), ∀ a x, ((![v85] : Fin 1 → IVec S16 32) a x).toNat < S16384.size a)
theorem k0_idx65_inb : ∀ (i : grid0.Coords) (v85 : IVec S16 32) (k0_hw43 : k0_chk43 i v85), ∀ (k0_h1 : k0_cond1 i = 1#1), ∀ a x, ((![v85] : Fin 1 → IVec S16 32) a x).toNat < S16384.size a := fun i v85 k0_hw43 k0_h1 => k0_hw43.1 k0_h1
theorem k0_idx68_inb : ∀ (i : grid0.Coords) (v85 : IVec S16 32) (k0_hw43 : k0_chk43 i v85), ∀ (k0_h1 : k0_cond1 i = 1#1), ∀ a x, ((![v85] : Fin 1 → IVec S16 32) a x).toNat < S16384.size a := fun i v85 k0_hw43 k0_h1 => k0_hw43.2 k0_h1

def k0_chk45 (i : grid0.Coords) (v90 : IVec S16 32) : Prop :=
  (∀ (k0_h1 : k0_cond1 i = 1#1), ∀ a x, ((![v90] : Fin 1 → IVec S16 32) a x).toNat < S25200.size a) ∧
  (∀ (k0_h1 : k0_cond1 i = 1#1), ∀ a x, ((![v90] : Fin 1 → IVec S16 32) a x).toNat < S25200.size a)
theorem k0_idx69_inb : ∀ (i : grid0.Coords) (v90 : IVec S16 32) (k0_hw45 : k0_chk45 i v90), ∀ (k0_h1 : k0_cond1 i = 1#1), ∀ a x, ((![v90] : Fin 1 → IVec S16 32) a x).toNat < S25200.size a := fun i v90 k0_hw45 k0_h1 => k0_hw45.1 k0_h1
theorem k0_idx70_inb : ∀ (i : grid0.Coords) (v90 : IVec S16 32) (k0_hw45 : k0_chk45 i v90), ∀ (k0_h1 : k0_cond1 i = 1#1), ∀ a x, ((![v90] : Fin 1 → IVec S16 32) a x).toNat < S25200.size a := fun i v90 k0_hw45 k0_h1 => k0_hw45.2 k0_h1

def k0_chk47 (i : grid0.Coords) (v100 : IVec S16 32) : Prop :=
  (∀ (k0_h1 : k0_cond1 i = 1#1), ∀ a x, ((![v100] : Fin 1 → IVec S16 32) a x).toNat < S25200.size a) ∧
  (∀ (k0_h1 : k0_cond1 i = 1#1), ∀ a x, ((![v100] : Fin 1 → IVec S16 32) a x).toNat < S25200.size a)
theorem k0_idx72_inb : ∀ (i : grid0.Coords) (v100 : IVec S16 32) (k0_hw47 : k0_chk47 i v100), ∀ (k0_h1 : k0_cond1 i = 1#1), ∀ a x, ((![v100] : Fin 1 → IVec S16 32) a x).toNat < S25200.size a := fun i v100 k0_hw47 k0_h1 => k0_hw47.1 k0_h1
theorem k0_idx73_inb : ∀ (i : grid0.Coords) (v100 : IVec S16 32) (k0_hw47 : k0_chk47 i v100), ∀ (k0_h1 : k0_cond1 i = 1#1), ∀ a x, ((![v100] : Fin 1 → IVec S16 32) a x).toNat < S25200.size a := fun i v100 k0_hw47 k0_h1 => k0_hw47.2 k0_h1

def k0_chk46 (i : grid0.Coords) (v99 : IVec S16 32) : Prop :=
  (∀ (k0_h1 : k0_cond1 i = 1#1), ∀ a x, ((![v99] : Fin 1 → IVec S16 32) a x).toNat < S16384.size a) ∧
  (∀ (k0_h1 : k0_cond1 i = 1#1), ∀ a x, ((![v99] : Fin 1 → IVec S16 32) a x).toNat < S16384.size a)
theorem k0_idx71_inb : ∀ (i : grid0.Coords) (v99 : IVec S16 32) (k0_hw46 : k0_chk46 i v99), ∀ (k0_h1 : k0_cond1 i = 1#1), ∀ a x, ((![v99] : Fin 1 → IVec S16 32) a x).toNat < S16384.size a := fun i v99 k0_hw46 k0_h1 => k0_hw46.1 k0_h1
theorem k0_idx74_inb : ∀ (i : grid0.Coords) (v99 : IVec S16 32) (k0_hw46 : k0_chk46 i v99), ∀ (k0_h1 : k0_cond1 i = 1#1), ∀ a x, ((![v99] : Fin 1 → IVec S16 32) a x).toNat < S16384.size a := fun i v99 k0_hw46 k0_h1 => k0_hw46.2 k0_h1

def k0_chk48 (i : grid0.Coords) (v104 : IVec S16 32) : Prop :=
  (∀ (k0_h1 : k0_cond1 i = 1#1), ∀ a x, ((![v104] : Fin 1 → IVec S16 32) a x).toNat < S25200.size a) ∧
  (∀ (k0_h1 : k0_cond1 i = 1#1), ∀ a x, ((![v104] : Fin 1 → IVec S16 32) a x).toNat < S25200.size a)
theorem k0_idx75_inb : ∀ (i : grid0.Coords) (v104 : IVec S16 32) (k0_hw48 : k0_chk48 i v104), ∀ (k0_h1 : k0_cond1 i = 1#1), ∀ a x, ((![v104] : Fin 1 → IVec S16 32) a x).toNat < S25200.size a := fun i v104 k0_hw48 k0_h1 => k0_hw48.1 k0_h1
theorem k0_idx76_inb : ∀ (i : grid0.Coords) (v104 : IVec S16 32) (k0_hw48 : k0_chk48 i v104), ∀ (k0_h1 : k0_cond1 i = 1#1), ∀ a x, ((![v104] : Fin 1 → IVec S16 32) a x).toNat < S25200.size a := fun i v104 k0_hw48 k0_h1 => k0_hw48.2 k0_h1

def k0_chk50 (i : grid0.Coords) (v114 : IVec S16 32) : Prop :=
  (∀ (k0_h1 : k0_cond1 i = 1#1), ∀ a x, ((![v114] : Fin 1 → IVec S16 32) a x).toNat < S25200.size a) ∧
  (∀ (k0_h1 : k0_cond1 i = 1#1), ∀ a x, ((![v114] : Fin 1 → IVec S16 32) a x).toNat < S25200.size a)
theorem k0_idx78_inb : ∀ (i : grid0.Coords) (v114 : IVec S16 32) (k0_hw50 : k0_chk50 i v114), ∀ (k0_h1 : k0_cond1 i = 1#1), ∀ a x, ((![v114] : Fin 1 → IVec S16 32) a x).toNat < S25200.size a := fun i v114 k0_hw50 k0_h1 => k0_hw50.1 k0_h1
theorem k0_idx79_inb : ∀ (i : grid0.Coords) (v114 : IVec S16 32) (k0_hw50 : k0_chk50 i v114), ∀ (k0_h1 : k0_cond1 i = 1#1), ∀ a x, ((![v114] : Fin 1 → IVec S16 32) a x).toNat < S25200.size a := fun i v114 k0_hw50 k0_h1 => k0_hw50.2 k0_h1

def k0_chk49 (i : grid0.Coords) (v113 : IVec S16 32) : Prop :=
  (∀ (k0_h1 : k0_cond1 i = 1#1), ∀ a x, ((![v113] : Fin 1 → IVec S16 32) a x).toNat < S16384.size a) ∧
  (∀ (k0_h1 : k0_cond1 i = 1#1), ∀ a x, ((![v113] : Fin 1 → IVec S16 32) a x).toNat < S16384.size a)
theorem k0_idx77_inb : ∀ (i : grid0.Coords) (v113 : IVec S16 32) (k0_hw49 : k0_chk49 i v113), ∀ (k0_h1 : k0_cond1 i = 1#1), ∀ a x, ((![v113] : Fin 1 → IVec S16 32) a x).toNat < S16384.size a := fun i v113 k0_hw49 k0_h1 => k0_hw49.1 k0_h1
theorem k0_idx80_inb : ∀ (i : grid0.Coords) (v113 : IVec S16 32) (k0_hw49 : k0_chk49 i v113), ∀ (k0_h1 : k0_cond1 i = 1#1), ∀ a x, ((![v113] : Fin 1 → IVec S16 32) a x).toNat < S16384.size a := fun i v113 k0_hw49 k0_h1 => k0_hw49.2 k0_h1
@[reducible] def k0_t10_loop : Scf.Loop 32 :=
  let c0_i32_45 : BitVec 32 := 0#32
  let c256_i32_46 : BitVec 32 := 256#32
  let v29 : BitVec 32 := Scalar.addi c0_i32_45 c256_i32_46
  let c1_i32_47 : BitVec 32 := 1#32
  ⟨c0_i32_45, v29, c1_i32_47⟩
def k0_off7 (k0_t10 : Fin k0_t10_loop.trips) (c0_i32_79 : BitVec 32) : Fin 1 → Nat :=
  let c0_i32_45 : BitVec 32 := 0#32
  let c1_i32_47 : BitVec 32 := 1#32
  let arg10 : BitVec 32 := Scf.iv c0_i32_45 c1_i32_47 k0_t10
  let c4_i32 : BitVec 32 := 4#32
  let v45 : BitVec 32 := Scalar.muli arg10 c4_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t11_loop : Scf.Loop 32 :=
  let c0_i32_50 : BitVec 32 := 0#32
  let c315_i32_51 : BitVec 32 := 315#32
  let v31 : BitVec 32 := Scalar.addi c0_i32_50 c315_i32_51
  let c1_i32_52 : BitVec 32 := 1#32
  ⟨c0_i32_50, v31, c1_i32_52⟩

def k0_chk51 (i : grid0.Coords) (v48 : IVec S16 32) : Prop :=
  (∀ (k0_h1 : k0_cond1 i = 1#1), ∀ a x, ((![v48] : Fin 1 → IVec S16 32) a x).toNat < S25200.size a)
theorem k0_idx81_inb : ∀ (i : grid0.Coords) (v48 : IVec S16 32) (k0_hw51 : k0_chk51 i v48), ∀ (k0_h1 : k0_cond1 i = 1#1), ∀ a x, ((![v48] : Fin 1 → IVec S16 32) a x).toNat < S25200.size a := fun i v48 k0_hw51 k0_h1 => k0_hw51 k0_h1

def k0_chk52 (i : grid0.Coords) (v56 : IVec S16 32) : Prop :=
  (∀ (k0_h1 : k0_cond1 i = 1#1), ∀ a x, ((![v56] : Fin 1 → IVec S16 32) a x).toNat < S16384.size a)
theorem k0_idx82_inb : ∀ (i : grid0.Coords) (v56 : IVec S16 32) (k0_hw52 : k0_chk52 i v56), ∀ (k0_h1 : k0_cond1 i = 1#1), ∀ a x, ((![v56] : Fin 1 → IVec S16 32) a x).toNat < S16384.size a := fun i v56 k0_hw52 k0_h1 => k0_hw52 k0_h1

def k0_chk53 (i : grid0.Coords) (v60 : IVec S16 32) : Prop :=
  (∀ (k0_h1 : k0_cond1 i = 1#1), ∀ a x, ((![v60] : Fin 1 → IVec S16 32) a x).toNat < S25200.size a)
theorem k0_idx83_inb : ∀ (i : grid0.Coords) (v60 : IVec S16 32) (k0_hw53 : k0_chk53 i v60), ∀ (k0_h1 : k0_cond1 i = 1#1), ∀ a x, ((![v60] : Fin 1 → IVec S16 32) a x).toNat < S25200.size a := fun i v60 k0_hw53 k0_h1 => k0_hw53 k0_h1

def k0_chk54 (i : grid0.Coords) (v68 : IVec S16 32) : Prop :=
  (∀ (k0_h1 : k0_cond1 i = 1#1), ∀ a x, ((![v68] : Fin 1 → IVec S16 32) a x).toNat < S16384.size a)
theorem k0_idx84_inb : ∀ (i : grid0.Coords) (v68 : IVec S16 32) (k0_hw54 : k0_chk54 i v68), ∀ (k0_h1 : k0_cond1 i = 1#1), ∀ a x, ((![v68] : Fin 1 → IVec S16 32) a x).toNat < S16384.size a := fun i v68 k0_hw54 k0_h1 => k0_hw54 k0_h1

def k0_chk55 (i : grid0.Coords) (v72 : IVec S16 32) : Prop :=
  (∀ (k0_h1 : k0_cond1 i = 1#1), ∀ a x, ((![v72] : Fin 1 → IVec S16 32) a x).toNat < S25200.size a)
theorem k0_idx85_inb : ∀ (i : grid0.Coords) (v72 : IVec S16 32) (k0_hw55 : k0_chk55 i v72), ∀ (k0_h1 : k0_cond1 i = 1#1), ∀ a x, ((![v72] : Fin 1 → IVec S16 32) a x).toNat < S25200.size a := fun i v72 k0_hw55 k0_h1 => k0_hw55 k0_h1

def k0_chk56 (i : grid0.Coords) (v80 : IVec S16 32) : Prop :=
  (∀ (k0_h1 : k0_cond1 i = 1#1), ∀ a x, ((![v80] : Fin 1 → IVec S16 32) a x).toNat < S16384.size a)
theorem k0_idx86_inb : ∀ (i : grid0.Coords) (v80 : IVec S16 32) (k0_hw56 : k0_chk56 i v80), ∀ (k0_h1 : k0_cond1 i = 1#1), ∀ a x, ((![v80] : Fin 1 → IVec S16 32) a x).toNat < S16384.size a := fun i v80 k0_hw56 k0_h1 => k0_hw56 k0_h1

def k0_chk57 (i : grid0.Coords) (v84 : IVec S16 32) : Prop :=
  (∀ (k0_h1 : k0_cond1 i = 1#1), ∀ a x, ((![v84] : Fin 1 → IVec S16 32) a x).toNat < S25200.size a)
theorem k0_idx87_inb : ∀ (i : grid0.Coords) (v84 : IVec S16 32) (k0_hw57 : k0_chk57 i v84), ∀ (k0_h1 : k0_cond1 i = 1#1), ∀ a x, ((![v84] : Fin 1 → IVec S16 32) a x).toNat < S25200.size a := fun i v84 k0_hw57 k0_h1 => k0_hw57 k0_h1

def k0_chk58 (i : grid0.Coords) (v92 : IVec S16 32) : Prop :=
  (∀ (k0_h1 : k0_cond1 i = 1#1), ∀ a x, ((![v92] : Fin 1 → IVec S16 32) a x).toNat < S16384.size a)
theorem k0_idx88_inb : ∀ (i : grid0.Coords) (v92 : IVec S16 32) (k0_hw58 : k0_chk58 i v92), ∀ (k0_h1 : k0_cond1 i = 1#1), ∀ a x, ((![v92] : Fin 1 → IVec S16 32) a x).toNat < S16384.size a := fun i v92 k0_hw58 k0_h1 => k0_hw58 k0_h1

def k0_chk59 (i : grid0.Coords) (v96 : IVec S16 32) : Prop :=
  (∀ (k0_h1 : k0_cond1 i = 1#1), ∀ a x, ((![v96] : Fin 1 → IVec S16 32) a x).toNat < S25200.size a)
theorem k0_idx89_inb : ∀ (i : grid0.Coords) (v96 : IVec S16 32) (k0_hw59 : k0_chk59 i v96), ∀ (k0_h1 : k0_cond1 i = 1#1), ∀ a x, ((![v96] : Fin 1 → IVec S16 32) a x).toNat < S25200.size a := fun i v96 k0_hw59 k0_h1 => k0_hw59 k0_h1

def k0_chk60 (i : grid0.Coords) (v104 : IVec S16 32) : Prop :=
  (∀ (k0_h1 : k0_cond1 i = 1#1), ∀ a x, ((![v104] : Fin 1 → IVec S16 32) a x).toNat < S16384.size a)
theorem k0_idx90_inb : ∀ (i : grid0.Coords) (v104 : IVec S16 32) (k0_hw60 : k0_chk60 i v104), ∀ (k0_h1 : k0_cond1 i = 1#1), ∀ a x, ((![v104] : Fin 1 → IVec S16 32) a x).toNat < S16384.size a := fun i v104 k0_hw60 k0_h1 => k0_hw60 k0_h1
@[reducible] def k0_t12_loop : Scf.Loop 32 :=
  let c0_i32_55 : BitVec 32 := 0#32
  let c256_i32_56 : BitVec 32 := 256#32
  let v33 : BitVec 32 := Scalar.addi c0_i32_55 c256_i32_56
  let c1_i32_57 : BitVec 32 := 1#32
  ⟨c0_i32_55, v33, c1_i32_57⟩
def k0_off8 (k0_t12 : Fin k0_t12_loop.trips) (c0_i32_79 : BitVec 32) : Fin 1 → Nat :=
  let c0_i32_55 : BitVec 32 := 0#32
  let c1_i32_57 : BitVec 32 := 1#32
  let arg10 : BitVec 32 := Scf.iv c0_i32_55 c1_i32_57 k0_t12
  let c4_i32 : BitVec 32 := 4#32
  let v45 : BitVec 32 := Scalar.muli arg10 c4_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t13_loop : Scf.Loop 32 :=
  let c0_i32_60 : BitVec 32 := 0#32
  let c315_i32_61 : BitVec 32 := 315#32
  let v35 : BitVec 32 := Scalar.addi c0_i32_60 c315_i32_61
  let c1_i32_62 : BitVec 32 := 1#32
  ⟨c0_i32_60, v35, c1_i32_62⟩

def k0_chk61 (i : grid0.Coords) (v48 : IVec S16 32) : Prop :=
  (∀ (k0_h1 : k0_cond1 i = 1#1), ∀ a x, ((![v48] : Fin 1 → IVec S16 32) a x).toNat < S25200.size a) ∧
  (∀ (k0_h1 : k0_cond1 i = 1#1), ∀ a x, ((![v48] : Fin 1 → IVec S16 32) a x).toNat < S25200.size a)
theorem k0_idx91_inb : ∀ (i : grid0.Coords) (v48 : IVec S16 32) (k0_hw61 : k0_chk61 i v48), ∀ (k0_h1 : k0_cond1 i = 1#1), ∀ a x, ((![v48] : Fin 1 → IVec S16 32) a x).toNat < S25200.size a := fun i v48 k0_hw61 k0_h1 => k0_hw61.1 k0_h1
theorem k0_idx92_inb : ∀ (i : grid0.Coords) (v48 : IVec S16 32) (k0_hw61 : k0_chk61 i v48), ∀ (k0_h1 : k0_cond1 i = 1#1), ∀ a x, ((![v48] : Fin 1 → IVec S16 32) a x).toNat < S25200.size a := fun i v48 k0_hw61 k0_h1 => k0_hw61.2 k0_h1

def k0_chk63 (i : grid0.Coords) (v58 : IVec S16 32) : Prop :=
  (∀ (k0_h1 : k0_cond1 i = 1#1), ∀ a x, ((![v58] : Fin 1 → IVec S16 32) a x).toNat < S25200.size a) ∧
  (∀ (k0_h1 : k0_cond1 i = 1#1), ∀ a x, ((![v58] : Fin 1 → IVec S16 32) a x).toNat < S25200.size a)
theorem k0_idx94_inb : ∀ (i : grid0.Coords) (v58 : IVec S16 32) (k0_hw63 : k0_chk63 i v58), ∀ (k0_h1 : k0_cond1 i = 1#1), ∀ a x, ((![v58] : Fin 1 → IVec S16 32) a x).toNat < S25200.size a := fun i v58 k0_hw63 k0_h1 => k0_hw63.1 k0_h1
theorem k0_idx95_inb : ∀ (i : grid0.Coords) (v58 : IVec S16 32) (k0_hw63 : k0_chk63 i v58), ∀ (k0_h1 : k0_cond1 i = 1#1), ∀ a x, ((![v58] : Fin 1 → IVec S16 32) a x).toNat < S25200.size a := fun i v58 k0_hw63 k0_h1 => k0_hw63.2 k0_h1

def k0_chk62 (i : grid0.Coords) (v57 : IVec S16 32) : Prop :=
  (∀ (k0_h1 : k0_cond1 i = 1#1), ∀ a x, ((![v57] : Fin 1 → IVec S16 32) a x).toNat < S16384.size a) ∧
  (∀ (k0_h1 : k0_cond1 i = 1#1), ∀ a x, ((![v57] : Fin 1 → IVec S16 32) a x).toNat < S16384.size a)
theorem k0_idx93_inb : ∀ (i : grid0.Coords) (v57 : IVec S16 32) (k0_hw62 : k0_chk62 i v57), ∀ (k0_h1 : k0_cond1 i = 1#1), ∀ a x, ((![v57] : Fin 1 → IVec S16 32) a x).toNat < S16384.size a := fun i v57 k0_hw62 k0_h1 => k0_hw62.1 k0_h1
theorem k0_idx96_inb : ∀ (i : grid0.Coords) (v57 : IVec S16 32) (k0_hw62 : k0_chk62 i v57), ∀ (k0_h1 : k0_cond1 i = 1#1), ∀ a x, ((![v57] : Fin 1 → IVec S16 32) a x).toNat < S16384.size a := fun i v57 k0_hw62 k0_h1 => k0_hw62.2 k0_h1

def k0_chk64 (i : grid0.Coords) (v62 : IVec S16 32) : Prop :=
  (∀ (k0_h1 : k0_cond1 i = 1#1), ∀ a x, ((![v62] : Fin 1 → IVec S16 32) a x).toNat < S25200.size a) ∧
  (∀ (k0_h1 : k0_cond1 i = 1#1), ∀ a x, ((![v62] : Fin 1 → IVec S16 32) a x).toNat < S25200.size a)
theorem k0_idx97_inb : ∀ (i : grid0.Coords) (v62 : IVec S16 32) (k0_hw64 : k0_chk64 i v62), ∀ (k0_h1 : k0_cond1 i = 1#1), ∀ a x, ((![v62] : Fin 1 → IVec S16 32) a x).toNat < S25200.size a := fun i v62 k0_hw64 k0_h1 => k0_hw64.1 k0_h1
theorem k0_idx98_inb : ∀ (i : grid0.Coords) (v62 : IVec S16 32) (k0_hw64 : k0_chk64 i v62), ∀ (k0_h1 : k0_cond1 i = 1#1), ∀ a x, ((![v62] : Fin 1 → IVec S16 32) a x).toNat < S25200.size a := fun i v62 k0_hw64 k0_h1 => k0_hw64.2 k0_h1

def k0_chk66 (i : grid0.Coords) (v72 : IVec S16 32) : Prop :=
  (∀ (k0_h1 : k0_cond1 i = 1#1), ∀ a x, ((![v72] : Fin 1 → IVec S16 32) a x).toNat < S25200.size a) ∧
  (∀ (k0_h1 : k0_cond1 i = 1#1), ∀ a x, ((![v72] : Fin 1 → IVec S16 32) a x).toNat < S25200.size a)
theorem k0_idx100_inb : ∀ (i : grid0.Coords) (v72 : IVec S16 32) (k0_hw66 : k0_chk66 i v72), ∀ (k0_h1 : k0_cond1 i = 1#1), ∀ a x, ((![v72] : Fin 1 → IVec S16 32) a x).toNat < S25200.size a := fun i v72 k0_hw66 k0_h1 => k0_hw66.1 k0_h1
theorem k0_idx101_inb : ∀ (i : grid0.Coords) (v72 : IVec S16 32) (k0_hw66 : k0_chk66 i v72), ∀ (k0_h1 : k0_cond1 i = 1#1), ∀ a x, ((![v72] : Fin 1 → IVec S16 32) a x).toNat < S25200.size a := fun i v72 k0_hw66 k0_h1 => k0_hw66.2 k0_h1

def k0_chk65 (i : grid0.Coords) (v71 : IVec S16 32) : Prop :=
  (∀ (k0_h1 : k0_cond1 i = 1#1), ∀ a x, ((![v71] : Fin 1 → IVec S16 32) a x).toNat < S16384.size a) ∧
  (∀ (k0_h1 : k0_cond1 i = 1#1), ∀ a x, ((![v71] : Fin 1 → IVec S16 32) a x).toNat < S16384.size a)
theorem k0_idx99_inb : ∀ (i : grid0.Coords) (v71 : IVec S16 32) (k0_hw65 : k0_chk65 i v71), ∀ (k0_h1 : k0_cond1 i = 1#1), ∀ a x, ((![v71] : Fin 1 → IVec S16 32) a x).toNat < S16384.size a := fun i v71 k0_hw65 k0_h1 => k0_hw65.1 k0_h1
theorem k0_idx102_inb : ∀ (i : grid0.Coords) (v71 : IVec S16 32) (k0_hw65 : k0_chk65 i v71), ∀ (k0_h1 : k0_cond1 i = 1#1), ∀ a x, ((![v71] : Fin 1 → IVec S16 32) a x).toNat < S16384.size a := fun i v71 k0_hw65 k0_h1 => k0_hw65.2 k0_h1

def k0_chk67 (i : grid0.Coords) (v76 : IVec S16 32) : Prop :=
  (∀ (k0_h1 : k0_cond1 i = 1#1), ∀ a x, ((![v76] : Fin 1 → IVec S16 32) a x).toNat < S25200.size a) ∧
  (∀ (k0_h1 : k0_cond1 i = 1#1), ∀ a x, ((![v76] : Fin 1 → IVec S16 32) a x).toNat < S25200.size a)
theorem k0_idx103_inb : ∀ (i : grid0.Coords) (v76 : IVec S16 32) (k0_hw67 : k0_chk67 i v76), ∀ (k0_h1 : k0_cond1 i = 1#1), ∀ a x, ((![v76] : Fin 1 → IVec S16 32) a x).toNat < S25200.size a := fun i v76 k0_hw67 k0_h1 => k0_hw67.1 k0_h1
theorem k0_idx104_inb : ∀ (i : grid0.Coords) (v76 : IVec S16 32) (k0_hw67 : k0_chk67 i v76), ∀ (k0_h1 : k0_cond1 i = 1#1), ∀ a x, ((![v76] : Fin 1 → IVec S16 32) a x).toNat < S25200.size a := fun i v76 k0_hw67 k0_h1 => k0_hw67.2 k0_h1

def k0_chk69 (i : grid0.Coords) (v86 : IVec S16 32) : Prop :=
  (∀ (k0_h1 : k0_cond1 i = 1#1), ∀ a x, ((![v86] : Fin 1 → IVec S16 32) a x).toNat < S25200.size a) ∧
  (∀ (k0_h1 : k0_cond1 i = 1#1), ∀ a x, ((![v86] : Fin 1 → IVec S16 32) a x).toNat < S25200.size a)
theorem k0_idx106_inb : ∀ (i : grid0.Coords) (v86 : IVec S16 32) (k0_hw69 : k0_chk69 i v86), ∀ (k0_h1 : k0_cond1 i = 1#1), ∀ a x, ((![v86] : Fin 1 → IVec S16 32) a x).toNat < S25200.size a := fun i v86 k0_hw69 k0_h1 => k0_hw69.1 k0_h1
theorem k0_idx107_inb : ∀ (i : grid0.Coords) (v86 : IVec S16 32) (k0_hw69 : k0_chk69 i v86), ∀ (k0_h1 : k0_cond1 i = 1#1), ∀ a x, ((![v86] : Fin 1 → IVec S16 32) a x).toNat < S25200.size a := fun i v86 k0_hw69 k0_h1 => k0_hw69.2 k0_h1

def k0_chk68 (i : grid0.Coords) (v85 : IVec S16 32) : Prop :=
  (∀ (k0_h1 : k0_cond1 i = 1#1), ∀ a x, ((![v85] : Fin 1 → IVec S16 32) a x).toNat < S16384.size a) ∧
  (∀ (k0_h1 : k0_cond1 i = 1#1), ∀ a x, ((![v85] : Fin 1 → IVec S16 32) a x).toNat < S16384.size a)
theorem k0_idx105_inb : ∀ (i : grid0.Coords) (v85 : IVec S16 32) (k0_hw68 : k0_chk68 i v85), ∀ (k0_h1 : k0_cond1 i = 1#1), ∀ a x, ((![v85] : Fin 1 → IVec S16 32) a x).toNat < S16384.size a := fun i v85 k0_hw68 k0_h1 => k0_hw68.1 k0_h1
theorem k0_idx108_inb : ∀ (i : grid0.Coords) (v85 : IVec S16 32) (k0_hw68 : k0_chk68 i v85), ∀ (k0_h1 : k0_cond1 i = 1#1), ∀ a x, ((![v85] : Fin 1 → IVec S16 32) a x).toNat < S16384.size a := fun i v85 k0_hw68 k0_h1 => k0_hw68.2 k0_h1

def k0_chk70 (i : grid0.Coords) (v90 : IVec S16 32) : Prop :=
  (∀ (k0_h1 : k0_cond1 i = 1#1), ∀ a x, ((![v90] : Fin 1 → IVec S16 32) a x).toNat < S25200.size a) ∧
  (∀ (k0_h1 : k0_cond1 i = 1#1), ∀ a x, ((![v90] : Fin 1 → IVec S16 32) a x).toNat < S25200.size a)
theorem k0_idx109_inb : ∀ (i : grid0.Coords) (v90 : IVec S16 32) (k0_hw70 : k0_chk70 i v90), ∀ (k0_h1 : k0_cond1 i = 1#1), ∀ a x, ((![v90] : Fin 1 → IVec S16 32) a x).toNat < S25200.size a := fun i v90 k0_hw70 k0_h1 => k0_hw70.1 k0_h1
theorem k0_idx110_inb : ∀ (i : grid0.Coords) (v90 : IVec S16 32) (k0_hw70 : k0_chk70 i v90), ∀ (k0_h1 : k0_cond1 i = 1#1), ∀ a x, ((![v90] : Fin 1 → IVec S16 32) a x).toNat < S25200.size a := fun i v90 k0_hw70 k0_h1 => k0_hw70.2 k0_h1

def k0_chk72 (i : grid0.Coords) (v100 : IVec S16 32) : Prop :=
  (∀ (k0_h1 : k0_cond1 i = 1#1), ∀ a x, ((![v100] : Fin 1 → IVec S16 32) a x).toNat < S25200.size a) ∧
  (∀ (k0_h1 : k0_cond1 i = 1#1), ∀ a x, ((![v100] : Fin 1 → IVec S16 32) a x).toNat < S25200.size a)
theorem k0_idx112_inb : ∀ (i : grid0.Coords) (v100 : IVec S16 32) (k0_hw72 : k0_chk72 i v100), ∀ (k0_h1 : k0_cond1 i = 1#1), ∀ a x, ((![v100] : Fin 1 → IVec S16 32) a x).toNat < S25200.size a := fun i v100 k0_hw72 k0_h1 => k0_hw72.1 k0_h1
theorem k0_idx113_inb : ∀ (i : grid0.Coords) (v100 : IVec S16 32) (k0_hw72 : k0_chk72 i v100), ∀ (k0_h1 : k0_cond1 i = 1#1), ∀ a x, ((![v100] : Fin 1 → IVec S16 32) a x).toNat < S25200.size a := fun i v100 k0_hw72 k0_h1 => k0_hw72.2 k0_h1

def k0_chk71 (i : grid0.Coords) (v99 : IVec S16 32) : Prop :=
  (∀ (k0_h1 : k0_cond1 i = 1#1), ∀ a x, ((![v99] : Fin 1 → IVec S16 32) a x).toNat < S16384.size a) ∧
  (∀ (k0_h1 : k0_cond1 i = 1#1), ∀ a x, ((![v99] : Fin 1 → IVec S16 32) a x).toNat < S16384.size a)
theorem k0_idx111_inb : ∀ (i : grid0.Coords) (v99 : IVec S16 32) (k0_hw71 : k0_chk71 i v99), ∀ (k0_h1 : k0_cond1 i = 1#1), ∀ a x, ((![v99] : Fin 1 → IVec S16 32) a x).toNat < S16384.size a := fun i v99 k0_hw71 k0_h1 => k0_hw71.1 k0_h1
theorem k0_idx114_inb : ∀ (i : grid0.Coords) (v99 : IVec S16 32) (k0_hw71 : k0_chk71 i v99), ∀ (k0_h1 : k0_cond1 i = 1#1), ∀ a x, ((![v99] : Fin 1 → IVec S16 32) a x).toNat < S16384.size a := fun i v99 k0_hw71 k0_h1 => k0_hw71.2 k0_h1

def k0_chk73 (i : grid0.Coords) (v104 : IVec S16 32) : Prop :=
  (∀ (k0_h1 : k0_cond1 i = 1#1), ∀ a x, ((![v104] : Fin 1 → IVec S16 32) a x).toNat < S25200.size a) ∧
  (∀ (k0_h1 : k0_cond1 i = 1#1), ∀ a x, ((![v104] : Fin 1 → IVec S16 32) a x).toNat < S25200.size a)
theorem k0_idx115_inb : ∀ (i : grid0.Coords) (v104 : IVec S16 32) (k0_hw73 : k0_chk73 i v104), ∀ (k0_h1 : k0_cond1 i = 1#1), ∀ a x, ((![v104] : Fin 1 → IVec S16 32) a x).toNat < S25200.size a := fun i v104 k0_hw73 k0_h1 => k0_hw73.1 k0_h1
theorem k0_idx116_inb : ∀ (i : grid0.Coords) (v104 : IVec S16 32) (k0_hw73 : k0_chk73 i v104), ∀ (k0_h1 : k0_cond1 i = 1#1), ∀ a x, ((![v104] : Fin 1 → IVec S16 32) a x).toNat < S25200.size a := fun i v104 k0_hw73 k0_h1 => k0_hw73.2 k0_h1

def k0_chk75 (i : grid0.Coords) (v114 : IVec S16 32) : Prop :=
  (∀ (k0_h1 : k0_cond1 i = 1#1), ∀ a x, ((![v114] : Fin 1 → IVec S16 32) a x).toNat < S25200.size a) ∧
  (∀ (k0_h1 : k0_cond1 i = 1#1), ∀ a x, ((![v114] : Fin 1 → IVec S16 32) a x).toNat < S25200.size a)
theorem k0_idx118_inb : ∀ (i : grid0.Coords) (v114 : IVec S16 32) (k0_hw75 : k0_chk75 i v114), ∀ (k0_h1 : k0_cond1 i = 1#1), ∀ a x, ((![v114] : Fin 1 → IVec S16 32) a x).toNat < S25200.size a := fun i v114 k0_hw75 k0_h1 => k0_hw75.1 k0_h1
theorem k0_idx119_inb : ∀ (i : grid0.Coords) (v114 : IVec S16 32) (k0_hw75 : k0_chk75 i v114), ∀ (k0_h1 : k0_cond1 i = 1#1), ∀ a x, ((![v114] : Fin 1 → IVec S16 32) a x).toNat < S25200.size a := fun i v114 k0_hw75 k0_h1 => k0_hw75.2 k0_h1

def k0_chk74 (i : grid0.Coords) (v113 : IVec S16 32) : Prop :=
  (∀ (k0_h1 : k0_cond1 i = 1#1), ∀ a x, ((![v113] : Fin 1 → IVec S16 32) a x).toNat < S16384.size a) ∧
  (∀ (k0_h1 : k0_cond1 i = 1#1), ∀ a x, ((![v113] : Fin 1 → IVec S16 32) a x).toNat < S16384.size a)
theorem k0_idx117_inb : ∀ (i : grid0.Coords) (v113 : IVec S16 32) (k0_hw74 : k0_chk74 i v113), ∀ (k0_h1 : k0_cond1 i = 1#1), ∀ a x, ((![v113] : Fin 1 → IVec S16 32) a x).toNat < S16384.size a := fun i v113 k0_hw74 k0_h1 => k0_hw74.1 k0_h1
theorem k0_idx120_inb : ∀ (i : grid0.Coords) (v113 : IVec S16 32) (k0_hw74 : k0_chk74 i v113), ∀ (k0_h1 : k0_cond1 i = 1#1), ∀ a x, ((![v113] : Fin 1 → IVec S16 32) a x).toNat < S16384.size a := fun i v113 k0_hw74 k0_h1 => k0_hw74.2 k0_h1
@[reducible] def k0_t14_loop : Scf.Loop 32 :=
  let c0_i32_65 : BitVec 32 := 0#32
  let c63_i32 : BitVec 32 := 63#32
  let v37 : BitVec 32 := Scalar.addi c0_i32_65 c63_i32
  let c1_i32_66 : BitVec 32 := 1#32
  ⟨c0_i32_65, v37, c1_i32_66⟩
def k0_off9 (k0_t14 : Fin k0_t14_loop.trips) (c0_i32_79 : BitVec 32) : Fin 1 → Nat :=
  let c0_i32_65 : BitVec 32 := 0#32
  let c1_i32_66 : BitVec 32 := 1#32
  let arg10 : BitVec 32 := Scf.iv c0_i32_65 c1_i32_66 k0_t14
  let c5_i32 : BitVec 32 := 5#32
  let v45 : BitVec 32 := Scalar.muli arg10 c5_i32
  let v46 : BitVec 32 := Scalar.addi v45 c0_i32_79
  let c16_i32 : BitVec 32 := 16#32
  let v47 : BitVec 32 := Scalar.muli v46 c16_i32
  let v48 : Index := Scalar.indexCast v47
  ![v48.toNat]
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5040_i32 : BitVec 32 := 5040#32
  let v39 : BitVec 32 := Scalar.muli v1 c5040_i32
  ![v39.toNat]
@[reducible] def k0_t15_loop : Scf.Loop 32 :=
  let c0_i32_69 : BitVec 32 := 0#32
  let c315_i32_70 : BitVec 32 := 315#32
  let v40 : BitVec 32 := Scalar.addi c0_i32_69 c315_i32_70
  let c1_i32_71 : BitVec 32 := 1#32
  ⟨c0_i32_69, v40, c1_i32_71⟩
def k0_off11 (k0_t15 : Fin k0_t15_loop.trips) (c0_i32_79 : BitVec 32) : Fin 1 → Nat :=
  let c0_i32_69 : BitVec 32 := 0#32
  let c1_i32_71 : BitVec 32 := 1#32
  let arg10 : BitVec 32 := Scf.iv c0_i32_69 c1_i32_71 k0_t15
  let c5_i32 : BitVec 32 := 5#32
  let v45 : BitVec 32 := Scalar.muli arg10 c5_i32
  let v46 : BitVec 32 := Scalar.addi v45 c0_i32_79
  let c16_i32 : BitVec 32 := 16#32
  let v47 : BitVec 32 := Scalar.muli v46 c16_i32
  let v48 : Index := Scalar.indexCast v47
  ![v48.toNat]
@[reducible] def k0_t16_loop : Scf.Loop 32 :=
  let c0_i32_74 : BitVec 32 := 0#32
  let c63_i32_75 : BitVec 32 := 63#32
  let v42 : BitVec 32 := Scalar.addi c0_i32_74 c63_i32_75
  let c1_i32_76 : BitVec 32 := 1#32
  ⟨c0_i32_74, v42, c1_i32_76⟩
def k0_off12 (k0_t16 : Fin k0_t16_loop.trips) : Fin 1 → Nat :=
  let c0_i32_74 : BitVec 32 := 0#32
  let c1_i32_76 : BitVec 32 := 1#32
  let arg10 : BitVec 32 := Scf.iv c0_i32_74 c1_i32_76 k0_t16
  let c5_i32 : BitVec 32 := 5#32
  let v45 : BitVec 32 := Scalar.muli arg10 c5_i32
  let c0_i32_79 : BitVec 32 := 0#32
  let v46 : BitVec 32 := Scalar.addi v45 c0_i32_79
  let c16_i32 : BitVec 32 := 16#32
  let v47 : BitVec 32 := Scalar.muli v46 c16_i32
  let v48 : Index := Scalar.indexCast v47
  ![v48.toNat]

def k0_chk76 (i : grid0.Coords) (v49 : IVec S16 32) : Prop :=
  (∀ (k0_h1 : k0_cond1 i = 1#1), ∀ a x, ((![v49] : Fin 1 → IVec S16 32) a x).toNat < S25200.size a)
theorem k0_idx121_inb : ∀ (i : grid0.Coords) (v49 : IVec S16 32) (k0_hw76 : k0_chk76 i v49), ∀ (k0_h1 : k0_cond1 i = 1#1), ∀ a x, ((![v49] : Fin 1 → IVec S16 32) a x).toNat < S25200.size a := fun i v49 k0_hw76 k0_h1 => k0_hw76 k0_h1
def k0_off13 (k0_t16 : Fin k0_t16_loop.trips) : Fin 1 → Nat :=
  let c0_i32_74 : BitVec 32 := 0#32
  let c1_i32_76 : BitVec 32 := 1#32
  let arg10 : BitVec 32 := Scf.iv c0_i32_74 c1_i32_76 k0_t16
  let c5_i32_80 : BitVec 32 := 5#32
  let v53 : BitVec 32 := Scalar.muli arg10 c5_i32_80
  let c1_i32_81 : BitVec 32 := 1#32
  let v54 : BitVec 32 := Scalar.addi v53 c1_i32_81
  let c16_i32_82 : BitVec 32 := 16#32
  let v55 : BitVec 32 := Scalar.muli v54 c16_i32_82
  let v56 : Index := Scalar.indexCast v55
  ![v56.toNat]

def k0_chk77 (i : grid0.Coords) (v57 : IVec S16 32) : Prop :=
  (∀ (k0_h1 : k0_cond1 i = 1#1), ∀ a x, ((![v57] : Fin 1 → IVec S16 32) a x).toNat < S25200.size a)
theorem k0_idx122_inb : ∀ (i : grid0.Coords) (v57 : IVec S16 32) (k0_hw77 : k0_chk77 i v57), ∀ (k0_h1 : k0_cond1 i = 1#1), ∀ a x, ((![v57] : Fin 1 → IVec S16 32) a x).toNat < S25200.size a := fun i v57 k0_hw77 k0_h1 => k0_hw77 k0_h1
def k0_off14 (k0_t16 : Fin k0_t16_loop.trips) : Fin 1 → Nat :=
  let c0_i32_74 : BitVec 32 := 0#32
  let c1_i32_76 : BitVec 32 := 1#32
  let arg10 : BitVec 32 := Scf.iv c0_i32_74 c1_i32_76 k0_t16
  let c5_i32_84 : BitVec 32 := 5#32
  let v61 : BitVec 32 := Scalar.muli arg10 c5_i32_84
  let c2_i32_85 : BitVec 32 := 2#32
  let v62 : BitVec 32 := Scalar.addi v61 c2_i32_85
  let c16_i32_86 : BitVec 32 := 16#32
  let v63 : BitVec 32 := Scalar.muli v62 c16_i32_86
  let v64 : Index := Scalar.indexCast v63
  ![v64.toNat]

def k0_chk78 (i : grid0.Coords) (v65 : IVec S16 32) : Prop :=
  (∀ (k0_h1 : k0_cond1 i = 1#1), ∀ a x, ((![v65] : Fin 1 → IVec S16 32) a x).toNat < S25200.size a)
theorem k0_idx123_inb : ∀ (i : grid0.Coords) (v65 : IVec S16 32) (k0_hw78 : k0_chk78 i v65), ∀ (k0_h1 : k0_cond1 i = 1#1), ∀ a x, ((![v65] : Fin 1 → IVec S16 32) a x).toNat < S25200.size a := fun i v65 k0_hw78 k0_h1 => k0_hw78 k0_h1
def k0_off15 (k0_t16 : Fin k0_t16_loop.trips) : Fin 1 → Nat :=
  let c0_i32_74 : BitVec 32 := 0#32
  let c1_i32_76 : BitVec 32 := 1#32
  let arg10 : BitVec 32 := Scf.iv c0_i32_74 c1_i32_76 k0_t16
  let c5_i32_88 : BitVec 32 := 5#32
  let v69 : BitVec 32 := Scalar.muli arg10 c5_i32_88
  let c3_i32 : BitVec 32 := 3#32
  let v70 : BitVec 32 := Scalar.addi v69 c3_i32
  let c16_i32_89 : BitVec 32 := 16#32
  let v71 : BitVec 32 := Scalar.muli v70 c16_i32_89
  let v72 : Index := Scalar.indexCast v71
  ![v72.toNat]

def k0_chk79 (i : grid0.Coords) (v73 : IVec S16 32) : Prop :=
  (∀ (k0_h1 : k0_cond1 i = 1#1), ∀ a x, ((![v73] : Fin 1 → IVec S16 32) a x).toNat < S25200.size a)
theorem k0_idx124_inb : ∀ (i : grid0.Coords) (v73 : IVec S16 32) (k0_hw79 : k0_chk79 i v73), ∀ (k0_h1 : k0_cond1 i = 1#1), ∀ a x, ((![v73] : Fin 1 → IVec S16 32) a x).toNat < S25200.size a := fun i v73 k0_hw79 k0_h1 => k0_hw79 k0_h1
def k0_off16 (k0_t16 : Fin k0_t16_loop.trips) : Fin 1 → Nat :=
  let c0_i32_74 : BitVec 32 := 0#32
  let c1_i32_76 : BitVec 32 := 1#32
  let arg10 : BitVec 32 := Scf.iv c0_i32_74 c1_i32_76 k0_t16
  let c5_i32_91 : BitVec 32 := 5#32
  let v77 : BitVec 32 := Scalar.muli arg10 c5_i32_91
  let c4_i32 : BitVec 32 := 4#32
  let v78 : BitVec 32 := Scalar.addi v77 c4_i32
  let c16_i32_92 : BitVec 32 := 16#32
  let v79 : BitVec 32 := Scalar.muli v78 c16_i32_92
  let v80 : Index := Scalar.indexCast v79
  ![v80.toNat]

def k0_chk80 (i : grid0.Coords) (v81 : IVec S16 32) : Prop :=
  (∀ (k0_h1 : k0_cond1 i = 1#1), ∀ a x, ((![v81] : Fin 1 → IVec S16 32) a x).toNat < S25200.size a)
theorem k0_idx125_inb : ∀ (i : grid0.Coords) (v81 : IVec S16 32) (k0_hw80 : k0_chk80 i v81), ∀ (k0_h1 : k0_cond1 i = 1#1), ∀ a x, ((![v81] : Fin 1 → IVec S16 32) a x).toNat < S25200.size a := fun i v81 k0_hw80 k0_h1 => k0_hw80 k0_h1
abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x100x252 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x100x252 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x100x252 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8x256x100x252 : Shape := ⟨4, ![8, 256, 100, 252]⟩
abbrev S8x100x252 : Shape := ⟨3, ![8, 100, 252]⟩
abbrev S8x256x25200 : Shape := ⟨3, ![8, 256, 25200]⟩
abbrev S8x25200x256 : Shape := ⟨3, ![8, 25200, 256]⟩
abbrev S8x25200 : Shape := ⟨2, ![8, 25200]⟩
abbrev S8x5040 : Shape := ⟨2, ![8, 5040]⟩
abbrev S8x5040x1 : Shape := ⟨3, ![8, 5040, 1]⟩
abbrev S_ : Shape := ⟨0, ![]⟩
abbrev S1 : Shape := ⟨1, ![1]⟩
abbrev S1x1x1 : Shape := ⟨3, ![1, 1, 1]⟩
abbrev S8x5040x256 : Shape := ⟨3, ![8, 5040, 256]⟩
abbrev S8 : Shape := ⟨1, ![8]⟩
abbrev S8x1 : Shape := ⟨2, ![8, 1]⟩
abbrev S8x5040x2 : Shape := ⟨3, ![8, 5040, 2]⟩

abbrev nBuf : Space → Nat
  | .hbm => 59
  | .vmem => 0
  | .smem => 0
  | _ => 0

abbrev bufTy : (tb : Table) → Fin (tcTables nBuf tb) → BufTy
  | .hbm, ⟨0, _⟩ => ⟨S8x256x100x252, .f32⟩
  | .hbm, ⟨1, _⟩ => ⟨S8x100x252, .f32⟩
  | .hbm, ⟨2, _⟩ => ⟨S8x256x25200, .f32⟩
  | .hbm, ⟨3, _⟩ => ⟨S8x25200x256, .f32⟩
  | .hbm, ⟨4, _⟩ => ⟨S8x25200, .f32⟩
  | .hbm, ⟨5, _⟩ => ⟨S8x5040, .f32⟩
  | .hbm, ⟨6, _⟩ => ⟨S8x5040, .i32⟩
  | .hbm, ⟨7, _⟩ => ⟨S8x5040x1, .i32⟩
  | .hbm, ⟨8, _⟩ => ⟨S_, .i32⟩
  | .hbm, ⟨9, _⟩ => ⟨S8x5040x1, .i32⟩
  | .hbm, ⟨10, _⟩ => ⟨S8x5040x1, .i1⟩
  | .hbm, ⟨11, _⟩ => ⟨S_, .i32⟩
  | .hbm, ⟨12, _⟩ => ⟨S8x5040x1, .i32⟩
  | .hbm, ⟨13, _⟩ => ⟨S8x5040x1, .i32⟩
  | .hbm, ⟨14, _⟩ => ⟨S8x5040x1, .i32⟩
  | .hbm, ⟨15, _⟩ => ⟨S1, .i32⟩
  | .hbm, ⟨16, _⟩ => ⟨S_, .i32⟩
  | .hbm, ⟨17, _⟩ => ⟨S8x5040x1, .i32⟩
  | .hbm, ⟨18, _⟩ => ⟨S8x5040x1, .i1⟩
  | .hbm, ⟨19, _⟩ => ⟨S1x1x1, .i32⟩
  | .hbm, ⟨20, _⟩ => ⟨S8x5040x1, .i32⟩
  | .hbm, ⟨21, _⟩ => ⟨S8x5040x1, .i1⟩
  | .hbm, ⟨22, _⟩ => ⟨S8x5040x1, .i1⟩
  | .hbm, ⟨23, _⟩ => ⟨S_, .i1⟩
  | .hbm, ⟨24, _⟩ => ⟨S8x5040, .i1⟩
  | .hbm, ⟨25, _⟩ => ⟨S8x5040x256, .f32⟩
  | .hbm, ⟨26, _⟩ => ⟨S8x5040x256, .i1⟩
  | .hbm, ⟨27, _⟩ => ⟨S_, .f32⟩
  | .hbm, ⟨28, _⟩ => ⟨S8x5040x256, .f32⟩
  | .hbm, ⟨29, _⟩ => ⟨S8x5040x256, .f32⟩
  | .hbm, ⟨30, _⟩ => ⟨S8x5040x1, .f32⟩
  | .hbm, ⟨31, _⟩ => ⟨S8x5040x256, .f32⟩
  | .hbm, ⟨32, _⟩ => ⟨S8x5040x256, .f32⟩
  | .hbm, ⟨33, _⟩ => ⟨S_, .f32⟩
  | .hbm, ⟨34, _⟩ => ⟨S8x25200x256, .f32⟩
  | .hbm, ⟨35, _⟩ => ⟨S8x25200x256, .f32⟩
  | .hbm, ⟨36, _⟩ => ⟨S8, .i32⟩
  | .hbm, ⟨37, _⟩ => ⟨S8x1, .i32⟩
  | .hbm, ⟨38, _⟩ => ⟨S_, .i32⟩
  | .hbm, ⟨39, _⟩ => ⟨S8x1, .i32⟩
  | .hbm, ⟨40, _⟩ => ⟨S8x1, .i1⟩
  | .hbm, ⟨41, _⟩ => ⟨S_, .i32⟩
  | .hbm, ⟨42, _⟩ => ⟨S8x1, .i32⟩
  | .hbm, ⟨43, _⟩ => ⟨S8x1, .i32⟩
  | .hbm, ⟨44, _⟩ => ⟨S8x1, .i32⟩
  | .hbm, ⟨45, _⟩ => ⟨S_, .i32⟩
  | .hbm, ⟨46, _⟩ => ⟨S8x5040, .i32⟩
  | .hbm, ⟨47, _⟩ => ⟨S8x5040, .i1⟩
  | .hbm, ⟨48, _⟩ => ⟨S_, .i32⟩
  | .hbm, ⟨49, _⟩ => ⟨S8x5040, .i32⟩
  | .hbm, ⟨50, _⟩ => ⟨S8x5040, .i32⟩
  | .hbm, ⟨51, _⟩ => ⟨S8x5040, .i32⟩
  | .hbm, ⟨52, _⟩ => ⟨S8x5040, .i32⟩
  | .hbm, ⟨53, _⟩ => ⟨S8x5040x1, .i32⟩
  | .hbm, ⟨54, _⟩ => ⟨S8x5040x1, .i32⟩
  | .hbm, ⟨55, _⟩ => ⟨S8x5040x2, .i32⟩
  | .hbm, ⟨56, _⟩ => ⟨S8x25200x256, .f32⟩
  | .hbm, ⟨57, _⟩ => ⟨S8x256x25200, .f32⟩
  | .hbm, ⟨58, _⟩ => ⟨S8x256x100x252, .f32⟩
  | _, _ => ⟨S8x256x100x252, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_1 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩

abbrev nD : Nat := 1
abbrev τ : Topo := Topo.v7x

variable {F : FTy → Type} [FloatOps F]
-- ==== Score.lean ====
abbrev S8x256x100x252 : Shape := ⟨4, ![8, 256, 100, 252]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S8x100x252 : Shape := ⟨3, ![8, 100, 252]⟩
abbrev S1x256x8x252 : Shape := ⟨4, ![1, 256, 8, 252]⟩
abbrev S1x8x252 : Shape := ⟨3, ![1, 8, 252]⟩
abbrev S1x256x1x252 : Shape := ⟨4, ![1, 256, 1, 252]⟩
abbrev S256x252 : Shape := ⟨2, ![256, 252]⟩
abbrev S1x252 : Shape := ⟨2, ![1, 252]⟩
abbrev S1x1x252 : Shape := ⟨3, ![1, 1, 252]⟩

abbrev nBuf : Space → Nat
  | .hbm => 8
  | .vmem => 8
  | .smem => 0
  | _ => 0

abbrev bufTy : (tb : Table) → Fin (tcTables nBuf tb) → BufTy
  | .hbm, ⟨0, _⟩ => ⟨S8x256x100x252, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S256x1, .f32⟩
  | .hbm, ⟨6, _⟩ => ⟨S1x1, .f32⟩
  | .hbm, ⟨7, _⟩ => ⟨S8x100x252, .f32⟩
  | .local _ .vmem, ⟨0, _⟩ => ⟨S1x256x8x252, .f32⟩
  | .local _ .vmem, ⟨1, _⟩ => ⟨S1x256x8x252, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S1x1, .f32⟩
  | .local _ .vmem, ⟨6, _⟩ => ⟨S1x8x252, .f32⟩
  | .local _ .vmem, ⟨7, _⟩ => ⟨S1x8x252, .f32⟩
  | _, _ => ⟨S8x256x100x252, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 13], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8x252 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x252 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ScoreReferenceIdeal.lean ====
abbrev S8x256x100x252 : Shape := ⟨4, ![8, 256, 100, 252]⟩
abbrev S256x256 : Shape := ⟨2, ![256, 256]⟩
abbrev S256 : Shape := ⟨1, ![256]⟩
abbrev S256x1 : Shape := ⟨2, ![256, 1]⟩
abbrev S1 : Shape := ⟨1, ![1]⟩
abbrev S8x256x25200 : Shape := ⟨3, ![8, 256, 25200]⟩
abbrev S8x25200x256 : Shape := ⟨3, ![8, 25200, 256]⟩
abbrev S1x1x256 : Shape := ⟨3, ![1, 1, 256]⟩
abbrev S_ : Shape := ⟨0, ![]⟩
abbrev S8x25200x1 : Shape := ⟨3, ![8, 25200, 1]⟩
abbrev S1x1x1 : Shape := ⟨3, ![1, 1, 1]⟩
abbrev S8x25200 : Shape := ⟨2, ![8, 25200]⟩
abbrev S8x100x252 : Shape := ⟨3, ![8, 100, 252]⟩

abbrev nBuf : Space → Nat
  | .hbm => 28
  | .vmem => 0
  | .smem => 0
  | _ => 0

abbrev bufTy : (tb : Table) → Fin (tcTables nBuf tb) → BufTy
  | .hbm, ⟨0, _⟩ => ⟨S8x256x100x252, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S8x256x25200, .f32⟩
  | .hbm, ⟨6, _⟩ => ⟨S8x25200x256, .f32⟩
  | .hbm, ⟨7, _⟩ => ⟨S8x25200x256, .f32⟩
  | .hbm, ⟨8, _⟩ => ⟨S1x1x256, .f32⟩
  | .hbm, ⟨9, _⟩ => ⟨S8x25200x256, .f32⟩
  | .hbm, ⟨10, _⟩ => ⟨S8x25200x256, .f32⟩
  | .hbm, ⟨11, _⟩ => ⟨S_, .f32⟩
  | .hbm, ⟨12, _⟩ => ⟨S8x25200x256, .f32⟩
  | .hbm, ⟨13, _⟩ => ⟨S8x25200x256, .f32⟩
  | .hbm, ⟨14, _⟩ => ⟨S8x25200x1, .f32⟩
  | .hbm, ⟨15, _⟩ => ⟨S1x1x1, .f32⟩
  | .hbm, ⟨16, _⟩ => ⟨S8x25200x1, .f32⟩
  | .hbm, ⟨17, _⟩ => ⟨S8x25200x1, .f32⟩
  | .hbm, ⟨18, _⟩ => ⟨S8x25200, .f32⟩
  | .hbm, ⟨19, _⟩ => ⟨S8x25200, .f32⟩
  | .hbm, ⟨20, _⟩ => ⟨S8x25200, .f32⟩
  | .hbm, ⟨21, _⟩ => ⟨S_, .f32⟩
  | .hbm, ⟨22, _⟩ => ⟨S8x25200, .f32⟩
  | .hbm, ⟨23, _⟩ => ⟨S8x25200, .f32⟩
  | .hbm, ⟨24, _⟩ => ⟨S_, .f32⟩
  | .hbm, ⟨25, _⟩ => ⟨S8x25200, .f32⟩
  | .hbm, ⟨26, _⟩ => ⟨S8x25200, .f32⟩
  | .hbm, ⟨27, _⟩ => ⟨S8x100x252, .f32⟩
  | _, _ => ⟨S8x256x100x252, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Rules.lean ====
/-
  Rules for the operations of the sort's tile body, over one assertion: `Holds thr M v` — the thread holds the memref
  `M` of rank one outright, and reading it gives the word `v p` at position `p`. Positions and lanes are natural
  numbers here, so that what the loops do can be said by arithmetic.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Gen.Kernel
public import proofs.«01_k».proof.Proof.Gen.Kernel.Skeleton

@[expose] public section

noncomputable section

namespace Cert.Proof.Sort

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [BitOps F] : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds library. -/
abbrev UH : Type := URounds (GSem nD τ sig) ℕ
/-- The pipeline's rounds library. -/
abbrev UP : Type := UR sig nD τ
/-- Beside them the counters of the transfers. -/
abbrev UU : Type := UH × UP × Counters

local notation "𝕄" => MT nD τ sig (HIx 1) (Elt F) ℕ UU ℕ

/-- The handshakes' rounds library, the left factor. -/
abbrev EH : Emb UH (MT nD τ sig (HIx 1) (Elt F) ℕ UU ℕ) := embL

/-- The pipeline's rounds library, the left factor of the right one. -/
abbrev EP : Emb UP (MT nD τ sig (HIx 1) (Elt F) ℕ UU ℕ) := (Emb.inl : Emb UP (UP × Counters)).trans embR

instance EP_lands : (EP (F := F)).LandsIn (upEmb : UEmb _ (MT nD τ sig (HIx 1) (Elt F) ℕ UU ℕ)) := by
  unfold EP; infer_instance

/-- The tile's thread at the coordinates `i`. -/
abbrev thr (d : Dev nD) (i : grid0.Coords) : Thread nD τ := V d ((i 0).castLE hcore0) ((i 1).castLE hsub0)

/-- The programs of the tile at the coordinates `i`. -/
abbrev PR (F : FTy → Type) (i : grid0.Coords) (α : Type) : Type 1 :=
  Prog (TpuEff nD τ sig (Elt F) Λ₀ (.scVector ((i 0).castLE hcore0) ((i 1).castLE hsub0))) α

/-- A rank-one memref of words in the tile's memory. -/
abbrev TM (n : ℕ) : Type := Memref sig .scVector .vmem ⟨1, ![n]⟩ .i32

/-- Lane `k` of a register of sixteen words (of a number past fifteen, its rest). -/
def ln (k : ℕ) : S16.Idx := fun a => ⟨k % 16, by rw [Fin.eq_zero a]; exact Nat.mod_lt _ (by decide)⟩

theorem ln_val (x : S16.Idx) : ln (x 0).val = x := by
  funext a
  apply Fin.ext
  have ha : a = 0 := Fin.eq_zero a
  subst ha
  exact Nat.mod_eq_of_lt (x 0).isLt

theorem ln_zero_val {k : ℕ} (h : k < 16) : (ln k 0).val = k := Nat.mod_eq_of_lt h

/-- What a scatter of the words `w` at the positions `a` leaves of `v`: lane after lane. -/
def scat (add : Bool) (v : ℕ → BitVec 32) (a : ℕ → ℕ) (w : ℕ → BitVec 32) (L : List ℕ) : ℕ → BitVec 32 :=
  L.foldl (fun g k => fun j => if j = a k then (if add then g (a k) + w k else w k) else g j) v

/-- What a store of sixteen words at position `o` leaves of `v`. -/
def putC (v : ℕ → BitVec 32) (o : ℕ) (w : S16.Idx → BitVec 32) : ℕ → BitVec 32 :=
  fun j => if o ≤ j ∧ j < o + 16 then w (ln (j - o)) else v j

variable [BitOps F]

/-- The tile holds the memref `M` outright, and it reads `v`. -/
def Holds (d : Dev nD) (i : grid0.Coords) {n : ℕ} (M : TM n) (v : ℕ → BitVec 32) : sProp 𝕄 :=
  iprop(∃ f : Buf (Elt F) (M.view.loc (thr d i)), ⌜∀ x, M.view.read (Elt F) f x = v (x 0).val⌝
    ∗ (M.view.loc (thr d i) ↦[M.view.set]{fullShare} f))

/-- What is held may be told by any function with the same words in range. -/
theorem Holds.congr {d : Dev nD} {i : grid0.Coords} {n : ℕ} {M : TM n} {v w : ℕ → BitVec 32} (h : ∀ j < n, v j = w j) :
    Holds (F := F) d i M v ⊢ Holds d i M w := by
  unfold Holds
  iintro ⟨%f, %hf, H⟩
  iexists f
  isplitr
  · ipureintro; intro x; rw [hf x]; exact h _ (x 0).isLt
  · iexact H

/-- Reading through the whole rectangle of a view reads the view. -/
theorem read_whole_slice {n : ℕ} (v : View sig .scVector .vmem ⟨1, ![n]⟩ .i32) (f : v.ty.Contents (Elt F)) :
    (v.slice (Rect.whole ⟨1, ![n]⟩)).read (Elt F) f = v.read (Elt F) f := by
  funext x
  refine congrArg (v.read (Elt F) f) ?_
  funext a
  apply Fin.ext
  show 0 + 1 * (x a).val = (x a).val
  omega

/-- The tile's program runs to `Q`. -/
abbrev WP (d : Dev nD) (i : grid0.Coords) {α : Type} (p : PR F i α) (Q : α → sProp 𝕄) : sProp 𝕄 :=
  wp frame (wpE (defs₀ (F := F)) 𝒱₀ (thr d i) none) Set.univ p Q

section Rules

variable (d : Dev nD) (i : grid0.Coords)

/-- A check that holds is passed. -/
theorem wp_chk {p : Prop} {dec : Decidable p} (h : p) {α : Type} {Q : α → sProp 𝕄} {k : PLift p → PR F i α} :
    WP d i (k ⟨h⟩) Q ⊢ WP d i (Prog.lift (TpuEff.assume p dec) >>= k) Q :=
  Entails.of_eq (wp_assume_of (defs := defs₀ (F := F)) 𝒱₀ (thr d i) none Set.univ (k := k) h).symm

/-- A gather. -/
theorem wp_ldx {n : ℕ} {M : TM n} {v : ℕ → BitVec 32} {idx : IVec S16 32} {h : ∀ a x, ((![idx] : Fin 1 → IVec S16 32) a x).toNat < (⟨1, ![n]⟩ : Shape).size a}
    {hl : M.view.Loads} {α : Type} {Q : α → sProp 𝕄} {k : Vec F S16 .i32 → PR F i α} :
    Holds (F := F) d i M v
      ⊢ iprop((Holds d i M v -∗ WP d i (k (fun x => v (idx x).toNat)) Q) -∗ WP d i (SparseCore.vectorLoadIdx M ![idx] h hl >>= k) Q) := by
  unfold Holds
  iintro ⟨%f, %hf, H⟩ Hk
  have e : loadIdx (F := F) (M.view.readAt (Elt F) (Rect.whole ⟨1, ![n]⟩).toLoadRect f) ![idx] h = fun x => v (idx x).toNat := by
    funext x
    show (M.view.slice (Rect.whole ⟨1, ![n]⟩)).read (Elt F) f _ = _
    rw [read_whole_slice]
    exact hf _
  rw [← e]
  iapply (wp_load (defs := defs₀ (F := F)) 𝒱₀ (thr d i) none Set.univ (m := M) (r := (Rect.whole ⟨1, ![n]⟩).toLoadRect) (S := M.view.set)
    (k := fun f => k (loadIdx f ![idx] h)) (View.setOn_subset_set _ _)) $$ H
  iintro H
  iapply Hk
  iexists f
  isplitr
  · ipureintro; exact hf
  · iexact H

/-- A load of sixteen words. -/
theorem wp_ldc {n : ℕ} {M : TM n} {v : ℕ → BitVec 32} {o : Fin 1 → ℕ} {inb : ∀ a, o a + S16.size a ≤ (⟨1, ![n]⟩ : Shape).size a}
    {hl : M.view.LoadsAt (Rect.unit (s := ⟨1, ![n]⟩) o S16.size inb).toLoadRect} {α : Type} {Q : α → sProp 𝕄} {k : Vec F S16 .i32 → PR F i α} :
    Holds (F := F) d i M v
      ⊢ iprop((Holds d i M v -∗ WP d i (k (fun x => v (o 0 + (x 0).val))) Q)
        -∗ WP d i (Prog.lift (.load M (Rect.unit (s := ⟨1, ![n]⟩) o S16.size inb).toLoadRect hl) >>= k) Q) := by
  unfold Holds
  iintro ⟨%f, %hf, H⟩ Hk
  have e : (M.view.readAt (Elt F) (Rect.unit (s := ⟨1, ![n]⟩) o S16.size inb).toLoadRect f : S16.Idx → BitVec 32) = fun x => v (o 0 + (x 0).val) := by
    rw [View.readAt_unit (off' := o) M.view f inb rfl inb]
    funext x
    refine (hf _).trans (congrArg v ?_)
    show o 0 + 1 * (x 0).val = _
    omega
  have e2 : WP d i (k (M.view.readAt (Elt F) (Rect.unit (s := ⟨1, ![n]⟩) o S16.size inb).toLoadRect f)) Q = WP d i (k fun x => v (o 0 + (x 0).val)) Q :=
    congrArg (fun z => WP d i (k z) Q) e
  rw [← e2]
  iapply (wp_load (defs := defs₀ (F := F)) 𝒱₀ (thr d i) none Set.univ (m := M) (r := (Rect.unit (s := ⟨1, ![n]⟩) o S16.size inb).toLoadRect) (hl := hl) (S := M.view.set)
    (k := k) (View.setOn_subset_set _ _)) $$ H
  iintro H
  iapply Hk
  iexists f
  isplitr
  · ipureintro; exact hf
  · iexact H

/-- A store of sixteen words. -/
theorem wp_stc {n : ℕ} {M : TM n} {v : ℕ → BitVec 32} {o : Fin 1 → ℕ} {inb : ∀ a, o a + S16.size a ≤ (⟨1, ![n]⟩ : Shape).size a}
    {w : S16.Idx → BitVec 32} {hx : (M.access (Rect.unit (s := ⟨1, ![n]⟩) o S16.size inb)).Stores Finset.univ}
    {hm : (Finset.univ : Finset (Rect.unit (s := ⟨1, ![n]⟩) o S16.size inb).shape.Idx) = Finset.univ ∨ ∀ a, (Rect.unit (s := ⟨1, ![n]⟩) o S16.size inb).stride a = 1}
    {α : Type} {Q : α → sProp 𝕄} {k : PUnit → PR F i α} :
    Holds (F := F) d i M v
      ⊢ iprop((Holds d i M (putC v (o 0) w) -∗ WP d i (k ⟨⟩) Q)
        -∗ WP d i (Prog.lift (.store M (Rect.unit (s := ⟨1, ![n]⟩) o S16.size inb) w Finset.univ hx hm) >>= k) Q) := by
  unfold Holds
  iintro ⟨%f, %hf, H⟩ Hk
  iapply (wp_store (defs := defs₀ (F := F)) 𝒱₀ (thr d i) none Set.univ (m := M) (r := Rect.unit (s := ⟨1, ![n]⟩) o S16.size inb)
    (w := w) (hx := hx) (hm := hm) (S := M.view.set) (f := f) (k := k) ((View.set_slice_subset _ _))) $$ H
  iintro H
  iapply Hk
  iexists ((M.access (Rect.unit (s := ⟨1, ![n]⟩) o S16.size inb)).write (Elt F) f w Finset.univ)
  isplitr
  · ipureintro
    intro x
    have e := congrFun (View.read_writes_cons_put (Val := Elt F) M.view f (off' := o) inb w [] rfl) x
    refine (show _ = _ from e).trans ?_
    unfold VecWindow.put putC
    by_cases hc : o 0 ≤ (x 0).val ∧ (x 0).val < o 0 + 16
    · rw [dif_pos (fun a => by rw [Fin.eq_zero a]; exact hc), if_pos hc]
      refine congrArg w ?_
      funext a
      apply Fin.ext
      have ha : a = 0 := Fin.eq_zero a
      subst ha
      show (x 0).val - o 0 = ((x 0).val - o 0) % 16
      rw [Nat.mod_eq_of_lt (by omega)]
    · rw [dif_neg (fun hh => hc (hh 0)), if_neg hc]
      exact hf x
  · iexact H

/-- What a scatter leaves, in positions and lanes as numbers. -/
theorem storeIdx_eq {n : ℕ} {add : Bool} {f : Vec F ⟨1, ![n]⟩ .i32} {v : ℕ → BitVec 32} (hf : ∀ x, f x = v (x 0).val) {idx : IVec S16 32}
    (h : ∀ a x, ((![idx] : Fin 1 → IVec S16 32) a x).toNat < (⟨1, ![n]⟩ : Shape).size a) (w : IVec S16 32) (x : (⟨1, ![n]⟩ : Shape).Idx) :
    storeIdx f ![idx] w (fun _ => 1#1) add h x
      = scat add v (fun k => (idx (ln k)).toNat) (fun k => w (ln k)) (List.range 16) (x 0).val := by
  have hl : List.range 16 = (List.finRange 16).map Fin.val := by decide
  let G : ((⟨1, ![n]⟩ : Shape).Idx → BitVec 32) → Fin 16 → ((⟨1, ![n]⟩ : Shape).Idx → BitVec 32) := fun g k j =>
    if (j 0).val = (idx (ln k.val)).toNat then (if add then g (idxAt (s := ⟨1, ![n]⟩) ![idx] h (ln k.val)) + w (ln k.val) else w (ln k.val)) else g j
  have hG : storeIdx f ![idx] w (fun _ => 1#1) add h = (List.finRange 16).foldl G f := by
    unfold storeIdx
    refine congrArg (fun g => List.foldl g f (List.finRange 16)) ?_
    funext g k j
    have hk : (Shape.ofLane (d := S16.size) k : S16.Idx) = ln k.val := by
      funext a; apply Fin.ext
      exact (Nat.mod_eq_of_lt k.isLt).symm
    refine (congrFun (if_pos (rfl : (1#1 : BitVec 1) = 1)) j).trans ?_
    by_cases hc : (j 0).val = (idx (ln k.val)).toNat
    · refine (if_pos (fun a => ?_)).trans ?_
      · rw [Fin.eq_zero a]
        refine hc.trans ?_
        rw [← hk]; rfl
      · refine Eq.trans ?_ (if_pos hc).symm
        rw [← hk]; rfl
    · refine (if_neg (fun hh => hc ((hh 0).trans ?_))).trans (if_neg hc).symm
      rw [← hk]; rfl
  rw [hG, hl]
  unfold scat
  rw [List.foldl_map]
  generalize List.finRange 16 = L
  clear hG
  induction L generalizing f v with
  | nil => exact hf x
  | cons k L ih =>
    rw [List.foldl_cons, List.foldl_cons]
    apply ih
    intro y
    show (if (y 0).val = (idx (ln k.val)).toNat then _ else f y) = if (y 0).val = (idx (ln k.val)).toNat then _ else v (y 0).val
    rw [hf y, hf (idxAt (s := ⟨1, ![n]⟩) ![idx] h (ln k.val))]
    rfl

/-- A scatter. -/
theorem wp_stx {n : ℕ} {M : TM n} {v : ℕ → BitVec 32} {idx : IVec S16 32} {h : ∀ a x, ((![idx] : Fin 1 → IVec S16 32) a x).toNat < (⟨1, ![n]⟩ : Shape).size a}
    {w : IVec S16 32} {add : Bool} {hs : (M.access (.whole _)).Stores Finset.univ} {α : Type} {Q : α → sProp 𝕄} {k : PUnit → PR F i α} :
    Holds (F := F) d i M v
      ⊢ iprop((Holds d i M (scat add v (fun k => (idx (ln k)).toNat) (fun k => w (ln k)) (List.range 16)) -∗ WP d i (k ⟨⟩) Q)
        -∗ WP d i (SparseCore.vectorStoreIdx (F := F) (e := .i32) M ![idx] w (fun _ => 1#1) add h hs >>= k) Q) := by
  unfold Holds
  iintro ⟨%f, %hf, H⟩ Hk
  iapply (wp_load (defs := defs₀ (F := F)) 𝒱₀ (thr d i) none Set.univ (m := M) (r := (Rect.whole ⟨1, ![n]⟩).toLoadRect) (S := M.view.set)
    (hl := View.loadsAt_rect hs.loads)
    (k := fun f => .op (.store M (.whole _) (storeIdx (F := F) (e := .i32) f ![idx] w (fun _ => 1#1) add h) Finset.univ hs (.inl rfl)) k) (View.setOn_subset_set _ _)) $$ H
  iintro H
  iapply (wp_store (defs := defs₀ (F := F)) 𝒱₀ (thr d i) none Set.univ (m := M) (r := Rect.whole ⟨1, ![n]⟩)
    (hx := hs) (hm := .inl rfl) (S := M.view.set) (f := f) (k := k) ((View.set_slice_subset _ _))) $$ H
  iintro H
  iapply Hk
  iexists _
  isplitr
  rotate_left
  · iexact H
  · ipureintro
    intro x
    rw [← read_whole_slice (F := F) M.view]
    refine (congrFun (View.read_write_univ _ _) x).trans ?_
    refine storeIdx_eq (F := F) (v := v) ?_ h w x
    intro y
    show (M.view.slice (Rect.whole ⟨1, ![n]⟩)).read (Elt F) f y = _
    rw [read_whole_slice]
    exact hf y

end Rules

end Cert.Proof.Sort
end
end
-- ==== Proof.Body.lean ====
/-
  The tile body's regions as few generic ones. The printed function writes each loop of each of the three radix passes
  out; here a step of each kind of loop is stated once, over the buffers and the shift, and every printed region is
  shown to be the generic one.
-/
module

public import proofs.«01_k».proof.Proof.Rules

@[expose] public section

set_option synthInstance.maxSize 4096

noncomputable section

namespace Cert.Proof.Sort

open Cert.Kernel Cert.Kernel.Gen

open Idealize.ShloMosaic Idealize.SL.Sem

variable {F : FTy → Type} [BitOps F]

section Steps

variable (i : grid0.Coords) (k0_h1 : k0_cond1 i = 1#1)

/-- The lane numbers. -/
def v5₀ : IVec S16 32 := iota .scVector S16 32 [0] iota_S16_d0_w32_scVector

/-- The places in the strip order that step `r` of trip `a` reads, a lane each. -/
def idxOf (a r : BitVec 32) : IVec S16 32 := addi k0_pay83 (broadcast S16 (Scalar.addi (Scalar.muli a 5#32) r))

/-- The histogram's places of the keys `v`: digit times sixteen and the lane. -/
def addrOf (sh : BitVec 32) (v : IVec S16 32) : IVec S16 32 :=
  addi (muli (andi (shrui v (broadcast S16 sh)) (broadcast S16 1023#32)) (broadcast S16 16#32)) v5₀

/-- The offset of chunk `r` of trip `a`, `m` chunks a trip. -/
def offC (m a r : BitVec 32) : Fin 1 → ℕ := ![(Scalar.muli (Scalar.addi (Scalar.muli a m) r) 16#32).toNat]

/-- A load of the chunk at `o`. -/
def ldC {n : ℕ} (M : TM n) (o : Fin 1 → ℕ) (inb : ∀ a, o a + S16.size a ≤ (⟨1, ![n]⟩ : Shape).size a) : PR F i (Vec F S16 .i32) :=
  Prog.lift (.load M (Rect.unit (s := ⟨1, ![n]⟩) o S16.size inb).toLoadRect (View.loadsAt_vmem h_S16))

/-- A store of the chunk at `o`. -/
def stC {n : ℕ} (M : TM n) (o : Fin 1 → ℕ) (inb : ∀ a, o a + S16.size a ≤ (⟨1, ![n]⟩ : Shape).size a) (w : IVec S16 32) : PR F i PUnit :=
  Prog.lift (.store M (Rect.unit (s := ⟨1, ![n]⟩) o S16.size inb) w Finset.univ (View.stores_vmem_bits_univ h_S16 rfl) (.inl rfl))

/-- One chunk of a clearing loop. -/
def zeroStep {n : ℕ} (M : TM n) (o : Fin 1 → ℕ) (inb : ∀ a, o a + S16.size a ≤ (⟨1, ![n]⟩ : Shape).size a) : PR F i PUnit := do
  let _ ← ldC i M o inb
  stC i M o inb k0_pay85

/-- One chunk of the first loop: the complements of the words and their positions. -/
def initStep (kb ka va : TM 25200) (a r : BitVec 32) (inb : ∀ x, offC 5#32 a r x + S16.size x ≤ S25200.size x) : PR F i PUnit := do
  let w ← ldC i kb (offC 5#32 a r) inb
  let _ ← ldC i ka (offC 5#32 a r) inb
  stC i ka (offC 5#32 a r) inb (xori w (constantI S16 32 4294967295#32))
  let _ ← ldC i va (offC 5#32 a r) inb
  stC i va (offC 5#32 a r) inb (addi (broadcast S16 (Scalar.muli (Scalar.addi (Scalar.muli a 5#32) r) 16#32)) v5₀)

/-- One step of a histogram loop. -/
def histStep (kin : TM 25200) (offs : TM 16384) (sh : BitVec 32) (a r : BitVec 32) : PR F i PUnit := do
  have k0_hw1 : k0_chk1 i (idxOf a r) := (← Prog.lift (TpuEff.assume (k0_chk1 i (idxOf a r)) (k0_chk1.dec i (idxOf a r)))).down
  let v49 : Vec F S16 .i32 ← SparseCore.vectorLoadIdx kin ![idxOf a r] (k0_idx1_inb i (idxOf a r) k0_hw1 k0_h1) (View.loads_vmem h_S25200)
  have k0_hw2 : k0_chk2 i (addrOf sh v49) := (← Prog.lift (TpuEff.assume (k0_chk2 i (addrOf sh v49)) (k0_chk2.dec i (addrOf sh v49)))).down
  SparseCore.vectorStoreIdx (F := F) (e := .i32) offs ![addrOf sh v49] k0_pay84 (fun _ => 1#1) true (k0_idx2_inb i (addrOf sh v49) k0_hw2 k0_h1) (View.stores_vmem_bits_univ h_S16384 rfl)

/-- One chunk of a scan loop: the chunk's exclusive prefix sums over the running total, and the total after it. -/
def scanStep (offs : TM 16384) (a r : BitVec 32) (inb : ∀ x, offC 4#32 a r x + S16.size x ≤ S16384.size x) (run : BitVec 32) : PR F i (BitVec 32) := do
  let v ← ldC i offs (offC 4#32 a r) inb
  let _ ← ldC i offs (offC 4#32 a r) inb
  stC i offs (offC 4#32 a r) inb (subi (addi (broadcast S16 run) (scan .sum v)) v)
  pure (Scalar.addi run (extractAt ![15] (scan .sum v : IVec S16 32) inpos_S16_p15))

/-- One step of a placing loop. -/
def placeStep (kin vin kout vout : TM 25200) (offs : TM 16384) (sh : BitVec 32) (a r : BitVec 32) : PR F i PUnit := do
  have k0_hw11 : k0_chk11 i (idxOf a r) := (← Prog.lift (TpuEff.assume (k0_chk11 i (idxOf a r)) (k0_chk11.dec i (idxOf a r)))).down
  let v49 : Vec F S16 .i32 ← SparseCore.vectorLoadIdx kin ![idxOf a r] (k0_idx11_inb i (idxOf a r) k0_hw11 k0_h1) (View.loads_vmem h_S25200)
  let v50 : Vec F S16 .i32 ← SparseCore.vectorLoadIdx vin ![idxOf a r] (k0_idx12_inb i (idxOf a r) k0_hw11 k0_h1) (View.loads_vmem h_S25200)
  have k0_hw12 : k0_chk12 i (addrOf sh v49) := (← Prog.lift (TpuEff.assume (k0_chk12 i (addrOf sh v49)) (k0_chk12.dec i (addrOf sh v49)))).down
  let v58 : Vec F S16 .i32 ← SparseCore.vectorLoadIdx offs ![addrOf sh v49] (k0_idx13_inb i (addrOf sh v49) k0_hw12 k0_h1) (View.loads_vmem h_S16384)
  have k0_hw13 : k0_chk13 i v58 := (← Prog.lift (TpuEff.assume (k0_chk13 i v58) (k0_chk13.dec i v58))).down
  SparseCore.vectorStoreIdx (F := F) (e := .i32) kout ![v58] v49 (fun _ => 1#1) false (k0_idx14_inb i v58 k0_hw13 k0_h1) (View.stores_vmem_bits_univ h_S25200 rfl)
  SparseCore.vectorStoreIdx (F := F) (e := .i32) vout ![v58] v50 (fun _ => 1#1) false (k0_idx15_inb i v58 k0_hw13 k0_h1) (View.stores_vmem_bits_univ h_S25200 rfl)
  SparseCore.vectorStoreIdx (F := F) (e := .i32) offs ![addrOf sh v49] k0_pay84 (fun _ => 1#1) true (k0_idx16_inb i (addrOf sh v49) k0_hw12 k0_h1) (View.stores_vmem_bits_univ h_S16384 rfl)

/-- One chunk of the loop that writes the selected words. -/
def valsStep (kb ka : TM 25200) (a r : BitVec 32) (inb : ∀ x, offC 5#32 a r x + S16.size x ≤ S25200.size x) : PR F i PUnit := do
  let w ← ldC i kb (offC 5#32 a r) inb
  let _ ← ldC i ka (offC 5#32 a r) inb
  stC i ka (offC 5#32 a r) inb (xori w (constantI S16 32 4294967295#32))

/-- One chunk of the loop that scatters the selected words to their positions. -/
def wscatStep (vb kb va : TM 25200) (a r : BitVec 32) (inb : ∀ x, offC 5#32 a r x + S16.size x ≤ S25200.size x) : PR F i PUnit := do
  let p ← ldC i vb (offC 5#32 a r) inb
  have k0_hw76 : k0_chk76 i p := (← Prog.lift (TpuEff.assume (k0_chk76 i p) (k0_chk76.dec i p))).down
  let w ← ldC i kb (offC 5#32 a r) inb
  SparseCore.vectorStoreIdx (F := F) (e := .i32) va ![p] (xori w (constantI S16 32 4294967295#32)) (fun _ => 1#1) false (k0_idx121_inb i p k0_hw76 k0_h1) (View.stores_vmem_bits_univ h_S25200 rfl)

/-! ## The regions -/

/-- A trip of a clearing loop of four chunks. -/
def zeroBody4 (M : TM 16384) (a : BitVec 32) (inb : ∀ r : Fin 4, ∀ x, offC 4#32 a (BitVec.ofNat 32 r.val) x + S16.size x ≤ S16384.size x) : PR F i (BitVec 32) := do
  zeroStep i M (offC 4#32 a 0#32) (inb 0)
  zeroStep i M (offC 4#32 a 1#32) (inb 1)
  zeroStep i M (offC 4#32 a 2#32) (inb 2)
  zeroStep i M (offC 4#32 a 3#32) (inb 3)
  pure 0#32

/-- A trip of the clearing loop of five chunks. -/
def zeroBody5 (M : TM 25200) (a : BitVec 32) (inb : ∀ r : Fin 5, ∀ x, offC 5#32 a (BitVec.ofNat 32 r.val) x + S16.size x ≤ S25200.size x) : PR F i (BitVec 32) := do
  zeroStep i M (offC 5#32 a 0#32) (inb 0)
  zeroStep i M (offC 5#32 a 1#32) (inb 1)
  zeroStep i M (offC 5#32 a 2#32) (inb 2)
  zeroStep i M (offC 5#32 a 3#32) (inb 3)
  zeroStep i M (offC 5#32 a 4#32) (inb 4)
  pure 0#32

/-- A trip of the first loop. -/
def initBody (kb ka va : TM 25200) (a : BitVec 32) (inb : ∀ r : Fin 5, ∀ x, offC 5#32 a (BitVec.ofNat 32 r.val) x + S16.size x ≤ S25200.size x) : PR F i (BitVec 32) := do
  initStep i kb ka va a 0#32 (inb 0)
  initStep i kb ka va a 1#32 (inb 1)
  initStep i kb ka va a 2#32 (inb 2)
  initStep i kb ka va a 3#32 (inb 3)
  initStep i kb ka va a 4#32 (inb 4)
  pure 0#32

/-- A trip of a histogram loop. -/
def histBody (kin : TM 25200) (offs : TM 16384) (sh a : BitVec 32) : PR F i (BitVec 32) := do
  histStep i k0_h1 kin offs sh a 0#32
  histStep i k0_h1 kin offs sh a 1#32
  histStep i k0_h1 kin offs sh a 2#32
  histStep i k0_h1 kin offs sh a 3#32
  histStep i k0_h1 kin offs sh a 4#32
  pure 0#32

/-- A trip of a scan loop. -/
def scanBody (offs : TM 16384) (a : BitVec 32) (inb : ∀ r : Fin 4, ∀ x, offC 4#32 a (BitVec.ofNat 32 r.val) x + S16.size x ≤ S16384.size x) (run : BitVec 32) : PR F i (BitVec 32) := do
  let run ← scanStep i offs a 0#32 (inb 0) run
  let run ← scanStep i offs a 1#32 (inb 1) run
  let run ← scanStep i offs a 2#32 (inb 2) run
  scanStep i offs a 3#32 (inb 3) run

/-- A trip of a placing loop. -/
def placeBody (kin vin kout vout : TM 25200) (offs : TM 16384) (sh a : BitVec 32) : PR F i (BitVec 32) := do
  placeStep i k0_h1 kin vin kout vout offs sh a 0#32
  placeStep i k0_h1 kin vin kout vout offs sh a 1#32
  placeStep i k0_h1 kin vin kout vout offs sh a 2#32
  placeStep i k0_h1 kin vin kout vout offs sh a 3#32
  placeStep i k0_h1 kin vin kout vout offs sh a 4#32
  pure 0#32

/-- A trip of the loop that writes the selected words. -/
def valsBody (kb ka : TM 25200) (a : BitVec 32) (inb : ∀ r : Fin 5, ∀ x, offC 5#32 a (BitVec.ofNat 32 r.val) x + S16.size x ≤ S25200.size x) : PR F i (BitVec 32) := do
  valsStep i kb ka a 0#32 (inb 0)
  valsStep i kb ka a 1#32 (inb 1)
  valsStep i kb ka a 2#32 (inb 2)
  valsStep i kb ka a 3#32 (inb 3)
  valsStep i kb ka a 4#32 (inb 4)
  pure 0#32

/-- A trip of the loop that scatters the selected words. -/
def wscatBody (vb kb va : TM 25200) (a : BitVec 32) (inb : ∀ r : Fin 5, ∀ x, offC 5#32 a (BitVec.ofNat 32 r.val) x + S16.size x ≤ S25200.size x) : PR F i (BitVec 32) := do
  wscatStep i k0_h1 vb kb va a 0#32 (inb 0)
  wscatStep i k0_h1 vb kb va a 1#32 (inb 1)
  wscatStep i k0_h1 vb kb va a 2#32 (inb 2)
  wscatStep i k0_h1 vb kb va a 3#32 (inb 3)
  wscatStep i k0_h1 vb kb va a 4#32 (inb 4)
  pure 0#32

end Steps

/-! ## The printed regions are these -/

/-- Where chunk `r` of trip `t` begins. -/
theorem offC_val (m t r : ℕ) (h : (t * m + r) * 16 < 2 ^ 32) : offC (BitVec.ofNat 32 m) (Scf.iv 0#32 1#32 t) (BitVec.ofNat 32 r) 0 = (t * m + r) * 16 := by
  have e : Scalar.muli (Scalar.addi (Scalar.muli (Scf.iv 0#32 1#32 t) (BitVec.ofNat 32 m)) (BitVec.ofNat 32 r)) 16#32 = BitVec.ofNat 32 ((t * m + r) * 16) := by
    show ((0#32 + BitVec.ofNat 32 t * 1#32) * BitVec.ofNat 32 m + BitVec.ofNat 32 r) * 16#32 = _
    rw [BitVec.ofNat_mul, BitVec.ofNat_add, BitVec.ofNat_mul, BitVec.zero_add, BitVec.mul_one]
  show BitVec.toNat _ = _
  rw [e, BitVec.toNat_ofNat, Nat.mod_eq_of_lt h]

/-- The chunks of four a trip lie inside the histogram. -/
theorem inb4 (t : ℕ) (ht : t < 256) (r : Fin 4) (x : Fin 1) : offC 4#32 (Scf.iv 0#32 1#32 t) (BitVec.ofNat 32 r.val) x + S16.size x ≤ S16384.size x := by
  have hr := r.isLt
  rw [Fin.eq_zero x, show (4#32 : BitVec 32) = BitVec.ofNat 32 4 from rfl, offC_val 4 t r.val (by omega)]
  show _ + 16 ≤ 16384
  omega

/-- The chunks of five a trip lie inside the rows. -/
theorem inb5 (t : ℕ) (ht : t < 315) (r : Fin 5) (x : Fin 1) : offC 5#32 (Scf.iv 0#32 1#32 t) (BitVec.ofNat 32 r.val) x + S16.size x ≤ S25200.size x := by
  have hr := r.isLt
  rw [Fin.eq_zero x, show (5#32 : BitVec 32) = BitVec.ofNat 32 5 from rfl, offC_val 5 t r.val (by omega)]
  show _ + 16 ≤ 25200
  omega

theorem t4lt {n : ℕ} (h : n < k0_t2_loop.trips) : n < 256 := h
theorem t5lt {n : ℕ} (h : n < k0_t1_loop.trips) : n < 315 := h

section Eqs

variable (i : grid0.Coords) (arg2 : Memref sig .scVector .hbm S201600 .i32) (harg2 : arg2.IsWhole) (arg3 : Memref sig .scVector .hbm S40320 .i32) (harg3 : arg3.IsWhole)
  (arg4 : Memref sig .scVector .hbm S201600 .i32) (harg4 : arg4.IsWhole) (arg5 : TM 25200) (harg5 : arg5.IsWhole)
  (arg6 : TM 25200) (harg6 : arg6.IsWhole) (arg7 : TM 25200) (harg7 : arg7.IsWhole)
  (arg8 : TM 25200) (harg8 : arg8.IsWhole) (arg9 : TM 16384) (harg9 : arg9.IsWhole)
  (r0 r1 r2 : DmaSems sig S_) (v1 : BitVec 32) (h1 : k0_cond1 i = 1#1)

set_option maxRecDepth 65536

/-- The first loop. -/
theorem t1_eq : k0_t1_body (F := F) i arg2 harg2 arg3 harg3 arg4 harg4 arg5 harg5 arg6 harg6 arg7 harg7 arg8 harg8 arg9 harg9 r0 r1 r2 v1 h1 v5₀
    = fun (t : Fin _) _ => initBody i arg7 arg5 arg6 (Scf.iv 0#32 1#32 t.val) (inb5 t.val (t5lt t.isLt)) := rfl

/-- The first pass's clearing loop. -/
theorem t2_eq : k0_t2_body (F := F) i arg2 harg2 arg3 harg3 arg4 harg4 arg5 harg5 arg6 harg6 arg7 harg7 arg8 harg8 arg9 harg9 r0 r1 r2 v1 h1
    = fun (t : Fin _) _ => zeroBody4 i arg9 (Scf.iv 0#32 1#32 t.val) (inb4 t.val (t4lt t.isLt)) := rfl

/-- The first pass's histogram loop. -/
theorem t3_eq : k0_t3_body (F := F) i arg2 harg2 arg3 harg3 arg4 harg4 arg5 harg5 arg6 harg6 arg7 harg7 arg8 harg8 arg9 harg9 r0 r1 r2 v1 h1 v5₀
    = fun (t : Fin _) _ => histBody i h1 arg5 arg9 0#32 (Scf.iv 0#32 1#32 t.val) := rfl

/-- The first pass's scan loop. -/
theorem t4_eq : k0_t4_body (F := F) i arg2 harg2 arg3 harg3 arg4 harg4 arg5 harg5 arg6 harg6 arg7 harg7 arg8 harg8 arg9 harg9 r0 r1 r2 v1 h1
    = fun (t : Fin _) run => scanBody i arg9 (Scf.iv 0#32 1#32 t.val) (inb4 t.val (t4lt t.isLt)) run := rfl

/-- The first pass's placing loop. -/
theorem t5_eq : k0_t5_body (F := F) i arg2 harg2 arg3 harg3 arg4 harg4 arg5 harg5 arg6 harg6 arg7 harg7 arg8 harg8 arg9 harg9 r0 r1 r2 v1 h1 v5₀
    = fun (t : Fin _) _ => placeBody i h1 arg5 arg6 arg7 arg8 arg9 0#32 (Scf.iv 0#32 1#32 t.val) := rfl

/-- The second pass's clearing loop. -/
theorem t6_eq : k0_t6_body (F := F) i arg2 harg2 arg3 harg3 arg4 harg4 arg5 harg5 arg6 harg6 arg7 harg7 arg8 harg8 arg9 harg9 r0 r1 r2 v1 h1
    = fun (t : Fin _) _ => zeroBody4 i arg9 (Scf.iv 0#32 1#32 t.val) (inb4 t.val (t4lt t.isLt)) := rfl

/-- The second pass's histogram loop. -/
theorem t7_eq : k0_t7_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) _ => histBody i h1 arg7 arg9 10#32 (Scf.iv 0#32 1#32 t.val) := rfl

/-- The second pass's scan loop. -/
theorem t8_eq : k0_t8_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) run => scanBody i arg9 (Scf.iv 0#32 1#32 t.val) (inb4 t.val (t4lt t.isLt)) run := rfl

/-- The second pass's placing loop. -/
theorem t9_eq : k0_t9_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) _ => placeBody i h1 arg7 arg8 arg5 arg6 arg9 10#32 (Scf.iv 0#32 1#32 t.val) := rfl

/-- The third pass's clearing loop. -/
theorem t10_eq : k0_t10_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) _ => zeroBody4 i arg9 (Scf.iv 0#32 1#32 t.val) (inb4 t.val (t4lt t.isLt)) := rfl

/-- The third pass's histogram loop. -/
theorem t11_eq : k0_t11_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) _ => histBody i h1 arg5 arg9 20#32 (Scf.iv 0#32 1#32 t.val) := rfl

/-- The third pass's scan loop. -/
theorem t12_eq : k0_t12_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) run => scanBody i arg9 (Scf.iv 0#32 1#32 t.val) (inb4 t.val (t4lt t.isLt)) run := rfl

/-- The third pass's placing loop. -/
theorem t13_eq : k0_t13_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) _ => placeBody i h1 arg5 arg6 arg7 arg8 arg9 20#32 (Scf.iv 0#32 1#32 t.val) := rfl

/-- The loop that writes the selected words. -/
theorem t14_eq : k0_t14_body (F := F) i arg2 harg2 arg3 harg3 arg4 harg4 arg5 harg5 arg6 harg6 arg7 harg7 arg8 harg8 arg9 harg9 r0 r1 r2 v1 h1 v5₀ k0_pay83 k0_pay84 k0_pay85 0#32 0#32
    = fun (t : Fin _) _ => valsBody i arg7 arg5 (Scf.iv 0#32 1#32 t.val) (inb5 t.val (lt_trans t.isLt (by decide))) := rfl

/-- The loop that clears the map. -/
theorem t15_eq : k0_t15_body (F := F) i arg2 harg2 arg3 harg3 arg4 harg4 arg5 harg5 arg6 harg6 arg7 harg7 arg8 harg8 arg9 harg9 r0 r1 r2 h1 k0_pay85
    = fun (t : Fin _) _ => zeroBody5 i arg6 (Scf.iv 0#32 1#32 t.val) (inb5 t.val (t5lt t.isLt)) := rfl

/-- The loop that scatters the selected words. -/
theorem t16_eq : k0_t16_body (F := F) i arg2 harg2 arg3 harg3 arg4 harg4 arg5 harg5 arg6 harg6 arg7 harg7 arg8 harg8 arg9 harg9 r0 r1 r2 h1
    = fun (t : Fin _) _ => wscatBody i h1 arg8 arg7 arg6 (Scf.iv 0#32 1#32 t.val) (inb5 t.val (lt_trans t.isLt (by decide))) := rfl

end Eqs

end Cert.Proof.Sort
end
end
-- ==== Proof.Rank.lean ====
/-
  The arithmetic of the radix sort. A pass puts the key at position `j` of a row where its rank is by the pair of its
  digit and `j`; three passes over ten bits each put it where its rank is by the pair of its low thirty bits and `j`.
-/
module

public import Mathlib.Data.Finset.Card
public import Mathlib.Data.Finset.Range
public import Mathlib.Data.Finset.Filter
public import Mathlib.Data.Fintype.Card
public import Mathlib.Algebra.BigOperators.Group.Finset.Basic
public import Mathlib.Tactic.Ring
public import Mathlib.Tactic.NormNum
public import Mathlib.Tactic.Positivity

@[expose] public section

namespace Cert.Proof.Sort

open Finset

/-! ## Ranks -/

/-- How many positions of a row have a smaller value of `f`. -/
def rank (f : ℕ → ℕ) (j : ℕ) : ℕ := ((range 25200).filter fun j' => f j' < f j).card

theorem rank_lt (f : ℕ → ℕ) {j : ℕ} (hj : j < 25200) : rank f j < 25200 := by
  unfold rank
  calc _ < (range 25200).card := card_lt_card (filter_ssubset.mpr ⟨j, mem_range.mpr hj, by simp⟩)
    _ = 25200 := card_range _

theorem rank_lt_rank (f : ℕ → ℕ) {j j' : ℕ} (hj : j < 25200) (h : f j < f j') : rank f j < rank f j' := by
  unfold rank
  refine card_lt_card ((ssubset_iff_of_subset ?_).mpr ⟨j, ?_, ?_⟩)
  · intro x hx
    rw [mem_filter] at hx ⊢
    exact ⟨hx.1, hx.2.trans h⟩
  · rw [mem_filter]; exact ⟨mem_range.mpr hj, h⟩
  · rw [mem_filter]; exact fun hh => lt_irrefl _ hh.2

/-- The rank orders as `f` does. -/
theorem rank_lt_iff (f : ℕ → ℕ) (hf : ∀ j < 25200, ∀ j' < 25200, f j = f j' → j = j') {j j' : ℕ} (hj : j < 25200) (hj' : j' < 25200) :
    rank f j < rank f j' ↔ f j < f j' := by
  constructor
  · intro h
    by_contra hn
    rcases lt_or_eq_of_le (not_lt.mp hn) with h' | h'
    · exact absurd (rank_lt_rank f hj' h') (by omega)
    · have := hf _ hj' _ hj h'
      subst this
      exact lt_irrefl _ h
  · exact rank_lt_rank f hj

theorem rank_inj (f : ℕ → ℕ) (hf : ∀ j < 25200, ∀ j' < 25200, f j = f j' → j = j') {j j' : ℕ} (hj : j < 25200) (hj' : j' < 25200)
    (h : rank f j = rank f j') : j = j' := by
  rcases lt_trichotomy (f j) (f j') with h' | h' | h'
  · exact absurd (rank_lt_rank f hj h') (by omega)
  · exact hf _ hj _ hj' h'
  · exact absurd (rank_lt_rank f hj' h') (by omega)

/-- Every place is the rank of a position. -/
theorem rank_surj (f : ℕ → ℕ) (hf : ∀ j < 25200, ∀ j' < 25200, f j = f j' → j = j') {p : ℕ} (hp : p < 25200) :
    ∃ j < 25200, rank f j = p := by
  have h := Finset.surj_on_of_inj_on_of_card_le (s := range 25200) (t := range 25200) (fun j _ => rank f j)
    (fun j hj => mem_range.mpr (rank_lt f (mem_range.mp hj)))
    (fun j j' hj hj' h => rank_inj f hf (mem_range.mp hj) (mem_range.mp hj') h) le_rfl p (mem_range.mpr hp)
  obtain ⟨j, hj, e⟩ := h
  exact ⟨j, mem_range.mp hj, e.symm⟩

/-- Ranks depend on the order alone. -/
theorem rank_congr (f g : ℕ → ℕ) {j : ℕ} (h : ∀ j' < 25200, f j' < f j ↔ g j' < g j) : rank f j = rank g j := by
  unfold rank
  rw [filter_congr fun x hx => h x (mem_range.mp hx)]

/-- Ranks along a rearrangement of the row. -/
theorem rank_comp (f : ℕ → ℕ) (σ : ℕ → ℕ) (hσ : ∀ j < 25200, σ j < 25200) (hi : ∀ j < 25200, ∀ j' < 25200, σ j = σ j' → j = j')
    (j : ℕ) : rank f (σ j) = rank (fun x => f (σ x)) j := by
  have hs := Finset.surj_on_of_inj_on_of_card_le (s := range 25200) (t := range 25200) (fun j _ => σ j)
    (fun j hj => mem_range.mpr (hσ j (mem_range.mp hj)))
    (fun j j' hj hj' h => hi _ (mem_range.mp hj) _ (mem_range.mp hj') h) le_rfl
  unfold rank
  refine (card_bij (fun x _ => σ x) ?_ ?_ ?_).symm
  · intro x hx
    rw [mem_filter] at hx ⊢
    exact ⟨mem_range.mpr (hσ x (mem_range.mp hx.1)), hx.2⟩
  · intro x hx y hy h
    exact hi _ (mem_range.mp (mem_filter.mp hx).1) _ (mem_range.mp (mem_filter.mp hy).1) h
  · intro y hy
    rw [mem_filter] at hy
    obtain ⟨x, hx, e⟩ := hs y hy.1
    exact ⟨x, mem_filter.mpr ⟨hx, by rw [e] at hy; exact hy.2⟩, e.symm⟩

/-! ## One pass -/

section Pass

variable (sh : ℕ) (v : ℕ → BitVec 32)

/-- The digit of a word above bit `sh`. -/
def dg (k : BitVec 32) : ℕ := k.toNat / 2 ^ sh % 1024

/-- The histogram's place of position `j`: its digit, and its lane (the lanes read the row in strips of 1575). -/
def adr (j : ℕ) : ℕ := dg sh (v j) * 16 + j / 1575

/-- How many positions of the first `n` steps have the place `a`. -/
def hst (n a : ℕ) : ℕ := ((range 25200).filter fun j => adr sh v j = a ∧ j % 1575 < n).card

/-- How many positions have a place before `a`. -/
def strt (a : ℕ) : ℕ := ((range 25200).filter fun j => adr sh v j < a).card

/-- Where the pass puts position `j`. -/
def pos (j : ℕ) : ℕ := strt sh v (adr sh v j) + hst sh v (j % 1575) (adr sh v j)

theorem dg_lt (k : BitVec 32) : dg sh k < 1024 := Nat.mod_lt _ (by decide)

theorem adr_lt {j : ℕ} (hj : j < 25200) : adr sh v j < 16384 := by
  have := dg_lt sh (v j)
  unfold adr
  omega

theorem hst_zero (a : ℕ) : hst sh v 0 a = 0 := by
  unfold hst
  rw [card_eq_zero, filter_eq_empty_iff]
  intro x _ h
  omega

theorem hst_split (n a : ℕ) : hst sh v (n + 1) a = hst sh v n a + ((range 25200).filter fun j => adr sh v j = a ∧ j % 1575 = n).card := by
  unfold hst
  rw [← card_union_of_disjoint]
  · refine congrArg Finset.card ?_
    ext x
    simp only [mem_filter, mem_union]
    constructor
    · rintro ⟨h1, h2, h3⟩
      rcases Nat.lt_succ_iff_lt_or_eq.mp h3 with h | h
      · exact .inl ⟨h1, h2, h⟩
      · exact .inr ⟨h1, h2, h⟩
    · rintro (⟨h1, h2, h3⟩ | ⟨h1, h2, h3⟩)
      · exact ⟨h1, h2, by omega⟩
      · exact ⟨h1, h2, by omega⟩
  · rw [disjoint_left]
    intro x h1 h2
    have := (mem_filter.mp h1).2.2
    have := (mem_filter.mp h2).2.2
    omega

/-- Step `n` counts each lane's position once more. -/
theorem hst_hit {n l : ℕ} (hl : l < 16) (hn : n < 1575) :
    hst sh v (n + 1) (adr sh v (l * 1575 + n)) = hst sh v n (adr sh v (l * 1575 + n)) + 1 := by
  rw [hst_split, Nat.add_left_cancel_iff, card_eq_one]
  refine ⟨l * 1575 + n, ?_⟩
  ext x
  simp only [mem_filter, mem_range, mem_singleton]
  constructor
  · rintro ⟨h1, h2, h3⟩
    unfold adr at h2
    omega
  · rintro rfl
    refine ⟨by omega, rfl, by omega⟩

/-- And nothing else. -/
theorem hst_miss {n a : ℕ} (hn : n < 1575) (h : ∀ l < 16, a ≠ adr sh v (l * 1575 + n)) : hst sh v (n + 1) a = hst sh v n a := by
  rw [hst_split, Nat.add_eq_left, card_eq_zero, filter_eq_empty_iff]
  intro x hx h2
  have hx := mem_range.mp hx
  refine h (x / 1575) (by omega) ?_
  rw [show x / 1575 * 1575 + n = x by omega]
  exact h2.1.symm

theorem strt_zero : strt sh v 0 = 0 := by
  unfold strt
  rw [card_eq_zero, filter_eq_empty_iff]
  intro x _ h
  omega

theorem strt_succ (a : ℕ) : strt sh v (a + 1) = strt sh v a + hst sh v 1575 a := by
  unfold strt hst
  rw [← card_union_of_disjoint]
  · refine congrArg Finset.card ?_
    ext x
    simp only [mem_filter, mem_union]
    constructor
    · rintro ⟨h1, h2⟩
      rcases Nat.lt_succ_iff_lt_or_eq.mp h2 with h | h
      · exact .inl ⟨h1, h⟩
      · exact .inr ⟨h1, h, Nat.mod_lt _ (by decide)⟩
    · rintro (⟨h1, h2⟩ | ⟨h1, h2, h3⟩)
      · exact ⟨h1, by omega⟩
      · exact ⟨h1, by omega⟩
  · rw [disjoint_left]
    intro x h1 h2
    have := (mem_filter.mp h1).2
    have := (mem_filter.mp h2).2.1
    omega

/-- The starts are the prefix sums of the full histogram. -/
theorem strt_eq_sum (a : ℕ) : strt sh v a = ∑ a' ∈ range a, hst sh v 1575 a' := by
  induction a with
  | zero => rw [strt_zero, range_zero, sum_empty]
  | succ a ih => rw [strt_succ, sum_range_succ, ih]

/-- The pass puts position `j` at its rank by digit and position. -/
theorem pos_eq {j : ℕ} (hj : j < 25200) : pos sh v j = rank (fun x => dg sh (v x) * 25200 + x) j := by
  unfold pos strt hst rank
  rw [← card_union_of_disjoint]
  · refine congrArg Finset.card ?_
    ext x
    simp only [mem_filter, mem_union, mem_range]
    unfold adr
    generalize dg sh (v x) = dx
    generalize dg sh (v j) = dj
    constructor
    · rintro (⟨h1, h2⟩ | ⟨h1, h2, h3⟩)
      · exact ⟨h1, by omega⟩
      · exact ⟨h1, by omega⟩
    · rintro ⟨h1, h2⟩
      by_cases h : dx * 16 + x / 1575 < dj * 16 + j / 1575
      · exact .inl ⟨h1, h⟩
      · exact .inr ⟨h1, by omega, by omega⟩
  · rw [disjoint_left]
    intro x h1 h2
    have := (mem_filter.mp h1).2
    have := (mem_filter.mp h2).2.1
    omega

theorem key_inj (d : ℕ → ℕ) : ∀ j < 25200, ∀ j' < 25200, d j * 25200 + j = d j' * 25200 + j' → j = j' := by
  intro j hj j' hj' h
  omega

theorem pos_lt {j : ℕ} (hj : j < 25200) : pos sh v j < 25200 := by
  rw [pos_eq sh v hj]; exact rank_lt _ hj

theorem pos_inj {j j' : ℕ} (hj : j < 25200) (hj' : j' < 25200) (h : pos sh v j = pos sh v j') : j = j' := by
  rw [pos_eq sh v hj, pos_eq sh v hj'] at h
  exact rank_inj _ (key_inj _) hj hj' h

end Pass

/-! ## The passes together -/

/-- The key after `p` passes: the low `10 p` bits, and the position. -/
def gk (K : ℕ → BitVec 32) (p : ℕ) (j : ℕ) : ℕ := (K j).toNat % 2 ^ (10 * p) * 25200 + j

/-- What a row's buffers hold after `p` passes over the keys `K`. -/
structure Sorted (K : ℕ → BitVec 32) (p : ℕ) (k w : ℕ → BitVec 32) : Prop where
  key : ∀ j < 25200, k (rank (gk K p) j) = K j
  idx : ∀ j < 25200, w (rank (gk K p) j) = BitVec.ofNat 32 j

theorem Sorted.zero (K w : ℕ → BitVec 32) (hw : ∀ j < 25200, w j = BitVec.ofNat 32 j) : Sorted K 0 K w := by
  have h : ∀ j < 25200, rank (gk K 0) j = j := by
    intro j hj
    unfold rank gk
    rw [show ((range 25200).filter fun j' => (K j').toNat % 2 ^ (10 * 0) * 25200 + j' < (K j).toNat % 2 ^ (10 * 0) * 25200 + j) = range j from ?_, card_range]
    ext x
    simp only [mem_filter, mem_range, Nat.mul_zero, Nat.pow_zero, Nat.mod_one, Nat.zero_mul, Nat.zero_add]
    omega
  exact ⟨fun j hj => by rw [h j hj], fun j hj => by rw [h j hj]; exact hw j hj⟩

/-- A larger leading part decides the order. -/
theorem lead_lt {x y j j' n : ℕ} (hj' : j' < n) (h : x < y) : x * n + j' < y * n + j := by
  have := Nat.mul_le_mul_right n h
  rw [Nat.succ_mul] at this
  omega

/-- Ordering by a new digit and then by the rank of the old key, or by the key with the digit put in front. -/
theorem order_step {d1 d2 m1 m2 r1 r2 B j j' n : ℕ} (hm2 : m2 < B) (hm1 : m1 < B) (hlt : r2 < r1 ↔ m2 * n + j' < m1 * n + j)
    (h2 : r2 < n) (h1 : r1 < n) (hj' : j' < n) (hj : j < n) :
    (d2 * B + m2) * n + j' < (d1 * B + m1) * n + j ↔ d2 * n + r2 < d1 * n + r1 := by
  rcases lt_trichotomy d2 d1 with hd | hd | hd
  · exact ⟨fun _ => lead_lt h2 hd, fun _ => lead_lt hj' (lead_lt hm2 hd)⟩
  · subst hd
    rw [Nat.add_mul, Nat.add_mul]
    generalize d2 * B * n = x at *
    generalize d2 * n = z at *
    generalize m2 * n = u at *
    generalize m1 * n = w at *
    constructor
    · intro hh; have := hlt.mpr (by omega); omega
    · intro hh; have := hlt.mp (by omega); omega
  · exact ⟨fun h => absurd h (lt_asymm (lead_lt hj (lead_lt hm1 hd))), fun h => absurd h (lt_asymm (lead_lt h1 hd))⟩

/-- A pass over sorted buffers sorts them by ten bits more. -/
theorem Sorted.succ {K : ℕ → BitVec 32} {p : ℕ} {k w k' w' : ℕ → BitVec 32} (h : Sorted K p k w)
    (hk : ∀ q < 25200, k' (pos (10 * p) k q) = k q) (hw : ∀ q < 25200, w' (pos (10 * p) k q) = w q) : Sorted K (p + 1) k' w' := by
  have hinj : ∀ j < 25200, ∀ j' < 25200, gk K p j = gk K p j' → j = j' := key_inj fun j => (K j).toNat % 2 ^ (10 * p)
  have e : ∀ j < 25200, rank (gk K (p + 1)) j = pos (10 * p) k (rank (gk K p) j) := by
    intro j hj
    rw [pos_eq _ _ (rank_lt _ hj), rank_comp _ (rank (gk K p)) (fun j hj => rank_lt _ hj) (fun j hj j' hj' hh => rank_inj _ hinj hj hj' hh)]
    refine rank_congr _ _ fun j' hj' => ?_
    have hlt := rank_lt_iff _ hinj hj' hj
    have h1 := rank_lt (gk K p) hj
    have h2 := rank_lt (gk K p) hj'
    show _ ↔ dg (10 * p) (k (rank (gk K p) j')) * 25200 + rank (gk K p) j' < dg (10 * p) (k (rank (gk K p) j)) * 25200 + rank (gk K p) j
    rw [h.key j hj, h.key j' hj']
    have hs : ∀ x : ℕ, x % 2 ^ (10 * (p + 1)) = x / 2 ^ (10 * p) % 1024 * 2 ^ (10 * p) + x % 2 ^ (10 * p) := by
      intro x
      rw [show 2 ^ (10 * (p + 1)) = 2 ^ (10 * p) * 1024 by rw [show 10 * (p + 1) = 10 * p + 10 by ring, pow_add]; norm_num, Nat.mod_mul]
      ring
    have hm : ∀ x : ℕ, x % 2 ^ (10 * p) < 2 ^ (10 * p) := fun x => Nat.mod_lt _ (by positivity)
    have hm1 := hm (K j).toNat
    have hm2 := hm (K j').toNat
    have g1 : gk K (p + 1) j = (dg (10 * p) (K j) * 2 ^ (10 * p) + (K j).toNat % 2 ^ (10 * p)) * 25200 + j := by
      unfold gk dg; rw [hs]
    have g2 : gk K (p + 1) j' = (dg (10 * p) (K j') * 2 ^ (10 * p) + (K j').toNat % 2 ^ (10 * p)) * 25200 + j' := by
      unfold gk dg; rw [hs]
    rw [g1, g2]
    exact order_step (hm _) (hm _) hlt h2 h1 hj' hj
  exact ⟨fun j hj => by rw [e j hj, hk _ (rank_lt _ hj), h.key j hj], fun j hj => by rw [e j hj, hw _ (rank_lt _ hj), h.idx j hj]⟩

end Cert.Proof.Sort
end
-- ==== Proof.Words.lean ====
/-
  What the sort's registers hold, as numbers: the positions a step reads, the places its keys count at, a chunk's
  prefix sums, and what a scatter of sixteen words leaves.
-/
module

public import proofs.«01_k».proof.Proof.Body
public import proofs.«01_k».proof.Proof.Rank

@[expose] public section

noncomputable section

namespace Cert.Proof.Sort

open Cert.Kernel Cert.Kernel.Gen
open Idealize.ShloMosaic Idealize.SL.Sem

/-! ## Scatters -/

/-- A position no lane names keeps its word. -/
theorem scat_miss {add : Bool} {a : ℕ → ℕ} {w : ℕ → BitVec 32} {j : ℕ} :
    ∀ {L : List ℕ} {v : ℕ → BitVec 32}, (∀ k ∈ L, j ≠ a k) → scat add v a w L j = v j := by
  intro L
  induction L with
  | nil => intro v _; rfl
  | cons k L ih =>
    intro v h
    unfold scat at ih ⊢
    rw [List.foldl_cons, ih fun k' hk' => h k' (List.mem_cons_of_mem _ hk')]
    exact if_neg (h k List.mem_cons_self)

/-- A position one lane names gets that lane's word, or has it added. -/
theorem scat_hit {add : Bool} {a : ℕ → ℕ} {w : ℕ → BitVec 32} {k : ℕ} :
    ∀ {L : List ℕ} {v : ℕ → BitVec 32}, L.Nodup → (∀ k' ∈ L, a k' = a k → k' = k) → k ∈ L →
      scat add v a w L (a k) = if add then v (a k) + w k else w k := by
  intro L
  induction L with
  | nil => intro v _ _ h; exact absurd h List.not_mem_nil
  | cons k0 L ih =>
    intro v hn hi hk
    have hn' := List.nodup_cons.mp hn
    rcases List.mem_cons.mp hk with e | hk'
    · subst e
      have hm : ∀ k' ∈ L, a k ≠ a k' := fun k' hk' hh => hn'.1 (hi k' (List.mem_cons_of_mem _ hk') hh.symm ▸ hk')
      have := scat_miss (add := add) (w := w) (v := fun j => if j = a k then (if add then v (a k) + w k else w k) else v j) hm
      unfold scat at this ⊢
      rw [List.foldl_cons, this]
      exact if_pos rfl
    · have hne : a k ≠ a k0 := fun hh => hn'.1 (by rw [hi k0 List.mem_cons_self hh.symm]; exact hk')
      have := ih (v := fun j => if j = a k0 then (if add then v (a k0) + w k0 else w k0) else v j) hn'.2
        (fun k' h => hi k' (List.mem_cons_of_mem _ h)) hk'
      unfold scat at this ⊢
      rw [List.foldl_cons, this]
      simp only [if_neg hne]

/-! ## The words of a step -/

/-- The lane numbers. -/
theorem v5₀_apply (x : S16.Idx) : v5₀ x = BitVec.ofNat 32 (x 0).val := by
  show BitVec.ofNat 32 ([(0 : Fin 1)].foldl (fun n a => n * S16.size a + (x a).val) 0) = _
  rw [List.foldl_cons, List.foldl_nil, Nat.zero_mul, Nat.zero_add]

/-- The trip's number. -/
theorem iv_eq (t : ℕ) : Scf.iv 0#32 1#32 t = BitVec.ofNat 32 t := by
  show 0#32 + BitVec.ofNat 32 t * 1#32 = _
  rw [BitVec.zero_add, BitVec.mul_one]

/-- The position lane `x` reads at step `t * 5 + r`. -/
theorem idxOf_toNat {t r : ℕ} (h : t * 5 + r < 1575) (x : S16.Idx) :
    (idxOf (Scf.iv 0#32 1#32 t) (BitVec.ofNat 32 r) x).toNat = (x 0).val * 1575 + (t * 5 + r) := by
  have hx : (x 0).val < 16 := (x 0).isLt
  have e : idxOf (Scf.iv 0#32 1#32 t) (BitVec.ofNat 32 r) x = BitVec.ofNat 32 ((x 0).val * 1575 + (t * 5 + r)) := by
    show v5₀ x * 1575#32 + (Scf.iv 0#32 1#32 t * 5#32 + BitVec.ofNat 32 r) = _
    rw [v5₀_apply, iv_eq, BitVec.ofNat_add, BitVec.ofNat_mul, BitVec.ofNat_add, BitVec.ofNat_mul]
  rw [e, BitVec.toNat_ofNat, Nat.mod_eq_of_lt (by omega)]

/-- The place of a key. -/
theorem addrOf_toNat {sh : ℕ} (hs : sh < 32) (v : IVec S16 32) (x : S16.Idx) :
    (addrOf (BitVec.ofNat 32 sh) v x).toNat = dg sh (v x) * 16 + (x 0).val := by
  have hx : (x 0).val < 16 := (x 0).isLt
  have hd := dg_lt sh (v x)
  have e1 : (BitVec.ofNat 32 sh).toNat = sh := by rw [BitVec.toNat_ofNat, Nat.mod_eq_of_lt (by omega)]
  have e : addrOf (BitVec.ofNat 32 sh) v x = ((v x >>> (BitVec.ofNat 32 sh)) &&& 1023#32) * 16#32 + v5₀ x := by
    show (IntOp.shrui .vector (v x) (BitVec.ofNat 32 sh) &&& 1023#32) * 16#32 + v5₀ x = _
    unfold IntOp.shrui
    rw [if_pos (by rw [e1]; exact hs)]
  have e2 : ((v x >>> (BitVec.ofNat 32 sh)) &&& 1023#32).toNat = dg sh (v x) := by
    rw [BitVec.toNat_and, BitVec.ushiftRight_eq', BitVec.toNat_ushiftRight, e1, Nat.shiftRight_eq_div_pow]
    exact Nat.and_two_pow_sub_one_eq_mod _ 10
  rw [e, BitVec.toNat_add, BitVec.toNat_mul, e2, v5₀_apply, BitVec.toNat_ofNat]
  show (dg sh (v x) * 16 % 2 ^ 32 + (x 0).val % 2 ^ 32) % 2 ^ 32 = _
  rw [Nat.mod_eq_of_lt (a := dg sh (v x) * 16) (by omega), Nat.mod_eq_of_lt (a := (x 0).val) (by omega), Nat.mod_eq_of_lt (by omega)]

/-- The complement the program takes. -/
theorem xori_ones (w : IVec S16 32) (x : S16.Idx) : xori w (constantI S16 32 4294967295#32) x = ~~~(w x) := by
  show w x ^^^ 4294967295#32 = _
  rw [show (4294967295#32 : BitVec 32) = BitVec.allOnes 32 by decide, BitVec.xor_allOnes]

/-- A chunk's prefix sums. -/
theorem scan_sum (v : IVec S16 32) (u : ℕ → ℕ) (h : ∀ x : S16.Idx, v x = BitVec.ofNat 32 (u (x 0).val)) (x : S16.Idx) :
    (scan .sum v : IVec S16 32) x = BitVec.ofNat 32 (∑ k ∈ Finset.range ((x 0).val + 1), u k) := by
  have hl : ∀ j : Fin 16, ((List.finRange 16).filter fun k => decide (0 < k.val ∧ k.val ≤ j.val)).map Fin.val = (List.range j.val).map (· + 1) := by decide
  have hf : ∀ m, ((List.range m).map (· + 1)).foldl (fun r k => r + BitVec.ofNat 32 (u k)) (BitVec.ofNat 32 (u 0))
      = BitVec.ofNat 32 (∑ k ∈ Finset.range (m + 1), u k) := by
    intro m
    induction m with
    | zero => simp
    | succ m ih =>
      rw [List.range_succ, List.map_append, List.foldl_append, ih, Finset.sum_range_succ _ (m + 1), BitVec.ofNat_add]
      rfl
  have hg : ∀ L : List (Fin 16), ∀ r, L.foldl (fun r k => ScanKind.step .sum r (v (Shape.ofLane k))) r
      = (L.map Fin.val).foldl (fun r k => r + BitVec.ofNat 32 (u k)) r := by
    intro L
    induction L with
    | nil => intro r; rfl
    | cons k L ih =>
      intro r
      refine (ih _).trans ?_
      rw [List.map_cons, List.foldl_cons]
      refine congrArg (fun r => List.foldl _ r _) ?_
      show r + v (Shape.ofLane k) = _
      rw [h]
      rfl
  refine (hg _ _).trans ?_
  rw [h]
  exact (congrArg (fun L => List.foldl (fun r k => r + BitVec.ofNat 32 (u k)) (BitVec.ofNat 32 (u 0)) L) (hl (x 0))).trans (hf _)

end Cert.Proof.Sort
end
end
-- ==== Proof.Steps.lean ====
/-
  What one step of each of the sort's loops does, with values.
-/
module

public import proofs.«01_k».proof.Proof.Words

@[expose] public section

noncomputable section

namespace Cert.Proof.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## Where the sixteen lanes write -/

section Lanes

variable (sh : ℕ) (v : ℕ → BitVec 32) {n : ℕ} (hn : n < 1575)

include hn

/-- The place of lane `k` at step `n`. -/
theorem adr_lane {k : ℕ} (hk : k < 16) : adr sh v (k * 1575 + n) = dg sh (v (k * 1575 + n)) * 16 + k := by
  unfold adr
  rw [show (k * 1575 + n) / 1575 = k by omega]

/-- A step's additions to a table by places. -/
theorem scat_adr (g g' : ℕ → BitVec 32)
    (hit : ∀ k < 16, g' (adr sh v (k * 1575 + n)) = g (adr sh v (k * 1575 + n)) + 1#32)
    (miss : ∀ j, (∀ k < 16, j ≠ adr sh v (k * 1575 + n)) → g' j = g j)
    (a : ℕ → ℕ) (ha : ∀ k < 16, a k = adr sh v (k * 1575 + n)) (w : ℕ → BitVec 32) (hw : ∀ k, w k = 1#32) (j : ℕ) :
    scat true g a w (List.range 16) j = g' j := by
  by_cases h : ∃ k < 16, j = a k
  · obtain ⟨k, hk, rfl⟩ := h
    rw [scat_hit List.nodup_range ?_ (List.mem_range.mpr hk), if_pos rfl, hw, ha k hk, hit k hk]
    intro k' hk' e
    have hk' := List.mem_range.mp hk'
    rw [ha k hk, ha k' hk', adr_lane sh v hn hk, adr_lane sh v hn hk'] at e
    omega
  · have h' : ∀ k < 16, j ≠ a k := fun k hk e => h ⟨k, hk, e⟩
    rw [scat_miss fun k hk => h' k (List.mem_range.mp hk), miss]
    intro k hk
    rw [← ha k hk]
    exact h' k hk

/-- A step's writes at the positions its keys go to. -/
theorem scat_pos (g : ℕ → BitVec 32) (u : ℕ → BitVec 32) (hg : ∀ j < 25200, j % 1575 < n → g (pos sh v j) = u j)
    (a : ℕ → ℕ) (ha : ∀ k < 16, a k = pos sh v (k * 1575 + n)) (w : ℕ → BitVec 32) (hw : ∀ k < 16, w k = u (k * 1575 + n)) :
    ∀ j < 25200, j % 1575 < n + 1 → scat false g a w (List.range 16) (pos sh v j) = u j := by
  intro j hj hjn
  by_cases h : j % 1575 = n
  · have hk : j / 1575 < 16 := by omega
    have e : j / 1575 * 1575 + n = j := by omega
    have := ha _ hk
    rw [e] at this
    rw [← this, scat_hit List.nodup_range ?_ (List.mem_range.mpr hk), if_neg (by decide), hw _ hk, e]
    intro k' hk' e'
    have hk' := List.mem_range.mp hk'
    rw [this, ha k' hk'] at e'
    have := pos_inj sh v (by omega) hj e'
    omega
  · rw [scat_miss, hg j hj (by omega)]
    intro k hk e
    have hk := List.mem_range.mp hk
    rw [ha k hk] at e
    have := pos_inj sh v hj (by omega) e
    omega

end Lanes

/-! ## The steps -/

section Steps

variable (d : Dev nD) (i : grid0.Coords) (h1 : k0_cond1 i = 1#1)

/-- A program that is done. -/
theorem wp_end {α : Type} {Q : α → sProp 𝕄} (a : α) : Q a ⊢ WP (F := F) d i (pure a) Q := by
  show Q a ⊢ iprop(|={Set.univ}[frame]=> Q a)
  exact fupd_intro

/-- A scatter at the end of a program. -/
theorem wp_stx_end {n : ℕ} {M : TM n} {v : ℕ → BitVec 32} {idx : IVec S16 32} {h : ∀ a x, ((![idx] : Fin 1 → IVec S16 32) a x).toNat < (⟨1, ![n]⟩ : Shape).size a}
    {w : IVec S16 32} {add : Bool} {hs : (M.access (.whole _)).Stores Finset.univ} {Q : PUnit → sProp 𝕄} :
    Holds (F := F) d i M v
      ⊢ iprop((Holds d i M (scat add v (fun k => (idx (ln k)).toNat) (fun k => w (ln k)) (List.range 16)) -∗ Q ⟨⟩)
        -∗ WP d i (SparseCore.vectorStoreIdx (F := F) (e := .i32) M ![idx] w (fun _ => 1#1) add h hs) Q) := by
  rw [← bind_pure (m := Prog (TpuEff nD τ sig (Elt F) Λ₀ (.scVector ((i 0).castLE hcore0) ((i 1).castLE hsub0)))) (SparseCore.vectorStoreIdx (F := F) (e := .i32) M ![idx] w (fun _ => 1#1) add h hs)]
  iintro H Hk
  iapply (wp_stx d i (F := F) (k := pure)) $$ H
  iintro H
  iapply (wp_end d i (F := F))
  iapply Hk
  iexact H

/-- A store at the end of a program. -/
theorem wp_stc_end {n : ℕ} {M : TM n} {v : ℕ → BitVec 32} {o : Fin 1 → ℕ} {inb : ∀ a, o a + S16.size a ≤ (⟨1, ![n]⟩ : Shape).size a}
    {w : IVec S16 32} {Q : PUnit → sProp 𝕄} :
    Holds (F := F) d i M v ⊢ iprop((Holds d i M (putC v (o 0) w) -∗ Q ⟨⟩) -∗ WP d i (stC i M o inb w) Q) := by
  rw [← bind_pure (stC i M o inb w)]
  iintro H Hk
  iapply (wp_stc d i (F := F) (k := pure)) $$ H
  iintro H
  iapply (wp_end d i (F := F))
  iapply Hk
  iexact H

/-- A chunk's words in place. -/
theorem putC_spec (f g : ℕ → BitVec 32) (w : S16.Idx → BitVec 32) {o : ℕ} (n : ℕ) (ho : o = n * 16) (hf : ∀ j < n * 16, f j = g j)
    (hw : ∀ x : S16.Idx, w x = g (o + (x 0).val)) : ∀ j < (n + 1) * 16, putC f o w j = g j := by
  intro j hj
  unfold putC
  by_cases hc : o ≤ j ∧ j < o + 16
  · rw [if_pos hc, hw, ln_zero_val (by omega), show o + (j - o) = j by omega]
  · rw [if_neg hc, hf j (by omega)]

/-- A clearing step. -/
theorem zeroStep_wp {m : ℕ} (M : TM m) (o : Fin 1 → ℕ) (inb : ∀ a, o a + S16.size a ≤ (⟨1, ![m]⟩ : Shape).size a) (n : ℕ) (ho : o 0 = n * 16) :
    iprop(∃ f, ⌜∀ j < n * 16, f j = 0#32⌝ ∗ Holds (F := F) d i M f)
      ⊢ WP d i (zeroStep i M o inb) (fun _ => iprop(∃ f, ⌜∀ j < (n + 1) * 16, f j = 0#32⌝ ∗ Holds (F := F) d i M f)) := by
  iintro ⟨%f, %hf, H⟩
  unfold zeroStep
  iapply (wp_ldc d i (F := F)) $$ H
  iintro H
  iapply (wp_stc_end d i (F := F)) $$ H
  iintro H
  iexists putC f (o 0) k0_pay85
  isplitr
  · ipureintro; exact putC_spec f (fun _ => 0#32) _ n ho hf fun x => rfl
  · iexact H

/-- A step of the first loop. -/
theorem initStep_wp (kb ka va : TM 25200) (b : ℕ → BitVec 32) (t r : ℕ) (ht : t * 5 + r < 1575)
    (inb : ∀ x, offC 5#32 (Scf.iv 0#32 1#32 t) (BitVec.ofNat 32 r) x + S16.size x ≤ S25200.size x) :
    iprop(Holds (F := F) d i kb b ∗ (∃ f, ⌜∀ j < (t * 5 + r) * 16, f j = ~~~(b j)⌝ ∗ Holds (F := F) d i ka f)
        ∗ (∃ f, ⌜∀ j < (t * 5 + r) * 16, f j = BitVec.ofNat 32 j⌝ ∗ Holds (F := F) d i va f))
      ⊢ WP d i (initStep i kb ka va (Scf.iv 0#32 1#32 t) (BitVec.ofNat 32 r) inb) (fun _ =>
        iprop(Holds (F := F) d i kb b ∗ (∃ f, ⌜∀ j < (t * 5 + r + 1) * 16, f j = ~~~(b j)⌝ ∗ Holds (F := F) d i ka f)
        ∗ (∃ f, ⌜∀ j < (t * 5 + r + 1) * 16, f j = BitVec.ofNat 32 j⌝ ∗ Holds (F := F) d i va f))) := by
  have ho : offC 5#32 (Scf.iv 0#32 1#32 t) (BitVec.ofNat 32 r) 0 = (t * 5 + r) * 16 := offC_val 5 t r (by omega)
  iintro ⟨Hb, ⟨%f, %hf, Ha⟩, %g, %hg, Hv⟩
  unfold initStep
  iapply (wp_ldc d i (F := F)) $$ Hb
  iintro Hb
  iapply (wp_ldc d i (F := F)) $$ Ha
  iintro Ha
  iapply (wp_stc d i (F := F)) $$ Ha
  iintro Ha
  iapply (wp_ldc d i (F := F)) $$ Hv
  iintro Hv
  iapply (wp_stc_end d i (F := F)) $$ Hv
  iintro Hv
  isplitl [Hb]
  · iexact Hb
  isplitl [Ha]
  · iexists _
    isplitr
    rotate_left
    · iexact Ha
    · ipureintro; exact putC_spec f (fun j => ~~~(b j)) _ _ ho hf fun x => xori_ones _ x
  · iexists _
    isplitr
    rotate_left
    · iexact Hv
    · ipureintro
      refine putC_spec g (fun j => BitVec.ofNat 32 j) _ _ ho hg fun x => ?_
      show (Scf.iv 0#32 1#32 t * 5#32 + BitVec.ofNat 32 r) * 16#32 + v5₀ x = _
      rw [ho, v5₀_apply, iv_eq, BitVec.ofNat_add, BitVec.ofNat_mul, BitVec.ofNat_add, BitVec.ofNat_mul]

/-- A step of the loop that writes the selected words. -/
theorem valsStep_wp (kb ka : TM 25200) (b : ℕ → BitVec 32) (t r : ℕ) (ht : t * 5 + r < 1575)
    (inb : ∀ x, offC 5#32 (Scf.iv 0#32 1#32 t) (BitVec.ofNat 32 r) x + S16.size x ≤ S25200.size x) :
    iprop(Holds (F := F) d i kb b ∗ (∃ f, ⌜∀ j < (t * 5 + r) * 16, f j = ~~~(b j)⌝ ∗ Holds (F := F) d i ka f))
      ⊢ WP d i (valsStep i kb ka (Scf.iv 0#32 1#32 t) (BitVec.ofNat 32 r) inb) (fun _ =>
        iprop(Holds (F := F) d i kb b ∗ (∃ f, ⌜∀ j < (t * 5 + r + 1) * 16, f j = ~~~(b j)⌝ ∗ Holds (F := F) d i ka f))) := by
  have ho : offC 5#32 (Scf.iv 0#32 1#32 t) (BitVec.ofNat 32 r) 0 = (t * 5 + r) * 16 := offC_val 5 t r (by omega)
  iintro ⟨Hb, %f, %hf, Ha⟩
  unfold valsStep
  iapply (wp_ldc d i (F := F)) $$ Hb
  iintro Hb
  iapply (wp_ldc d i (F := F)) $$ Ha
  iintro Ha
  iapply (wp_stc_end d i (F := F)) $$ Ha
  iintro Ha
  isplitl [Hb]
  · iexact Hb
  · iexists _
    isplitr
    rotate_left
    · iexact Ha
    · ipureintro; exact putC_spec f (fun j => ~~~(b j)) _ _ ho hf fun x => xori_ones _ x

/-- A histogram step. -/
theorem histStep_wp (kin : TM 25200) (offs : TM 16384) (sh : ℕ) (hs : sh < 32) (v : ℕ → BitVec 32) (t r : ℕ) (ht : t * 5 + r < 1575) :
    iprop(Holds (F := F) d i kin v ∗ Holds (F := F) d i offs (fun a => BitVec.ofNat 32 (hst sh v (t * 5 + r) a)))
      ⊢ WP d i (histStep i h1 kin offs (BitVec.ofNat 32 sh) (Scf.iv 0#32 1#32 t) (BitVec.ofNat 32 r)) (fun _ =>
        iprop(Holds (F := F) d i kin v ∗ Holds (F := F) d i offs (fun a => BitVec.ofNat 32 (hst sh v (t * 5 + r + 1) a)))) := by
  have hx : ∀ x : S16.Idx, (x 0).val < 16 := fun x => (x 0).isLt
  have ha : ∀ x : S16.Idx, (addrOf (BitVec.ofNat 32 sh) (fun x => v (idxOf (Scf.iv 0#32 1#32 t) (BitVec.ofNat 32 r) x).toNat) x).toNat
      = adr sh v ((x 0).val * 1575 + (t * 5 + r)) := by
    intro x
    rw [addrOf_toNat hs, idxOf_toNat ht, adr_lane sh v ht (hx x)]
  have hc1 : k0_chk1 i (idxOf (Scf.iv 0#32 1#32 t) (BitVec.ofNat 32 r)) := by
    intro _ a x
    rw [Fin.eq_zero a]
    have := hx x
    exact lt_of_eq_of_lt (idxOf_toNat ht x) (show _ < 25200 by omega)
  have hc2 : k0_chk2 i (addrOf (BitVec.ofNat 32 sh) (fun x => v (idxOf (Scf.iv 0#32 1#32 t) (BitVec.ofNat 32 r) x).toNat)) := by
    intro _ a x
    rw [Fin.eq_zero a]
    have := hx x
    exact lt_of_eq_of_lt (ha x) (adr_lt sh v (by omega))
  iintro ⟨Hk, Ho⟩
  unfold histStep
  iapply (wp_chk d i (F := F) hc1)
  iapply (wp_ldx d i (F := F)) $$ Hk
  iintro Hk
  iapply (wp_chk d i (F := F) hc2)
  iapply (wp_stx_end d i (F := F)) $$ Ho
  iintro Ho
  isplitl [Hk]
  · iexact Hk
  · iapply (Holds.congr (F := F) ?_) $$ Ho
    intro j _
    refine scat_adr sh v ht _ (fun a => BitVec.ofNat 32 (hst sh v (t * 5 + r + 1) a)) ?_ ?_ _ ?_ _ (fun k => rfl) j
    · intro k hk
      show BitVec.ofNat 32 (hst sh v (t * 5 + r + 1) (adr sh v (k * 1575 + (t * 5 + r)))) = _
      rw [hst_hit sh v hk ht, BitVec.ofNat_add]
    · intro j hj
      show BitVec.ofNat 32 (hst sh v (t * 5 + r + 1) j) = _
      rw [hst_miss sh v ht hj]
    · intro k hk
      refine (ha (ln k)).trans ?_
      rw [ln_zero_val hk]

/-- A placing step. -/
theorem placeStep_wp (kin vin kout vout : TM 25200) (offs : TM 16384) (sh : ℕ) (hs : sh < 32) (v w : ℕ → BitVec 32) (t r : ℕ) (ht : t * 5 + r < 1575) :
    iprop(Holds (F := F) d i kin v ∗ Holds (F := F) d i vin w
        ∗ (∃ f, ⌜∀ j < 25200, j % 1575 < t * 5 + r → f (pos sh v j) = v j⌝ ∗ Holds (F := F) d i kout f)
        ∗ (∃ f, ⌜∀ j < 25200, j % 1575 < t * 5 + r → f (pos sh v j) = w j⌝ ∗ Holds (F := F) d i vout f)
        ∗ Holds (F := F) d i offs (fun a => BitVec.ofNat 32 (strt sh v a + hst sh v (t * 5 + r) a)))
      ⊢ WP d i (placeStep i h1 kin vin kout vout offs (BitVec.ofNat 32 sh) (Scf.iv 0#32 1#32 t) (BitVec.ofNat 32 r)) (fun _ =>
        iprop(Holds (F := F) d i kin v ∗ Holds (F := F) d i vin w
        ∗ (∃ f, ⌜∀ j < 25200, j % 1575 < t * 5 + r + 1 → f (pos sh v j) = v j⌝ ∗ Holds (F := F) d i kout f)
        ∗ (∃ f, ⌜∀ j < 25200, j % 1575 < t * 5 + r + 1 → f (pos sh v j) = w j⌝ ∗ Holds (F := F) d i vout f)
        ∗ Holds (F := F) d i offs (fun a => BitVec.ofNat 32 (strt sh v a + hst sh v (t * 5 + r + 1) a)))) := by
  have hx : ∀ x : S16.Idx, (x 0).val < 16 := fun x => (x 0).isLt
  have hix : ∀ x : S16.Idx, (idxOf (Scf.iv 0#32 1#32 t) (BitVec.ofNat 32 r) x).toNat = (x 0).val * 1575 + (t * 5 + r) := idxOf_toNat ht
  have ha : ∀ x : S16.Idx, (addrOf (BitVec.ofNat 32 sh) (fun x => v (idxOf (Scf.iv 0#32 1#32 t) (BitVec.ofNat 32 r) x).toNat) x).toNat
      = adr sh v ((x 0).val * 1575 + (t * 5 + r)) := by
    intro x
    rw [addrOf_toNat hs, hix, adr_lane sh v ht (hx x)]
  generalize hA : addrOf (BitVec.ofNat 32 sh) (fun x => v (idxOf (Scf.iv 0#32 1#32 t) (BitVec.ofNat 32 r) x).toNat) = A at ha
  have hp : ∀ x : S16.Idx, (BitVec.ofNat 32 (strt sh v (A x).toNat + hst sh v (t * 5 + r) (A x).toNat)).toNat = pos sh v ((x 0).val * 1575 + (t * 5 + r)) := by
    intro x
    have := hx x
    have hl := pos_lt sh v (j := (x 0).val * 1575 + (t * 5 + r)) (by omega)
    have e : strt sh v (A x).toNat + hst sh v (t * 5 + r) (A x).toNat = pos sh v ((x 0).val * 1575 + (t * 5 + r)) := by
      unfold pos
      rw [ha, show ((x 0).val * 1575 + (t * 5 + r)) % 1575 = t * 5 + r by omega]
    rw [e, BitVec.toNat_ofNat, Nat.mod_eq_of_lt (by omega)]
  have hc1 : k0_chk11 i (idxOf (Scf.iv 0#32 1#32 t) (BitVec.ofNat 32 r)) := by
    have : ∀ a x, ((![idxOf (Scf.iv 0#32 1#32 t) (BitVec.ofNat 32 r)] : Fin 1 → IVec S16 32) a x).toNat < S25200.size a := by
      intro a x
      rw [Fin.eq_zero a]
      have := hx x
      exact lt_of_eq_of_lt (hix x) (show _ < 25200 by omega)
    exact ⟨fun _ => this, fun _ => this⟩
  have hc2 : k0_chk12 i A := by
    have : ∀ a x, ((![A] : Fin 1 → IVec S16 32) a x).toNat < S16384.size a := by
      intro a x
      rw [Fin.eq_zero a]
      have := hx x
      exact lt_of_eq_of_lt (ha x) (adr_lt sh v (by omega))
    exact ⟨fun _ => this, fun _ => this⟩
  have hc3 : k0_chk13 i (fun x => BitVec.ofNat 32 (strt sh v (A x).toNat + hst sh v (t * 5 + r) (A x).toNat)) := by
    have : ∀ a x, ((![(fun x => BitVec.ofNat 32 (strt sh v (A x).toNat + hst sh v (t * 5 + r) (A x).toNat) : IVec S16 32)] : Fin 1 → IVec S16 32) a x).toNat < S25200.size a := by
      intro a x
      rw [Fin.eq_zero a]
      have := hx x
      exact lt_of_eq_of_lt (hp x) (pos_lt sh v (by omega))
    exact ⟨fun _ => this, fun _ => this⟩
  iintro ⟨Hk, Hv, ⟨%f, %hf, Hko⟩, ⟨%g, %hg, Hvo⟩, Ho⟩
  unfold placeStep
  iapply (wp_chk d i (F := F) hc1)
  iapply (wp_ldx d i (F := F)) $$ Hk
  iintro Hk
  iapply (wp_ldx d i (F := F)) $$ Hv
  iintro Hv
  subst hA
  iapply (wp_chk d i (F := F) hc2)
  iapply (wp_ldx d i (F := F)) $$ Ho
  iintro Ho
  iapply (wp_chk d i (F := F) hc3)
  iapply (wp_stx d i (F := F)) $$ Hko
  iintro Hko
  iapply (wp_stx d i (F := F)) $$ Hvo
  iintro Hvo
  iapply (wp_stx_end d i (F := F)) $$ Ho
  iintro Ho
  isplitl [Hk]
  · iexact Hk
  isplitl [Hv]
  · iexact Hv
  isplitl [Hko]
  · iexists _
    isplitr
    rotate_left
    · iexact Hko
    · ipureintro
      refine scat_pos sh v ht f v hf _ (fun k hk => ?_) _ (fun k hk => ?_)
      · refine (hp (ln k)).trans ?_
        rw [ln_zero_val hk]
      · show v _ = _
        rw [hix, ln_zero_val hk]
  isplitl [Hvo]
  · iexists _
    isplitr
    rotate_left
    · iexact Hvo
    · ipureintro
      refine scat_pos sh v ht g w hg _ (fun k hk => ?_) _ (fun k hk => ?_)
      · refine (hp (ln k)).trans ?_
        rw [ln_zero_val hk]
      · show w _ = _
        rw [hix, ln_zero_val hk]
  · iapply (Holds.congr (F := F) ?_) $$ Ho
    intro j _
    refine scat_adr sh v ht _ (fun a => BitVec.ofNat 32 (strt sh v a + hst sh v (t * 5 + r + 1) a)) ?_ ?_ _ ?_ _ (fun k => rfl) j
    · intro k hk
      show BitVec.ofNat 32 (_ + hst sh v (t * 5 + r + 1) (adr sh v (k * 1575 + (t * 5 + r)))) = _
      rw [hst_hit sh v hk ht, ← Nat.add_assoc, BitVec.ofNat_add]
    · intro j hj
      show BitVec.ofNat 32 (_ + hst sh v (t * 5 + r + 1) j) = _
      rw [hst_miss sh v ht hj]
    · intro k hk
      refine (ha (ln k)).trans ?_
      rw [ln_zero_val hk]

/-- A scan step. -/
theorem scanStep_wp (offs : TM 16384) (h s : ℕ → ℕ) (hs : ∀ j, s (j + 1) = s j + h j) (t r : ℕ) (ht : t * 4 + r < 1024)
    (inb : ∀ x, offC 4#32 (Scf.iv 0#32 1#32 t) (BitVec.ofNat 32 r) x + S16.size x ≤ S16384.size x) :
    Holds (F := F) d i offs (fun j => BitVec.ofNat 32 (if j < (t * 4 + r) * 16 then s j else h j))
      ⊢ WP d i (scanStep i offs (Scf.iv 0#32 1#32 t) (BitVec.ofNat 32 r) inb (BitVec.ofNat 32 (s ((t * 4 + r) * 16)))) (fun run =>
        iprop(⌜run = BitVec.ofNat 32 (s ((t * 4 + r + 1) * 16))⌝
          ∗ Holds (F := F) d i offs (fun j => BitVec.ofNat 32 (if j < (t * 4 + r + 1) * 16 then s j else h j)))) := by
  have ho : offC 4#32 (Scf.iv 0#32 1#32 t) (BitVec.ofNat 32 r) 0 = (t * 4 + r) * 16 := offC_val 4 t r (by omega)
  have hx : ∀ x : S16.Idx, (x 0).val < 16 := fun x => (x 0).isLt
  have hsum : ∀ o m, s o + ∑ k ∈ Finset.range m, h (o + k) = s (o + m) := by
    intro o m
    induction m with
    | zero => simp
    | succ m ih => rw [Finset.sum_range_succ, ← Nat.add_assoc, ih, ← Nat.add_assoc, hs]
  have hv : ∀ x : S16.Idx, BitVec.ofNat 32 (if (t * 4 + r) * 16 + (x 0).val < (t * 4 + r) * 16 then s ((t * 4 + r) * 16 + (x 0).val) else h ((t * 4 + r) * 16 + (x 0).val))
      = BitVec.ofNat 32 ((fun k => h ((t * 4 + r) * 16 + k)) (x 0).val) := by
    intro x
    rw [if_neg (by omega)]
  iintro Ho
  unfold scanStep
  iapply (wp_ldc d i (F := F)) $$ Ho
  iintro Ho
  iapply (wp_ldc d i (F := F)) $$ Ho
  iintro Ho
  iapply (wp_stc d i (F := F)) $$ Ho
  iintro Ho
  rw [ho]
  iapply (wp_end d i (F := F))
  generalize hV : (fun x : S16.Idx => BitVec.ofNat 32 (if (t * 4 + r) * 16 + (x 0).val < (t * 4 + r) * 16 then s ((t * 4 + r) * 16 + (x 0).val) else h ((t * 4 + r) * 16 + (x 0).val))) = W
  have hW : ∀ x, W x = BitVec.ofNat 32 ((fun k => h ((t * 4 + r) * 16 + k)) (x 0).val) := fun x => by rw [← hV]; exact hv x
  have hscan := scan_sum W (fun k => h ((t * 4 + r) * 16 + k)) hW
  have hpre : ∀ x : S16.Idx, BitVec.ofNat 32 (s ((t * 4 + r) * 16)) + (scan .sum W : IVec S16 32) x = BitVec.ofNat 32 (s ((t * 4 + r) * 16 + ((x 0).val + 1))) := by
    intro x
    rw [hscan, ← BitVec.ofNat_add, hsum]
  isplitr
  · ipureintro
    show BitVec.ofNat 32 (s ((t * 4 + r) * 16)) + (scan .sum W : IVec S16 32) _ = _
    rw [hpre]
    refine congrArg (fun n => BitVec.ofNat 32 (s n)) ?_
    show (t * 4 + r) * 16 + (15 + 1) = _
    omega
  · iapply (Holds.congr (F := F) ?_) $$ Ho
    intro j _
    unfold putC
    by_cases hc : (t * 4 + r) * 16 ≤ j ∧ j < (t * 4 + r) * 16 + 16
    · rw [if_pos hc, if_pos (by omega)]
      show BitVec.ofNat 32 (s ((t * 4 + r) * 16)) + (scan .sum W : IVec S16 32) (ln (j - (t * 4 + r) * 16)) - W (ln (j - (t * 4 + r) * 16)) = _
      rw [hpre, hW, ln_zero_val (by omega), ← Nat.add_assoc, hs]
      show _ - BitVec.ofNat 32 (h ((t * 4 + r) * 16 + (j - (t * 4 + r) * 16))) = _
      rw [show (t * 4 + r) * 16 + (j - (t * 4 + r) * 16) = j by omega, BitVec.ofNat_add, BitVec.add_sub_cancel]
    · rw [if_neg hc]
      by_cases hj : j < (t * 4 + r) * 16
      · exact congrArg (BitVec.ofNat 32) ((if_pos hj).trans (if_pos (by omega)).symm)
      · exact congrArg (BitVec.ofNat 32) ((if_neg hj).trans (if_neg (by omega)).symm)

/-- A step of the loop that scatters the selected words. -/
theorem wscatStep_wp (vb kb va : TM 25200) (w k : ℕ → BitVec 32) (ι : ℕ → ℕ) (hw : ∀ q < 5040, w q = BitVec.ofNat 32 (ι q)) (hι : ∀ q < 5040, ι q < 25200)
    (hinj : ∀ q < 5040, ∀ q' < 5040, ι q = ι q' → q = q') (t r : ℕ) (ht : t * 5 + r < 315)
    (inb : ∀ x, offC 5#32 (Scf.iv 0#32 1#32 t) (BitVec.ofNat 32 r) x + S16.size x ≤ S25200.size x) :
    iprop(Holds (F := F) d i vb w ∗ Holds (F := F) d i kb k ∗ (∃ f, ⌜(∀ q < (t * 5 + r) * 16, f (ι q) = ~~~(k q))
        ∧ (∀ j < 25200, (∀ q < (t * 5 + r) * 16, j ≠ ι q) → f j = 0#32)⌝ ∗ Holds (F := F) d i va f))
      ⊢ WP d i (wscatStep i h1 vb kb va (Scf.iv 0#32 1#32 t) (BitVec.ofNat 32 r) inb) (fun _ =>
        iprop(Holds (F := F) d i vb w ∗ Holds (F := F) d i kb k ∗ (∃ f, ⌜(∀ q < (t * 5 + r + 1) * 16, f (ι q) = ~~~(k q))
        ∧ (∀ j < 25200, (∀ q < (t * 5 + r + 1) * 16, j ≠ ι q) → f j = 0#32)⌝ ∗ Holds (F := F) d i va f))) := by
  have ho : offC 5#32 (Scf.iv 0#32 1#32 t) (BitVec.ofNat 32 r) 0 = (t * 5 + r) * 16 := offC_val 5 t r (by omega)
  have hx : ∀ x : S16.Idx, (x 0).val < 16 := fun x => (x 0).isLt
  generalize hn : (t * 5 + r) * 16 = n at ho
  have hn' : (t * 5 + r + 1) * 16 = n + 16 := by omega
  have hn5 : n + 16 ≤ 5040 := by omega
  have hp : ∀ x : S16.Idx, (w (n + (x 0).val)).toNat = ι (n + (x 0).val) := by
    intro x
    have := hx x
    have := hι (n + (x 0).val) (by omega)
    rw [hw _ (by omega), BitVec.toNat_ofNat, Nat.mod_eq_of_lt (by omega)]
  have hpl : ∀ q < 16, (w (n + (ln q 0).val)).toNat = ι (n + q) := by
    intro q hq
    rw [hp, ln_zero_val hq]
  have hc1 : k0_chk76 i (fun x => w (offC 5#32 (Scf.iv 0#32 1#32 t) (BitVec.ofNat 32 r) 0 + (x 0).val)) := by
    rw [ho]
    intro _ a x
    rw [Fin.eq_zero a]
    have := hx x
    exact lt_of_eq_of_lt (hp x) (hι _ (by omega))
  iintro ⟨Hv, Hk, %f, %hf, Ha⟩
  unfold wscatStep
  iapply (wp_ldc d i (F := F)) $$ Hv
  iintro Hv
  rw [hn']
  iapply (wp_chk d i (F := F) hc1)
  iapply (wp_ldc d i (F := F)) $$ Hk
  iintro Hk
  iapply (wp_stx_end d i (F := F)) $$ Ha
  iintro Ha
  isplitl [Hv]
  · iexact Hv
  isplitl [Hk]
  · iexact Hk
  · iexists _
    isplitr
    rotate_left
    · iexact Ha
    · ipureintro
      rw [ho]
      constructor
      · intro q hq
        by_cases hc : n ≤ q
        · have hq' : q - n < 16 := by omega
          have e : ι q = (w (n + (ln (q - n) 0).val)).toNat := by rw [hpl _ hq', show n + (q - n) = q by omega]
          rw [e]
          refine (scat_hit (a := fun k => (w (n + (ln k 0).val)).toNat) (k := q - n) List.nodup_range (fun q2 h2 e2 => ?_) (List.mem_range.mpr hq')).trans ?_
          · have h2 := List.mem_range.mp h2
            have e2 : ι (n + q2) = ι (n + (q - n)) := by rw [← hpl _ h2, ← hpl _ hq']; exact e2
            have := hinj _ (by omega) _ (by omega) e2
            omega
          · rw [if_neg (by decide), xori_ones, ln_zero_val hq', show n + (q - n) = q by omega]
        · rw [scat_miss, hf.1 q (by omega)]
          intro q2 h2 e2
          have h2 := List.mem_range.mp h2
          rw [hpl _ h2] at e2
          have := hinj _ (by omega) _ (by omega) e2
          omega
      · intro j hj hne
        rw [scat_miss, hf.2 j hj fun q hq => hne q (by omega)]
        intro q2 h2 e2
        have h2 := List.mem_range.mp h2
        rw [hpl _ h2] at e2
        exact hne (n + q2) (by omega) e2

end Steps

end Cert.Proof.Sort
end
end
-- ==== Proof.Loops.lean ====
/-
  What each of the sort's loops does, with values, and a whole radix pass.
-/
module

public import proofs.«01_k».proof.Proof.Steps

@[expose] public section

noncomputable section

namespace Cert.Proof.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

section Trips

variable (d : Dev nD) (i : grid0.Coords)

/-- One program after another. -/
theorem wp_seq {α β : Type} {P : sProp 𝕄} {R : α → sProp 𝕄} {Q : β → sProp 𝕄} {p : PR F i α} {k : α → PR F i β}
    (hp : P ⊢ WP d i p R) (hk : ∀ a, R a ⊢ WP d i (k a) Q) : P ⊢ WP d i (p >>= k) Q := by
  refine hp.trans ?_
  unfold WP
  rw [wp_bind]
  exact wp_mono frame _ _ hk

/-- A trip of five steps, by what each step does. -/
theorem five_wp (I : ℕ → sProp 𝕄) (t : ℕ) {s₀ s₁ s₂ s₃ s₄ : PR F i PUnit}
    (h₀ : I (t * 5 + 0) ⊢ WP (F := F) d i s₀ (fun _ => I (t * 5 + 0 + 1))) (h₁ : I (t * 5 + 1) ⊢ WP (F := F) d i s₁ (fun _ => I (t * 5 + 1 + 1)))
    (h₂ : I (t * 5 + 2) ⊢ WP (F := F) d i s₂ (fun _ => I (t * 5 + 2 + 1))) (h₃ : I (t * 5 + 3) ⊢ WP (F := F) d i s₃ (fun _ => I (t * 5 + 3 + 1)))
    (h₄ : I (t * 5 + 4) ⊢ WP (F := F) d i s₄ (fun _ => I (t * 5 + 4 + 1))) :
    I (t * 5) ⊢ WP (F := F) d i (do s₀; s₁; s₂; s₃; s₄; pure 0#32) (fun _ => I ((t + 1) * 5)) := by
  refine wp_seq d i h₀ fun _ => ?_
  refine wp_seq d i h₁ fun _ => ?_
  refine wp_seq d i h₂ fun _ => ?_
  refine wp_seq d i h₃ fun _ => ?_
  refine wp_seq d i h₄ fun _ => ?_
  rw [show (t + 1) * 5 = t * 5 + 4 + 1 by omega]
  exact wp_end d i (F := F) (Q := fun _ => I (t * 5 + 4 + 1)) 0#32

/-- A trip of four steps, by what each step does. -/
theorem four_wp (I : ℕ → sProp 𝕄) (t : ℕ) {s₀ s₁ s₂ s₃ : PR F i PUnit}
    (h₀ : I (t * 4 + 0) ⊢ WP (F := F) d i s₀ (fun _ => I (t * 4 + 0 + 1))) (h₁ : I (t * 4 + 1) ⊢ WP (F := F) d i s₁ (fun _ => I (t * 4 + 1 + 1)))
    (h₂ : I (t * 4 + 2) ⊢ WP (F := F) d i s₂ (fun _ => I (t * 4 + 2 + 1))) (h₃ : I (t * 4 + 3) ⊢ WP (F := F) d i s₃ (fun _ => I (t * 4 + 3 + 1))) :
    I (t * 4) ⊢ WP (F := F) d i (do s₀; s₁; s₂; s₃; pure 0#32) (fun _ => I ((t + 1) * 4)) := by
  refine wp_seq d i h₀ fun _ => ?_
  refine wp_seq d i h₁ fun _ => ?_
  refine wp_seq d i h₂ fun _ => ?_
  refine wp_seq d i h₃ fun _ => ?_
  rw [show (t + 1) * 4 = t * 4 + 3 + 1 by omega]
  exact wp_end d i (F := F) (Q := fun _ => I (t * 4 + 3 + 1)) 0#32

/-- A counted loop at the head of a program, by what each trip does. -/
theorem wp_loop {β : Type} (l : Scf.Loop 32) (n : ℕ) (hl : l.trips = n) (ok : l.OK) (init : BitVec 32) (I : ℕ → BitVec 32 → sProp 𝕄)
    (body : Fin l.trips → BitVec 32 → PR F i (BitVec 32))
    (hb : ∀ t acc, I t.val acc ⊢ WP (F := F) d i (body t acc) (fun a => I (t.val + 1) a)) {kk : BitVec 32 → PR F i β} {Q : β → sProp 𝕄} :
    I 0 init ⊢ iprop((∀ acc, I n acc -∗ WP d i (kk acc) Q) -∗ WP d i (Scf.Loop.for l ok init body >>= kk) Q) := by
  subst hl
  exact Scf.wp_for_bind frame (wpE (defs₀ (F := F)) 𝒱₀ (thr d i) none) Set.univ l.lb l.ub l.st ok init body I hb

end Trips

section Loops

variable (d : Dev nD) (i : grid0.Coords) (h1 : k0_cond1 i = 1#1)
variable (l : Scf.Loop 32) (ok : l.OK) (init : BitVec 32)

/-- Whatever is held, something is held. -/
theorem holds_any {m : ℕ} (M : TM m) (f : ℕ → BitVec 32) : Holds (F := F) d i M f ⊢ iprop(∃ f, ⌜∀ j < 0 * 16, f j = 0#32⌝ ∗ Holds (F := F) d i M f) := by
  iintro H
  iexists f
  isplitr
  · ipureintro; intro j hj; omega
  · iexact H

/-- A clearing loop of four chunks a trip. -/
theorem zeroLoop4 {β : Type} (hl : l.trips = 256) (M : TM 16384) (f : ℕ → BitVec 32) (body : Fin l.trips → BitVec 32 → PR F i (BitVec 32))
    (hb : body = fun (t : Fin l.trips) (_ : BitVec 32) => zeroBody4 i M (Scf.iv 0#32 1#32 t.val) (inb4 t.val (lt_of_lt_of_eq t.isLt hl))) {kk : BitVec 32 → PR F i β} {Q : β → sProp 𝕄} :
    Holds (F := F) d i M f ⊢ iprop((∀ acc, Holds (F := F) d i M (fun _ => 0#32) -∗ WP d i (kk acc) Q) -∗ WP d i (Scf.Loop.for l ok init body >>= kk) Q) := by
  subst hb
  iintro H Hk
  ihave H0 := (holds_any d i M f) $$ H
  ihave H1 := (wp_loop d i l 256 hl ok init (fun t _ => iprop(∃ f, ⌜∀ j < t * 4 * 16, f j = 0#32⌝ ∗ Holds (F := F) d i M f))
    (fun t _ => zeroBody4 i M (Scf.iv 0#32 1#32 t.val) (inb4 t.val (lt_of_lt_of_eq t.isLt hl)))
    (fun t _ => by
      have ht := lt_of_lt_of_eq t.isLt hl
      unfold zeroBody4
      exact four_wp d i (fun n => iprop(∃ f, ⌜∀ j < n * 16, f j = 0#32⌝ ∗ Holds (F := F) d i M f)) t.val
        (zeroStep_wp d i M _ _ _ (offC_val 4 t.val 0 (by omega))) (zeroStep_wp d i M _ _ _ (offC_val 4 t.val 1 (by omega))) (zeroStep_wp d i M _ _ _ (offC_val 4 t.val 2 (by omega))) (zeroStep_wp d i M _ _ _ (offC_val 4 t.val 3 (by omega))))) $$ H0
  iapply H1
  iintro %acc ⟨%g, %hg, H⟩
  iapply Hk
  iapply (Holds.congr (F := F) fun j hj => hg j hj) $$ H

/-- The clearing loop of five chunks a trip. -/
theorem zeroLoop5 {β : Type} (hl : l.trips = 315) (M : TM 25200) (f : ℕ → BitVec 32) (body : Fin l.trips → BitVec 32 → PR F i (BitVec 32))
    (hb : body = fun (t : Fin l.trips) (_ : BitVec 32) => zeroBody5 i M (Scf.iv 0#32 1#32 t.val) (inb5 t.val (lt_of_lt_of_eq t.isLt hl))) {kk : BitVec 32 → PR F i β} {Q : β → sProp 𝕄} :
    Holds (F := F) d i M f ⊢ iprop((∀ acc, Holds (F := F) d i M (fun _ => 0#32) -∗ WP d i (kk acc) Q) -∗ WP d i (Scf.Loop.for l ok init body >>= kk) Q) := by
  subst hb
  iintro H Hk
  ihave H0 := (holds_any d i M f) $$ H
  ihave H1 := (wp_loop d i l 315 hl ok init (fun t _ => iprop(∃ f, ⌜∀ j < t * 5 * 16, f j = 0#32⌝ ∗ Holds (F := F) d i M f))
    (fun t _ => zeroBody5 i M (Scf.iv 0#32 1#32 t.val) (inb5 t.val (lt_of_lt_of_eq t.isLt hl)))
    (fun t _ => by
      have ht := lt_of_lt_of_eq t.isLt hl
      unfold zeroBody5
      exact five_wp d i (fun n => iprop(∃ f, ⌜∀ j < n * 16, f j = 0#32⌝ ∗ Holds (F := F) d i M f)) t.val
        (zeroStep_wp d i M _ _ _ (offC_val 5 t.val 0 (by omega))) (zeroStep_wp d i M _ _ _ (offC_val 5 t.val 1 (by omega))) (zeroStep_wp d i M _ _ _ (offC_val 5 t.val 2 (by omega))) (zeroStep_wp d i M _ _ _ (offC_val 5 t.val 3 (by omega))) (zeroStep_wp d i M _ _ _ (offC_val 5 t.val 4 (by omega))))) $$ H0
  iapply H1
  iintro %acc ⟨%g, %hg, H⟩
  iapply Hk
  iapply (Holds.congr (F := F) fun j hj => hg j hj) $$ H

/-- The first loop: the complements of the words, and the positions. -/
theorem initLoop {β : Type} (hl : l.trips = 315) (kb ka va : TM 25200) (b f g : ℕ → BitVec 32) (body : Fin l.trips → BitVec 32 → PR F i (BitVec 32))
    (hb : body = fun (t : Fin l.trips) (_ : BitVec 32) => initBody i kb ka va (Scf.iv 0#32 1#32 t.val) (inb5 t.val (lt_of_lt_of_eq t.isLt hl))) {kk : BitVec 32 → PR F i β} {Q : β → sProp 𝕄} :
    iprop(Holds (F := F) d i kb b ∗ Holds (F := F) d i ka f ∗ Holds (F := F) d i va g)
      ⊢ iprop((∀ acc, (Holds (F := F) d i kb b ∗ Holds (F := F) d i ka (fun j => ~~~(b j)) ∗ Holds (F := F) d i va (fun j => BitVec.ofNat 32 j)) -∗ WP d i (kk acc) Q)
        -∗ WP d i (Scf.Loop.for l ok init body >>= kk) Q) := by
  subst hb
  iintro ⟨Hb, Ha, Hv⟩ Hk
  ihave H1 := (wp_loop d i l 315 hl ok init (fun t _ => iprop(Holds (F := F) d i kb b ∗ (∃ f, ⌜∀ j < (t * 5) * 16, f j = ~~~(b j)⌝ ∗ Holds (F := F) d i ka f)
        ∗ (∃ f, ⌜∀ j < (t * 5) * 16, f j = BitVec.ofNat 32 j⌝ ∗ Holds (F := F) d i va f)))
    (fun t _ => initBody i kb ka va (Scf.iv 0#32 1#32 t.val) (inb5 t.val (lt_of_lt_of_eq t.isLt hl)))
    (fun t _ => by
      have ht := lt_of_lt_of_eq t.isLt hl
      unfold initBody
      exact five_wp d i (fun n => iprop(Holds (F := F) d i kb b ∗ (∃ f, ⌜∀ j < n * 16, f j = ~~~(b j)⌝ ∗ Holds (F := F) d i ka f)
        ∗ (∃ f, ⌜∀ j < n * 16, f j = BitVec.ofNat 32 j⌝ ∗ Holds (F := F) d i va f))) t.val
        (initStep_wp d i kb ka va b t.val 0 (by omega) _) (initStep_wp d i kb ka va b t.val 1 (by omega) _) (initStep_wp d i kb ka va b t.val 2 (by omega) _) (initStep_wp d i kb ka va b t.val 3 (by omega) _) (initStep_wp d i kb ka va b t.val 4 (by omega) _))) $$ [Hb Ha Hv]
  · isplitl [Hb]; · iexact Hb
    isplitl [Ha]
    · iexists f; isplitr
      · ipureintro; intro j hj; omega
      · iexact Ha
    · iexists g; isplitr
      · ipureintro; intro j hj; omega
      · iexact Hv
  iapply H1
  iintro %acc ⟨Hb, ⟨%f', %hf, Ha⟩, %g', %hg, Hv⟩
  iapply Hk
  isplitl [Hb]; · iexact Hb
  isplitl [Ha]
  · iapply (Holds.congr (F := F) fun j hj => hf j hj) $$ Ha
  · iapply (Holds.congr (F := F) fun j hj => hg j hj) $$ Hv

/-- The loop that writes the selected words. -/
theorem valsLoop {β : Type} (hl : l.trips = 63) (kb ka : TM 25200) (b f : ℕ → BitVec 32) (body : Fin l.trips → BitVec 32 → PR F i (BitVec 32))
    (hb : body = fun (t : Fin l.trips) (_ : BitVec 32) => valsBody i kb ka (Scf.iv 0#32 1#32 t.val) (inb5 t.val (lt_trans (lt_of_lt_of_eq t.isLt hl) (by decide)))) {kk : BitVec 32 → PR F i β} {Q : β → sProp 𝕄} :
    iprop(Holds (F := F) d i kb b ∗ Holds (F := F) d i ka f)
      ⊢ iprop((∀ acc, (Holds (F := F) d i kb b ∗ ∃ f, ⌜∀ j < 5040, f j = ~~~(b j)⌝ ∗ Holds (F := F) d i ka f) -∗ WP d i (kk acc) Q)
        -∗ WP d i (Scf.Loop.for l ok init body >>= kk) Q) := by
  subst hb
  iintro ⟨Hb, Ha⟩ Hk
  ihave H1 := (wp_loop d i l 63 hl ok init (fun t _ => iprop(Holds (F := F) d i kb b ∗ (∃ f, ⌜∀ j < (t * 5) * 16, f j = ~~~(b j)⌝ ∗ Holds (F := F) d i ka f)))
    (fun t _ => valsBody i kb ka (Scf.iv 0#32 1#32 t.val) (inb5 t.val (lt_trans (lt_of_lt_of_eq t.isLt hl) (by decide))))
    (fun t _ => by
      have ht := lt_of_lt_of_eq t.isLt hl
      unfold valsBody
      exact five_wp d i (fun n => iprop(Holds (F := F) d i kb b ∗ (∃ f, ⌜∀ j < n * 16, f j = ~~~(b j)⌝ ∗ Holds (F := F) d i ka f))) t.val
        (valsStep_wp d i kb ka b t.val 0 (by omega) _) (valsStep_wp d i kb ka b t.val 1 (by omega) _) (valsStep_wp d i kb ka b t.val 2 (by omega) _) (valsStep_wp d i kb ka b t.val 3 (by omega) _) (valsStep_wp d i kb ka b t.val 4 (by omega) _))) $$ [Hb Ha]
  · isplitl [Hb]; · iexact Hb
    iexists f; isplitr
    · ipureintro; intro j hj; omega
    · iexact Ha
  iapply H1
  iintro %acc ⟨Hb, ⟨%f', %hf, Ha⟩⟩
  iapply Hk
  isplitl [Hb]; · iexact Hb
  iexists f'; isplitr
  · ipureintro; exact hf
  · iexact Ha

/-- A histogram loop. -/
theorem histLoop {β : Type} (hl : l.trips = 315) (kin : TM 25200) (offs : TM 16384) (sh : ℕ) (hs : sh < 32) (v : ℕ → BitVec 32)
    (body : Fin l.trips → BitVec 32 → PR F i (BitVec 32))
    (hb : body = fun (t : Fin l.trips) (_ : BitVec 32) => histBody i h1 kin offs (BitVec.ofNat 32 sh) (Scf.iv 0#32 1#32 t.val)) {kk : BitVec 32 → PR F i β} {Q : β → sProp 𝕄} :
    iprop(Holds (F := F) d i kin v ∗ Holds (F := F) d i offs (fun _ => 0#32))
      ⊢ iprop((∀ acc, (Holds (F := F) d i kin v ∗ Holds (F := F) d i offs (fun a => BitVec.ofNat 32 (hst sh v 1575 a))) -∗ WP d i (kk acc) Q)
        -∗ WP d i (Scf.Loop.for l ok init body >>= kk) Q) := by
  subst hb
  iintro ⟨Hv, Ho⟩ Hk
  ihave H1 := (wp_loop d i l 315 hl ok init (fun t _ => iprop(Holds (F := F) d i kin v ∗ Holds (F := F) d i offs (fun a => BitVec.ofNat 32 (hst sh v (t * 5) a))))
    (fun t _ => histBody i h1 kin offs (BitVec.ofNat 32 sh) (Scf.iv 0#32 1#32 t.val))
    (fun t _ => by
      have ht := lt_of_lt_of_eq t.isLt hl
      unfold histBody
      exact five_wp d i (fun n => iprop(Holds (F := F) d i kin v ∗ Holds (F := F) d i offs (fun a => BitVec.ofNat 32 (hst sh v n a)))) t.val
        (histStep_wp d i h1 kin offs sh hs v t.val 0 (by omega)) (histStep_wp d i h1 kin offs sh hs v t.val 1 (by omega)) (histStep_wp d i h1 kin offs sh hs v t.val 2 (by omega)) (histStep_wp d i h1 kin offs sh hs v t.val 3 (by omega)) (histStep_wp d i h1 kin offs sh hs v t.val 4 (by omega)))) $$ [Hv Ho]
  · isplitl [Hv]; · iexact Hv
    iapply (Holds.congr (F := F) fun j hj => ?_) $$ Ho
    rw [Nat.zero_mul, hst_zero]
  iapply H1
  iintro %acc H
  iapply Hk
  iexact H

/-- A scan loop. -/
theorem scanLoop {β : Type} (hl : l.trips = 256) (offs : TM 16384) (sh : ℕ) (v : ℕ → BitVec 32)
    (body : Fin l.trips → BitVec 32 → PR F i (BitVec 32))
    (hb : body = fun (t : Fin l.trips) (run : BitVec 32) => scanBody i offs (Scf.iv 0#32 1#32 t.val) (inb4 t.val (lt_of_lt_of_eq t.isLt hl)) run) {kk : BitVec 32 → PR F i β} {Q : β → sProp 𝕄} :
    Holds (F := F) d i offs (fun a => BitVec.ofNat 32 (hst sh v 1575 a))
      ⊢ iprop((∀ acc, Holds (F := F) d i offs (fun a => BitVec.ofNat 32 (strt sh v a)) -∗ WP d i (kk acc) Q)
        -∗ WP d i (Scf.Loop.for l ok 0#32 body >>= kk) Q) := by
  subst hb
  iintro Ho Hk
  ihave H1 := (wp_loop d i l 256 hl ok 0#32 (fun t run => iprop(⌜run = BitVec.ofNat 32 (strt sh v (t * 4 * 16))⌝
      ∗ Holds (F := F) d i offs (fun j => BitVec.ofNat 32 (if j < t * 4 * 16 then strt sh v j else hst sh v 1575 j))))
    (fun t run => scanBody i offs (Scf.iv 0#32 1#32 t.val) (inb4 t.val (lt_of_lt_of_eq t.isLt hl)) run) ?_) $$ [Ho]
  · intro t run
    have ht := lt_of_lt_of_eq t.isLt hl
    have key : ∀ (r : ℕ) (hr : r < 4) (inb) (run), iprop(⌜run = BitVec.ofNat 32 (strt sh v ((t.val * 4 + r) * 16))⌝
        ∗ Holds (F := F) d i offs (fun j => BitVec.ofNat 32 (if j < (t.val * 4 + r) * 16 then strt sh v j else hst sh v 1575 j)))
        ⊢ WP d i (scanStep i offs (Scf.iv 0#32 1#32 t.val) (BitVec.ofNat 32 r) inb run) (fun run => iprop(⌜run = BitVec.ofNat 32 (strt sh v ((t.val * 4 + r + 1) * 16))⌝
        ∗ Holds (F := F) d i offs (fun j => BitVec.ofNat 32 (if j < (t.val * 4 + r + 1) * 16 then strt sh v j else hst sh v 1575 j)))) := by
      intro r hr inb run
      iintro ⟨%hr', Ho⟩
      subst hr'
      iapply (scanStep_wp d i offs (hst sh v 1575) (strt sh v) (strt_succ sh v) t.val r (by omega) _) $$ Ho
    unfold scanBody
    refine wp_seq d i (key 0 (by decide) _ _) fun run => ?_
    refine wp_seq d i (key 1 (by decide) _ _) fun run => ?_
    refine wp_seq d i (key 2 (by decide) _ _) fun run => ?_
    rw [show (t.val + 1) * 4 = t.val * 4 + 3 + 1 by omega]
    exact key 3 (by decide) _ _
  · isplitr
    · ipureintro; first | exact congrArg (BitVec.ofNat 32) (strt_zero sh v).symm | exact congrArg (BitVec.ofNat 32) strt_zero.symm
    · iapply (Holds.congr (F := F) fun j hj => ?_) $$ Ho
      exact congrArg (BitVec.ofNat 32) (if_neg (by omega)).symm
  iapply H1
  iintro %acc ⟨-, Ho⟩
  iapply Hk
  iapply (Holds.congr (F := F) fun j hj => ?_) $$ Ho
  rw [if_pos hj]

/-- A placing loop. -/
theorem placeLoop {β : Type} (hl : l.trips = 315) (kin vin kout vout : TM 25200) (offs : TM 16384) (sh : ℕ) (hs : sh < 32) (v w f g : ℕ → BitVec 32)
    (body : Fin l.trips → BitVec 32 → PR F i (BitVec 32))
    (hb : body = fun (t : Fin l.trips) (_ : BitVec 32) => placeBody i h1 kin vin kout vout offs (BitVec.ofNat 32 sh) (Scf.iv 0#32 1#32 t.val)) {kk : BitVec 32 → PR F i β} {Q : β → sProp 𝕄} :
    iprop(Holds (F := F) d i kin v ∗ Holds (F := F) d i vin w ∗ Holds (F := F) d i kout f ∗ Holds (F := F) d i vout g
        ∗ Holds (F := F) d i offs (fun a => BitVec.ofNat 32 (strt sh v a)))
      ⊢ iprop((∀ acc, (∃ k' w' o', ⌜(∀ q < 25200, k' (pos sh v q) = v q) ∧ ∀ q < 25200, w' (pos sh v q) = w q⌝
          ∗ Holds (F := F) d i kin v ∗ Holds (F := F) d i vin w ∗ Holds (F := F) d i kout k' ∗ Holds (F := F) d i vout w' ∗ Holds (F := F) d i offs o') -∗ WP d i (kk acc) Q)
        -∗ WP d i (Scf.Loop.for l ok init body >>= kk) Q) := by
  subst hb
  iintro ⟨Hv, Hw, Hf, Hg, Ho⟩ Hk
  ihave H1 := (wp_loop d i l 315 hl ok init (fun t _ => iprop(Holds (F := F) d i kin v ∗ Holds (F := F) d i vin w
        ∗ (∃ f, ⌜∀ j < 25200, j % 1575 < t * 5 → f (pos sh v j) = v j⌝ ∗ Holds (F := F) d i kout f)
        ∗ (∃ f, ⌜∀ j < 25200, j % 1575 < t * 5 → f (pos sh v j) = w j⌝ ∗ Holds (F := F) d i vout f)
        ∗ Holds (F := F) d i offs (fun a => BitVec.ofNat 32 (strt sh v a + hst sh v (t * 5) a))))
    (fun t _ => placeBody i h1 kin vin kout vout offs (BitVec.ofNat 32 sh) (Scf.iv 0#32 1#32 t.val))
    (fun t _ => by
      have ht := lt_of_lt_of_eq t.isLt hl
      unfold placeBody
      exact five_wp d i (fun n => iprop(Holds (F := F) d i kin v ∗ Holds (F := F) d i vin w
        ∗ (∃ f, ⌜∀ j < 25200, j % 1575 < n → f (pos sh v j) = v j⌝ ∗ Holds (F := F) d i kout f)
        ∗ (∃ f, ⌜∀ j < 25200, j % 1575 < n → f (pos sh v j) = w j⌝ ∗ Holds (F := F) d i vout f)
        ∗ Holds (F := F) d i offs (fun a => BitVec.ofNat 32 (strt sh v a + hst sh v n a)))) t.val
        (placeStep_wp d i h1 kin vin kout vout offs sh hs v w t.val 0 (by omega)) (placeStep_wp d i h1 kin vin kout vout offs sh hs v w t.val 1 (by omega)) (placeStep_wp d i h1 kin vin kout vout offs sh hs v w t.val 2 (by omega)) (placeStep_wp d i h1 kin vin kout vout offs sh hs v w t.val 3 (by omega)) (placeStep_wp d i h1 kin vin kout vout offs sh hs v w t.val 4 (by omega)))) $$ [Hv Hw Hf Hg Ho]
  · isplitl [Hv]; · iexact Hv
    isplitl [Hw]; · iexact Hw
    isplitl [Hf]
    · iexists f; isplitr
      · ipureintro; intro j _ hj; omega
      · iexact Hf
    isplitl [Hg]
    · iexists g; isplitr
      · ipureintro; intro j _ hj; omega
      · iexact Hg
    iapply (Holds.congr (F := F) fun j hj => ?_) $$ Ho
    exact congrArg (BitVec.ofNat 32) (by rw [Nat.zero_mul, hst_zero, Nat.add_zero])
  iapply H1
  iintro %acc ⟨Hv, Hw, ⟨%f', %hf, Hf⟩, ⟨%g', %hg, Hg⟩, Ho⟩
  iapply Hk
  iexists f', g', _
  isplitr
  rotate_left
  · isplitl [Hv]; · iexact Hv
    isplitl [Hw]; · iexact Hw
    isplitl [Hf]; · iexact Hf
    isplitl [Hg]; · iexact Hg
    iexact Ho
  · ipureintro
    exact ⟨fun q hq => hf q hq (Nat.mod_lt _ (by decide)), fun q hq => hg q hq (Nat.mod_lt _ (by decide))⟩

/-- The loop that scatters the selected words to their positions. -/
theorem wscatLoop {β : Type} (hl : l.trips = 63) (vb kb va : TM 25200) (w k : ℕ → BitVec 32) (ι : ℕ → ℕ) (hw : ∀ q < 5040, w q = BitVec.ofNat 32 (ι q)) (hι : ∀ q < 5040, ι q < 25200)
    (hinj : ∀ q < 5040, ∀ q' < 5040, ι q = ι q' → q = q') (body : Fin l.trips → BitVec 32 → PR F i (BitVec 32))
    (hb : body = fun (t : Fin l.trips) (_ : BitVec 32) => wscatBody i h1 vb kb va (Scf.iv 0#32 1#32 t.val) (inb5 t.val (lt_trans (lt_of_lt_of_eq t.isLt hl) (by decide)))) {kk : BitVec 32 → PR F i β} {Q : β → sProp 𝕄} :
    iprop(Holds (F := F) d i vb w ∗ Holds (F := F) d i kb k ∗ Holds (F := F) d i va (fun _ => 0#32))
      ⊢ iprop((∀ acc, (Holds (F := F) d i vb w ∗ Holds (F := F) d i kb k ∗ ∃ f, ⌜(∀ q < 5040, f (ι q) = ~~~(k q))
          ∧ (∀ j < 25200, (∀ q < 5040, j ≠ ι q) → f j = 0#32)⌝ ∗ Holds (F := F) d i va f) -∗ WP d i (kk acc) Q)
        -∗ WP d i (Scf.Loop.for l ok init body >>= kk) Q) := by
  subst hb
  iintro ⟨Hw, Hk, Ha⟩ Hkk
  ihave H1 := (wp_loop d i l 63 hl ok init (fun t _ => iprop(Holds (F := F) d i vb w ∗ Holds (F := F) d i kb k ∗ (∃ f, ⌜(∀ q < (t * 5) * 16, f (ι q) = ~~~(k q))
        ∧ (∀ j < 25200, (∀ q < (t * 5) * 16, j ≠ ι q) → f j = 0#32)⌝ ∗ Holds (F := F) d i va f)))
    (fun t _ => wscatBody i h1 vb kb va (Scf.iv 0#32 1#32 t.val) (inb5 t.val (lt_trans (lt_of_lt_of_eq t.isLt hl) (by decide))))
    (fun t _ => by
      have ht := lt_of_lt_of_eq t.isLt hl
      unfold wscatBody
      exact five_wp d i (fun n => iprop(Holds (F := F) d i vb w ∗ Holds (F := F) d i kb k ∗ (∃ f, ⌜(∀ q < n * 16, f (ι q) = ~~~(k q))
        ∧ (∀ j < 25200, (∀ q < n * 16, j ≠ ι q) → f j = 0#32)⌝ ∗ Holds (F := F) d i va f))) t.val
        (wscatStep_wp d i h1 vb kb va w k ι hw hι hinj t.val 0 (by omega) _) (wscatStep_wp d i h1 vb kb va w k ι hw hι hinj t.val 1 (by omega) _) (wscatStep_wp d i h1 vb kb va w k ι hw hι hinj t.val 2 (by omega) _) (wscatStep_wp d i h1 vb kb va w k ι hw hι hinj t.val 3 (by omega) _) (wscatStep_wp d i h1 vb kb va w k ι hw hι hinj t.val 4 (by omega) _))) $$ [Hw Hk Ha]
  · isplitl [Hw]; · iexact Hw
    isplitl [Hk]; · iexact Hk
    iexists (fun _ => 0#32); isplitr
    · ipureintro; exact ⟨fun q hq => by omega, fun j _ _ => rfl⟩
    · iexact Ha
  iapply H1
  iintro %acc H
  iapply Hkk
  iexact H

end Loops

end Cert.Proof.Sort
end
end
-- ==== Proof.Sort.lean ====
/-
  A radix pass, and what a sorted row says.
-/
module

public import proofs.«01_k».proof.Proof.Loops

@[expose] public section

noncomputable section

namespace Cert.Proof.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## The order of a row -/

/-- The keys of a row of words `b`: their complements. -/
def kys (b : ℕ → BitVec 32) (j : ℕ) : BitVec 32 := ~~~(b j)

/-- The place of position `j` in the sorted order of the row `b`. -/
def sg (b : ℕ → BitVec 32) (j : ℕ) : ℕ := rank (gk (kys b) 3) j

theorem sg_lt (b : ℕ → BitVec 32) {j : ℕ} (hj : j < 25200) : sg b j < 25200 := rank_lt _ hj

theorem sg_inj (b : ℕ → BitVec 32) {j j' : ℕ} (hj : j < 25200) (hj' : j' < 25200) (h : sg b j = sg b j') : j = j' :=
  rank_inj _ (key_inj _) hj hj' h

open Classical in
/-- The position whose place in the sorted order is `p`. -/
def io (b : ℕ → BitVec 32) (p : ℕ) : ℕ := if h : ∃ j < 25200, sg b j = p then h.choose else 0

theorem io_spec (b : ℕ → BitVec 32) {p : ℕ} (hp : p < 25200) : io b p < 25200 ∧ sg b (io b p) = p := by
  have h : ∃ j < 25200, sg b j = p := rank_surj _ (key_inj _) hp
  unfold io
  rw [dif_pos h]
  exact h.choose_spec

theorem io_sg (b : ℕ → BitVec 32) {j : ℕ} (hj : j < 25200) : io b (sg b j) = j :=
  sg_inj b (io_spec b (sg_lt b hj)).1 hj (io_spec b (sg_lt b hj)).2

theorem io_inj (b : ℕ → BitVec 32) {p q : ℕ} (hp : p < 25200) (hq : q < 25200) (h : io b p = io b q) : p = q := by
  rw [← (io_spec b hp).2, h, (io_spec b hq).2]

/-- The map's row: the word where it is selected, zero elsewhere. -/
def wRow (b : ℕ → BitVec 32) (j : ℕ) : BitVec 32 := if sg b j < 5040 then b j else 0#32

/-- The selected words' row. -/
def tRow (b : ℕ → BitVec 32) (p : ℕ) : BitVec 32 := b (io b p)

section Sorted

variable {b k w : ℕ → BitVec 32} (h : Sorted (kys b) 3 k w)
include h

/-- The sorted keys are the complements of the selected words. -/
theorem Sorted.tRow {p : ℕ} (hp : p < 25200) : ~~~(k p) = tRow b p := by
  have := h.key (io b p) (io_spec b hp).1
  rw [show rank (gk (kys b) 3) (io b p) = p from (io_spec b hp).2] at this
  rw [this]
  exact BitVec.not_not

/-- The sorted positions are the order's. -/
theorem Sorted.io {p : ℕ} (hp : p < 25200) : w p = BitVec.ofNat 32 (io b p) := by
  have := h.idx (Sort.io b p) (io_spec b hp).1
  rwa [show rank (gk (kys b) 3) (Sort.io b p) = p from (io_spec b hp).2] at this

/-- The scattered row is the map's. -/
theorem Sorted.wRow {f : ℕ → BitVec 32} (hf : ∀ q < 5040, f (Sort.io b q) = ~~~(k q)) (hz : ∀ j < 25200, (∀ q < 5040, j ≠ Sort.io b q) → f j = 0#32) {j : ℕ} (hj : j < 25200) :
    f j = wRow b j := by
  unfold Sort.wRow
  split
  · next hs =>
    have := hf _ hs
    rw [io_sg b hj] at this
    rw [this, h.tRow (sg_lt b hj), Sort.tRow, io_sg b hj]
  · next hs =>
    refine hz j hj fun q hq e => hs ?_
    rw [e, (io_spec b (by omega)).2]
    exact hq

end Sorted

/-! ## A pass -/

variable (d : Dev nD) (i : grid0.Coords) (h1 : k0_cond1 i = 1#1)

/-- A pass of the sort over the digit at `10 p`: clear, count, sum, place. -/
theorem pass_wp {β : Type} (l₁ l₂ l₃ l₄ : Scf.Loop 32) (ok₁ : l₁.OK) (ok₂ : l₂.OK) (ok₃ : l₃.OK) (ok₄ : l₄.OK) (e₁ : l₁.trips = 256) (e₂ : l₂.trips = 315)
    (e₃ : l₃.trips = 256) (e₄ : l₄.trips = 315) (a₁ a₂ a₄ : BitVec 32) (kin vin kout vout : TM 25200) (offs : TM 16384) (p : ℕ) (hs : 10 * p < 32)
    (K k w f g o : ℕ → BitVec 32) (hk : Sorted K p k w)
    (b₁ : Fin l₁.trips → BitVec 32 → PR F i (BitVec 32)) (h₁ : b₁ = fun (t : Fin l₁.trips) (_ : BitVec 32) => zeroBody4 i offs (Scf.iv 0#32 1#32 t.val) (inb4 t.val (lt_of_lt_of_eq t.isLt e₁)))
    (b₂ : Fin l₂.trips → BitVec 32 → PR F i (BitVec 32)) (h₂ : b₂ = fun (t : Fin l₂.trips) (_ : BitVec 32) => histBody i h1 kin offs (BitVec.ofNat 32 (10 * p)) (Scf.iv 0#32 1#32 t.val))
    (b₃ : Fin l₃.trips → BitVec 32 → PR F i (BitVec 32)) (h₃ : b₃ = fun (t : Fin l₃.trips) (run : BitVec 32) => scanBody i offs (Scf.iv 0#32 1#32 t.val) (inb4 t.val (lt_of_lt_of_eq t.isLt e₃)) run)
    (b₄ : Fin l₄.trips → BitVec 32 → PR F i (BitVec 32)) (h₄ : b₄ = fun (t : Fin l₄.trips) (_ : BitVec 32) => placeBody i h1 kin vin kout vout offs (BitVec.ofNat 32 (10 * p)) (Scf.iv 0#32 1#32 t.val))
    {kk : BitVec 32 → PR F i β} {Q : β → sProp 𝕄} :
    iprop(Holds (F := F) d i kin k ∗ Holds (F := F) d i vin w ∗ Holds (F := F) d i kout f ∗ Holds (F := F) d i vout g ∗ Holds (F := F) d i offs o)
      ⊢ iprop((∀ acc, (∃ k' w' o', ⌜Sorted K (p + 1) k' w'⌝
          ∗ Holds (F := F) d i kin k ∗ Holds (F := F) d i vin w ∗ Holds (F := F) d i kout k' ∗ Holds (F := F) d i vout w' ∗ Holds (F := F) d i offs o') -∗ WP d i (kk acc) Q)
        -∗ WP d i (Scf.Loop.for l₁ ok₁ a₁ b₁ >>= fun _ => Scf.Loop.for l₂ ok₂ a₂ b₂ >>= fun _ => Scf.Loop.for l₃ ok₃ 0#32 b₃ >>= fun _ => Scf.Loop.for l₄ ok₄ a₄ b₄ >>= kk) Q) := by
  iintro ⟨Hk, Hw, Hf, Hg, Ho⟩ HQ
  iapply (zeroLoop4 d i l₁ ok₁ a₁ e₁ offs o b₁ h₁) $$ Ho
  iintro %_ Ho
  iapply (histLoop d i h1 l₂ ok₂ a₂ e₂ kin offs (10 * p) hs k b₂ h₂) $$ [Hk Ho]
  · isplitl [Hk]; · iexact Hk
    iexact Ho
  iintro %_ ⟨Hk, Ho⟩
  iapply (scanLoop d i l₃ ok₃ e₃ offs (10 * p) k b₃ h₃) $$ Ho
  iintro %_ Ho
  iapply (placeLoop d i h1 l₄ ok₄ a₄ e₄ kin vin kout vout offs (10 * p) hs k w f g b₄ h₄) $$ [Hk Hw Hf Hg Ho]
  · isplitl [Hk]; · iexact Hk
    isplitl [Hw]; · iexact Hw
    isplitl [Hf]; · iexact Hf
    isplitl [Hg]; · iexact Hg
    iexact Ho
  iintro %acc ⟨%k', %w', %o', %hh, Hk, Hw, Hf, Hg, Ho⟩
  iapply HQ
  iexists k', w', o'
  isplitr
  · ipureintro; exact hk.succ hh.1 hh.2
  isplitl [Hk]; · iexact Hk
  isplitl [Hw]; · iexact Hw
  isplitl [Hf]; · iexact Hf
  isplitl [Hg]; · iexact Hg
  iexact Ho

end Cert.Proof.Sort
end
end
-- ==== Proof.Tile.lean ====
/-
  One tile's run: its row in, the sort, its two rows out.
-/
module

public import proofs.«01_k».proof.Proof.Sort

@[expose] public section

noncomputable section

namespace Cert.Proof.Sort

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The words, as the body table passes them. -/
abbrev bW : Memref Cert.Kernel.sig Kind.scVector Space.hbm Cert.Kernel.S201600 EltTy.i32 := Memref.whole Cert.Kernel.main_v1_scv
/-- The selected words, as the body table passes them. -/
abbrev tW : Memref Cert.Kernel.sig Kind.scVector Space.hbm Cert.Kernel.S40320 EltTy.i32 := Memref.whole Cert.Kernel.main_v2_0_scv
/-- The map, as the body table passes them. -/
abbrev mW : Memref Cert.Kernel.sig Kind.scVector Space.hbm Cert.Kernel.S201600 EltTy.i32 := Memref.whole Cert.Kernel.main_v2_1_scv
/-- The keys, as the body table passes them. -/
abbrev kaW : Memref Cert.Kernel.sig Kind.scVector Space.vmem Cert.Kernel.S25200 EltTy.i32 := Memref.whole Cert.Kernel.cc0_scratch0
/-- The positions, as the body table passes them. -/
abbrev vaW : Memref Cert.Kernel.sig Kind.scVector Space.vmem Cert.Kernel.S25200 EltTy.i32 := Memref.whole Cert.Kernel.cc0_scratch1
/-- The other keys, as the body table passes them. -/
abbrev kbW : Memref Cert.Kernel.sig Kind.scVector Space.vmem Cert.Kernel.S25200 EltTy.i32 := Memref.whole Cert.Kernel.cc0_scratch2
/-- The other positions, as the body table passes them. -/
abbrev vbW : Memref Cert.Kernel.sig Kind.scVector Space.vmem Cert.Kernel.S25200 EltTy.i32 := Memref.whole Cert.Kernel.cc0_scratch3
/-- The histogram, as the body table passes them. -/
abbrev oW : Memref Cert.Kernel.sig Kind.scVector Space.vmem Cert.Kernel.S16384 EltTy.i32 := Memref.whole Cert.Kernel.cc0_scratch4

section Loops

variable (d : Dev nD) (i : grid0.Coords) (arg2 : Memref sig .scVector .hbm S201600 .i32) (harg2 : arg2.IsWhole) (arg3 : Memref sig .scVector .hbm S40320 .i32) (harg3 : arg3.IsWhole)
  (arg4 : Memref sig .scVector .hbm S201600 .i32) (harg4 : arg4.IsWhole) (arg5 : TM 25200) (harg5 : arg5.IsWhole)
  (arg6 : TM 25200) (harg6 : arg6.IsWhole) (arg7 : TM 25200) (harg7 : arg7.IsWhole)
  (arg8 : TM 25200) (harg8 : arg8.IsWhole) (arg9 : TM 16384) (harg9 : arg9.IsWhole)
  (r0 r1 r2 : DmaSems sig S_) (v1 : BitVec 32) (h1 : k0_cond1 i = 1#1)

/-- The tile's loops up to the selected words: the row sorted by three passes. -/
theorem sort_wp {β : Type} (b f₅ f₆ f₈ f₉ : ℕ → BitVec 32) {kk : BitVec 32 → PR F i β} {Q : β → sProp 𝕄} :
    iprop(Holds (F := F) d i arg7 b ∗ Holds (F := F) d i arg5 f₅ ∗ Holds (F := F) d i arg6 f₆ ∗ Holds (F := F) d i arg8 f₈ ∗ Holds (F := F) d i arg9 f₉)
      ⊢ iprop((∀ acc, (∃ k w g o, ⌜Sorted (kys b) 3 k w⌝ ∗ Holds (F := F) d i arg7 k ∗ Holds (F := F) d i arg8 w ∗ (∃ f, ⌜∀ j < 5040, f j = tRow b j⌝ ∗ Holds (F := F) d i arg5 f)
            ∗ Holds (F := F) d i arg6 g ∗ Holds (F := F) d i arg9 o) -∗ WP d i (kk acc) Q)
        -∗ WP d i (Scf.Loop.for k0_t1_loop (k0_t1_ok i h1) 0#32 (k0_t1_body i arg2 harg2 arg3 harg3 arg4 harg4 arg5 harg5 arg6 harg6 arg7 harg7 arg8 harg8 arg9 harg9 r0 r1 r2 v1 h1 v5₀) >>= fun _ =>
          Scf.Loop.for k0_t2_loop (k0_t2_ok i h1) 0#32 (k0_t2_body i arg2 harg2 arg3 harg3 arg4 harg4 arg5 harg5 arg6 harg6 arg7 harg7 arg8 harg8 arg9 harg9 r0 r1 r2 v1 h1) >>= fun _ =>
          Scf.Loop.for k0_t3_loop (k0_t3_ok i h1) 0#32 (k0_t3_body i arg2 harg2 arg3 harg3 arg4 harg4 arg5 harg5 arg6 harg6 arg7 harg7 arg8 harg8 arg9 harg9 r0 r1 r2 v1 h1 v5₀) >>= fun _ =>
          Scf.Loop.for k0_t4_loop (k0_t4_ok i h1) 0#32 (k0_t4_body i arg2 harg2 arg3 harg3 arg4 harg4 arg5 harg5 arg6 harg6 arg7 harg7 arg8 harg8 arg9 harg9 r0 r1 r2 v1 h1) >>= fun _ =>
          Scf.Loop.for k0_t5_loop (k0_t5_ok i h1) 0#32 (k0_t5_body i arg2 harg2 arg3 harg3 arg4 harg4 arg5 harg5 arg6 harg6 arg7 harg7 arg8 harg8 arg9 harg9 r0 r1 r2 v1 h1 v5₀) >>= fun _ =>
          Scf.Loop.for k0_t6_loop (k0_t6_ok i h1) 0#32 (k0_t6_body i arg2 harg2 arg3 harg3 arg4 harg4 arg5 harg5 arg6 harg6 arg7 harg7 arg8 harg8 arg9 harg9 r0 r1 r2 v1 h1) >>= fun _ =>
          Scf.Loop.for k0_t7_loop (k0_t7_ok i h1) 0#32 (k0_t7_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t8_loop (k0_t8_ok i h1) 0#32 (k0_t8_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t9_loop (k0_t9_ok i h1) 0#32 (k0_t9_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t10_loop (k0_t10_ok i h1) 0#32 (k0_t10_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t11_loop (k0_t11_ok i h1) 0#32 (k0_t11_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t12_loop (k0_t12_ok i h1) 0#32 (k0_t12_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t13_loop (k0_t13_ok i h1) 0#32 (k0_t13_body i arg2 harg2 arg3 harg3 arg4 harg4 arg5 harg5 arg6 harg6 arg7 harg7 arg8 harg8 arg9 harg9 r0 r1 r2 v1 h1 v5₀ k0_pay83 k0_pay84 k0_pay85 0#32 0#32) >>= fun _ =>
          Scf.Loop.for k0_t14_loop (k0_t14_ok i h1) 0#32 (k0_t14_body i arg2 harg2 arg3 harg3 arg4 harg4 arg5 harg5 arg6 harg6 arg7 harg7 arg8 harg8 arg9 harg9 r0 r1 r2 v1 h1 v5₀ k0_pay83 k0_pay84 k0_pay85 0#32 0#32) >>= kk) Q) := by
  iintro ⟨H7, H5, H6, H8, H9⟩ HQ
  iapply (initLoop d i k0_t1_loop (k0_t1_ok i h1) 0#32 rfl arg7 arg5 arg6 b f₅ f₆ _ (t1_eq i arg2 harg2 arg3 harg3 arg4 harg4 arg5 harg5 arg6 harg6 arg7 harg7 arg8 harg8 arg9 harg9 r0 r1 r2 v1 h1)) $$ [H7 H5 H6]
  · isplitl [H7]; · iexact H7
    isplitl [H5]; · iexact H5
    iexact H6
  iintro %_ ⟨H7, H5, H6⟩
  iapply (pass_wp d i h1 k0_t2_loop k0_t3_loop k0_t4_loop k0_t5_loop (k0_t2_ok i h1) (k0_t3_ok i h1) (k0_t4_ok i h1) (k0_t5_ok i h1) rfl rfl rfl rfl 0#32 0#32 0#32
    arg5 arg6 arg7 arg8 arg9 0 (by decide) (kys b) _ _ _ _ _ (Sorted.zero _ _ fun _ _ => rfl)
    _ (t2_eq i arg2 harg2 arg3 harg3 arg4 harg4 arg5 harg5 arg6 harg6 arg7 harg7 arg8 harg8 arg9 harg9 r0 r1 r2 v1 h1) _ (t3_eq i arg2 harg2 arg3 harg3 arg4 harg4 arg5 harg5 arg6 harg6 arg7 harg7 arg8 harg8 arg9 harg9 r0 r1 r2 v1 h1) _ (t4_eq i arg2 harg2 arg3 harg3 arg4 harg4 arg5 harg5 arg6 harg6 arg7 harg7 arg8 harg8 arg9 harg9 r0 r1 r2 v1 h1) _ (t5_eq i arg2 harg2 arg3 harg3 arg4 harg4 arg5 harg5 arg6 harg6 arg7 harg7 arg8 harg8 arg9 harg9 r0 r1 r2 v1 h1)) $$ [H7 H5 H6 H8 H9]
  · isplitl [H5]; · iexact H5
    isplitl [H6]; · iexact H6
    isplitl [H7]; · iexact H7
    isplitl [H8]; · iexact H8
    iexact H9
  iintro %_ ⟨%k, %w, %o, %hk, H5, H6, H7, H8, H9⟩
  iapply (pass_wp d i h1 k0_t6_loop k0_t7_loop k0_t8_loop k0_t9_loop (k0_t6_ok i h1) (k0_t7_ok i h1) (k0_t8_ok i h1) (k0_t9_ok i h1) rfl rfl rfl rfl 0#32 0#32 0#32
    arg7 arg8 arg5 arg6 arg9 1 (by decide) (kys b) _ _ _ _ _ hk
    _ (t6_eq i arg2 harg2 arg3 harg3 arg4 harg4 arg5 harg5 arg6 harg6 arg7 harg7 arg8 harg8 arg9 harg9 r0 r1 r2 v1 h1) _ (t7_eq i arg2 harg2 arg3 harg3 arg4 harg4 arg5 harg5 arg6 harg6 arg7 harg7 arg8 harg8 arg9 harg9 r0 r1 r2 v1 h1) _ (t8_eq i arg2 harg2 arg3 harg3 arg4 harg4 arg5 harg5 arg6 harg6 arg7 harg7 arg8 harg8 arg9 harg9 r0 r1 r2 v1 h1) _ (t9_eq i arg2 harg2 arg3 harg3 arg4 harg4 arg5 harg5 arg6 harg6 arg7 harg7 arg8 harg8 arg9 harg9 r0 r1 r2 v1 h1)) $$ [H7 H5 H6 H8 H9]
  · isplitl [H7]; · iexact H7
    isplitl [H8]; · iexact H8
    isplitl [H5]; · iexact H5
    isplitl [H6]; · iexact H6
    iexact H9
  iintro %_ ⟨%k₂, %w₂, %o₂, %hk₂, H7, H8, H5, H6, H9⟩
  iapply (pass_wp d i h1 k0_t10_loop k0_t11_loop k0_t12_loop k0_t13_loop (k0_t10_ok i h1) (k0_t11_ok i h1) (k0_t12_ok i h1) (k0_t13_ok i h1) rfl rfl rfl rfl 0#32 0#32 0#32
    arg5 arg6 arg7 arg8 arg9 2 (by decide) (kys b) _ _ _ _ _ hk₂
    _ (t10_eq i arg2 harg2 arg3 harg3 arg4 harg4 arg5 harg5 arg6 harg6 arg7 harg7 arg8 harg8 arg9 harg9 r0 r1 r2 v1 h1) _ (t11_eq i arg2 harg2 arg3 harg3 arg4 harg4 arg5 harg5 arg6 harg6 arg7 harg7 arg8 harg8 arg9 harg9 r0 r1 r2 v1 h1) _ (t12_eq i arg2 harg2 arg3 harg3 arg4 harg4 arg5 harg5 arg6 harg6 arg7 harg7 arg8 harg8 arg9 harg9 r0 r1 r2 v1 h1) _ (t13_eq i arg2 harg2 arg3 harg3 arg4 harg4 arg5 harg5 arg6 harg6 arg7 harg7 arg8 harg8 arg9 harg9 r0 r1 r2 v1 h1)) $$ [H7 H5 H6 H8 H9]
  · isplitl [H5]; · iexact H5
    isplitl [H6]; · iexact H6
    isplitl [H7]; · iexact H7
    isplitl [H8]; · iexact H8
    iexact H9
  iintro %_ ⟨%k₃, %w₃, %o₃, %hk₃, H5, H6, H7, H8, H9⟩
  iapply (valsLoop d i k0_t14_loop (k0_t14_ok i h1) 0#32 rfl arg7 arg5 k₃ _ _ (t14_eq i arg2 harg2 arg3 harg3 arg4 harg4 arg5 harg5 arg6 harg6 arg7 harg7 arg8 harg8 arg9 harg9 r0 r1 r2 v1 h1)) $$ [H7 H5]
  · isplitl [H7]; · iexact H7
    iexact H5
  iintro %_ ⟨H7, %f, %hf, H5⟩
  iapply HQ
  iexists k₃, w₃, _, o₃
  isplitr
  · ipureintro; exact hk₃
  isplitl [H7]; · iexact H7
  isplitl [H8]; · iexact H8
  isplitl [H5]
  · iexists f; isplitr
    · ipureintro; intro j hj; rw [hf j hj, hk₃.tRow (by omega)]
    · iexact H5
  isplitl [H6]; · iexact H6
  iexact H9

end Loops

section Whole

variable {d : Dev nD} {i : grid0.Coords} {n : ℕ} {M : TM n}

/-- A scratch array held outright is one that reads some words. -/
theorem holds_of (hM : M.view.set = Finset.univ) (f : Buf (Elt F) (M.view.loc (thr d i))) (v : ℕ → BitVec 32) (hv : ∀ x, M.view.read (Elt F) f x = v (x 0).val) :
    (M.view.loc (thr d i) ↦{fullShare} f : sProp 𝕄) ⊢ Holds d i M v := by
  unfold Holds
  rw [hM]
  iintro H
  iexists f
  isplitr
  · ipureintro; exact hv
  · iexact H

/-- A position of an array of rank one. -/
def ixOf (j : ℕ) (h : j < n) : Shape.Idx ⟨1, ![n]⟩ := fun a => ⟨j, by rw [Fin.eq_zero a]; exact h⟩

theorem ixOf_val (x : Shape.Idx ⟨1, ![n]⟩) : ixOf (x 0).val (x 0).isLt = x := by
  funext a
  obtain rfl := Fin.eq_zero a
  rfl

/-- The words an array holds, by position. -/
def wordsOf (M : TM n) (f : M.view.ty.Contents (Elt F)) (j : ℕ) : BitVec 32 := if h : j < n then M.view.read (Elt F) f (ixOf j h) else 0#32

theorem wordsOf_val (f : M.view.ty.Contents (Elt F)) (x : Shape.Idx ⟨1, ![n]⟩) : M.view.read (Elt F) f x = wordsOf M f (x 0).val := by
  unfold wordsOf
  rw [dif_pos (show (x 0).val < n from (x 0).isLt)]
  exact congrArg _ (ixOf_val x).symm

/-- And conversely. -/
theorem of_holds (hM : M.view.set = Finset.univ) (v : ℕ → BitVec 32) :
    Holds (F := F) d i M v ⊢ iprop(∃ f : Buf (Elt F) (M.view.loc (thr d i)), ⌜∀ x, M.view.read (Elt F) f x = v (x 0).val⌝ ∗ (M.view.loc (thr d i) ↦{fullShare} f)) := by
  unfold Holds
  rw [hM]

/-- Reading back one piece written over a whole view. -/
theorem read_writes_whole {κ : Kind} {sp : Space} {s : Shape} {e : EltTy} (v : View sig κ sp s e) (f : v.ty.Contents (Elt F)) (p : (Rect.whole s).shape.Idx → Elt F e) (x : s.Idx) :
    v.read (Elt F) (v.writes (Elt F) f [⟨Rect.whole s, p⟩]) x = p x := by
  have h := View.read_slice_write_emb (Val := Elt F) (v := v) (Rect.whole s) f p (M := Finset.univ) (x := x) (Finset.mem_univ _)
  rwa [Rect.emb_whole_apply] at h

end Whole

section Tile

variable (d : Dev nD) (i : grid0.Coords) (h1 : k0_cond1 i = 1#1)

/-- The tile's row of the words. -/
abbrev bRow : Memref sig .scVector .hbm S25200 .i32 := bW.slice (Rect.unit (s := S201600) (k0_off1 i) S25200.size (k0_off1_inb i h1)) (fun _ => rfl)
/-- The tile's row of the selected words. -/
abbrev tkRow : Memref sig .scVector .hbm S5040 .i32 := tW.slice (Rect.unit (s := S40320) (k0_off10 i) S5040.size (k0_off10_inb i h1)) (fun _ => rfl)
/-- The tile's row of the map. -/
abbrev mRow : Memref sig .scVector .hbm S25200 .i32 := mW.slice (Rect.unit (s := S201600) (k0_off1 i) S25200.size (k0_off1_inb i h1)) (fun _ => rfl)

/-- The tile's program on an agent's row. -/
theorem tile_wp (O : CellTallies nD τ sig (HIx 1)) (W : Waits sig (HIx 1)) (hO : ∀ g, O g none = 0)
    (fb : Buf (Elt F) ((bRow i h1).view.loc (thr d i))) (b : ℕ → BitVec 32) (hb : ∀ x, (bRow i h1).view.read (Elt F) fb x = b (x 0).val) :
    iprop(levAts (K (F := F)).L (K (F := F)).lev
        ∗ ((bRow i h1).view.loc (thr d i) ↦[(bRow i h1).view.set]{fullShare} fb)
        ∗ (∃ f, (tkRow i h1).view.loc (thr d i) ↦[(tkRow i h1).view.set]{fullShare} f)
        ∗ (∃ f, (mRow i h1).view.loc (thr d i) ↦[(mRow i h1).view.set]{fullShare} f)
        ∗ (∃ f, kaW.view.loc (thr d i) ↦{fullShare} f) ∗ (∃ f, vaW.view.loc (thr d i) ↦{fullShare} f) ∗ (∃ f, kbW.view.loc (thr d i) ↦{fullShare} f)
        ∗ (∃ f, vbW.view.loc (thr d i) ↦{fullShare} f) ∗ (∃ f, oW.view.loc (thr d i) ↦{fullShare} f)
        ∗ semVal (thr d i, SemLoc.dma cc0_scoped0.sem) 0 ∗ semVal (thr d i, SemLoc.dma cc0_scoped1.sem) 0 ∗ semVal (thr d i, SemLoc.dma cc0_scoped2.sem) 0
        ∗ owes (thr d i) O W)
      ⊢ WP (F := F) d i (cc0__sort_body i bW (Memref.isWhole_whole _) tW (Memref.isWhole_whole _) mW (Memref.isWhole_whole _) kaW (Memref.isWhole_whole _)
          vaW (Memref.isWhole_whole _) kbW (Memref.isWhole_whole _) vbW (Memref.isWhole_whole _) oW (Memref.isWhole_whole _) cc0_scoped0 cc0_scoped1 cc0_scoped2)
        fun _ => iprop(((bRow i h1).view.loc (thr d i) ↦[(bRow i h1).view.set]{fullShare} fb)
        ∗ (∃ f, ⌜∀ x, (tkRow i h1).view.read (Elt F) f x = tRow b (x 0).val⌝ ∗ (tkRow i h1).view.loc (thr d i) ↦[(tkRow i h1).view.set]{fullShare} f)
        ∗ (∃ f, ⌜∀ x, (mRow i h1).view.read (Elt F) f x = wRow b (x 0).val⌝ ∗ (mRow i h1).view.loc (thr d i) ↦[(mRow i h1).view.set]{fullShare} f)
        ∗ (∃ f, kaW.view.loc (thr d i) ↦{fullShare} f) ∗ (∃ f, vaW.view.loc (thr d i) ↦{fullShare} f) ∗ (∃ f, kbW.view.loc (thr d i) ↦{fullShare} f)
        ∗ (∃ f, vbW.view.loc (thr d i) ↦{fullShare} f) ∗ (∃ f, oW.view.loc (thr d i) ↦{fullShare} f)
        ∗ semVal (thr d i, SemLoc.dma cc0_scoped0.sem) 0 ∗ semVal (thr d i, SemLoc.dma cc0_scoped1.sem) 0 ∗ semVal (thr d i, SemLoc.dma cc0_scoped2.sem) 0
        ∗ ∃ W', ⌜∀ p ∈ W', p ∈ W ∨ p.2 = none⌝ ∗ owes (thr d i) O W') := by
  conv =>
    pattern cc0__sort_body _ _ _ _ _ _ _ _ _ _ _ _ _ _ _ _ _ _ _ _
    rw [cc0__sort_body_eq_skeleton]
    unfold cc0__sort_body_skel
    simp only [dif_pos h1, k0_part17_eq_skeleton, k0_part18_eq_skeleton]
    unfold k0_part17_skel k0_part18_skel
    simp only [bind_assoc, pure_bind]
  unfold bRow tkRow mRow bW tW mW kaW vaW kbW vbW oW WP
  iintro ⟨#Hlv, Hb, ⟨%ft, Ht⟩, ⟨%fm, Hm⟩, ⟨%f0, H0⟩, ⟨%f1, H1⟩, ⟨%f2, H2⟩, ⟨%f3, H3⟩, ⟨%f4, H4⟩, Hs0, Hs1, Hs2, HO⟩
  ihave Hmw := ((K (F := F)).mayWaits_none (thr := thr d i) hO) $$ Hlv
  sl_exec (disch := exact View.amount_pos _ _ (show 0 < S25200.numel by decide))
  iapply (sort_wp d i (Memref.whole main_v1_scv) (Memref.isWhole_whole _) (Memref.whole main_v2_0_scv) (Memref.isWhole_whole _) (Memref.whole main_v2_1_scv) (Memref.isWhole_whole _)
    kaW (Memref.isWhole_whole _) vaW (Memref.isWhole_whole _) kbW (Memref.isWhole_whole _) vbW (Memref.isWhole_whole _) oW (Memref.isWhole_whole _) cc0_scoped0 cc0_scoped1 cc0_scoped2 _ h1
    b (wordsOf kaW f0) (wordsOf vaW f1) (wordsOf vbW f3) (wordsOf oW f4)) $$ [H0 H1 H2 H3 H4]
  · isplitl [H2]
    · iapply (holds_of (M := kbW) (View.set_whole _) _ b (fun x => (congrFun (View.read_write_univ (v := (Memref.whole cc0_scratch2).view) f2 (tile_wp.sl.dma0 d i h1 fb)) x).trans (hb x))) $$ H2
    isplitl [H0]
    · iapply (holds_of (M := kaW) (View.set_whole _) _ _ (wordsOf_val _)) $$ H0
    isplitl [H1]
    · iapply (holds_of (M := vaW) (View.set_whole _) _ _ (wordsOf_val _)) $$ H1
    isplitl [H3]
    · iapply (holds_of (M := vbW) (View.set_whole _) _ _ (wordsOf_val _)) $$ H3
    iapply (holds_of (M := oW) (View.set_whole _) _ _ (wordsOf_val _)) $$ H4
  iintro %_ ⟨%k, %w, %g, %o, %hk, H2, H3, ⟨%fs, %hfs, H0⟩, H1, H4⟩
  icases (of_holds (M := kaW) (View.set_whole _) _) $$ H0 with ⟨%c0, %hc0, H0⟩
  unfold kaW WP
  sl_exec (disch := exact View.amount_pos _ _ (show 0 < S5040.numel by decide))
  iapply (zeroLoop5 d i k0_t15_loop (k0_t15_ok i h1) 0#32 rfl vaW g _ (t15_eq i (Memref.whole main_v1_scv) (Memref.isWhole_whole _) (Memref.whole main_v2_0_scv) (Memref.isWhole_whole _) (Memref.whole main_v2_1_scv) (Memref.isWhole_whole _)
    kaW (Memref.isWhole_whole _) vaW (Memref.isWhole_whole _) kbW (Memref.isWhole_whole _) vbW (Memref.isWhole_whole _) oW (Memref.isWhole_whole _) cc0_scoped0 cc0_scoped1 cc0_scoped2 h1)) $$ H1
  iintro %_ H1
  iapply (wscatLoop d i h1 k0_t16_loop (k0_t16_ok i h1) 0#32 rfl vbW kbW vaW w k (io b) (fun q hq => hk.io (by omega)) (fun q hq => (io_spec b (by omega)).1)
    (fun q hq q' hq' h => io_inj b (by omega) (by omega) h) _ (t16_eq i (Memref.whole main_v1_scv) (Memref.isWhole_whole _) (Memref.whole main_v2_0_scv) (Memref.isWhole_whole _) (Memref.whole main_v2_1_scv) (Memref.isWhole_whole _)
    kaW (Memref.isWhole_whole _) vaW (Memref.isWhole_whole _) kbW (Memref.isWhole_whole _) vbW (Memref.isWhole_whole _) oW (Memref.isWhole_whole _) cc0_scoped0 cc0_scoped1 cc0_scoped2 h1)) $$ [H1 H2 H3]
  · isplitl [H3]; · iexact H3
    isplitl [H2]; · iexact H2
    iexact H1
  iintro %_ ⟨H3, H2, %fw, %hfw, H1⟩
  icases (of_holds (M := vaW) (View.set_whole _) _) $$ H1 with ⟨%c1, %hc1, H1⟩
  unfold vaW WP
  sl_exec (disch := exact View.amount_pos _ _ (show 0 < S25200.numel by decide))
  sl_step
  isplitl [Hb]; · iexact Hb
  isplitl [Ht]
  · iexists _
    isplitr
    rotate_left
    · iexact Ht
    · ipureintro
      intro x
      have hx : (x 0).val < 5040 := (x 0).isLt
      refine (read_writes_whole _ _ _ x).trans ?_
      refine (hc0 _).trans ?_
      refine Eq.trans (congrArg fs ?_) (hfs _ hx)
      show 0 + 1 * (x 0).val = (x 0).val
      omega
  isplitl [Hm]
  · iexists _
    isplitr
    rotate_left
    · iexact Hm
    · ipureintro
      intro x
      refine (read_writes_whole _ _ _ x).trans ?_
      refine (hc1 x).trans ?_
      exact hk.wRow hfw.1 hfw.2 (x 0).isLt
  isplitl [H0]; · iexists _; iexact H0
  isplitl [H1]; · iexists _; iexact H1
  isplitl [H2]
  · icases (of_holds (M := kbW) (View.set_whole _) _) $$ H2 with ⟨%c2, %_, H2⟩
    iexists _; iexact H2
  isplitl [H3]
  · icases (of_holds (M := vbW) (View.set_whole _) _) $$ H3 with ⟨%c3, %_, H3⟩
    iexists _; iexact H3
  isplitl [H4]
  · icases (of_holds (M := oW) (View.set_whole _) _) $$ H4 with ⟨%c4, %_, H4⟩
    iexists _; iexact H4
  isplitl [Hs0]; · iexact Hs0
  isplitl [Hs1]; · iexact Hs1
  isplitl [Hs2]; · iexact Hs2
  iexists _
  isplitr
  rotate_left
  · iexact HO
  · ipureintro
    intro p hp
    simp only [Finset.mem_insert] at hp
    rcases hp with hp | hp | hp | hp
    · exact .inr (hp ▸ rfl)
    · exact .inr (hp ▸ rfl)
    · exact .inr (hp ▸ rfl)
    · exact .inl hp

end Tile

end Cert.Proof.Sort
end
end
-- ==== Proof.Launch.lean ====
/-
  The sort's launch: the rows handed to the tiles and brought back, each tile's obligation.
-/
module

public import proofs.«01_k».proof.Proof.Tile

@[expose] public section

noncomputable section

namespace Cert.Proof.Sort

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## The arrays and their rows -/

/-- The words, the selected words and the map, as locations of device `d`. -/
abbrev bLoc (d : Dev nD) : Loc nD τ sig := (SparseCore.T d).loc main_v1
abbrev tLoc (d : Dev nD) : Loc nD τ sig := (SparseCore.T d).loc main_v2_0
abbrev gLoc (d : Dev nD) : Loc nD τ sig := (SparseCore.T d).loc main_v2_1

/-- The words of row `n`, by position. -/
def rowOf (B : S201600.Idx → BitVec 32) (n j : ℕ) : BitVec 32 := if h : n * 25200 + j < 201600 then B (ixOf (n := 201600) (n * 25200 + j) h) else 0#32

/-- The selected words of all rows. -/
def tkOf (B : S201600.Idx → BitVec 32) : S40320.Idx → BitVec 32 := fun x => tRow (rowOf B ((x 0).val / 5040)) ((x 0).val % 5040)

/-- The maps of all rows. -/
def mapOf (B : S201600.Idx → BitVec 32) : S201600.Idx → BitVec 32 := fun x => wRow (rowOf B ((x 0).val / 25200)) ((x 0).val % 25200)

/-- The elements of row `n` of the words, and of the map. -/
def setB (n : ℕ) : Finset S201600.Idx := Finset.univ.filter fun x => (x 0).val / 25200 = n
/-- The elements of row `n` of the selected words. -/
def setT (n : ℕ) : Finset S40320.Idx := Finset.univ.filter fun x => (x 0).val / 5040 = n

/-- The row of the tile at `i`. -/
def wid (i : grid0.Coords) : ℕ := 2 * (i 1).val + (i 0).val

theorem cond_iff : ∀ i : grid0.Coords, k0_cond1 i = 1#1 ↔ wid i < 8 := by unfold wid; decide +kernel

theorem off1_eq (i : grid0.Coords) : k0_off1 i = ![wid i * 25200] := by
  rw [k0_off1_eq]; unfold wid
  exact congrArg (fun z : ℕ => ![z]) (by omega)
theorem off10_eq (i : grid0.Coords) : k0_off10 i = ![wid i * 5040] := by
  rw [k0_off10_eq]; unfold wid
  exact congrArg (fun z : ℕ => ![z]) (by omega)

section Rows

variable (d : Dev nD) (i : grid0.Coords) (h1 : k0_cond1 i = 1#1)

theorem embB (x : S25200.Idx) : ((bRow i h1).view.emb x 0).val = wid i * 25200 + (x 0).val := by
  show k0_off1 i 0 + 1 * (x 0).val = _
  rw [off1_eq]
  show wid i * 25200 + 1 * (x 0).val = _
  omega
theorem embT (x : S5040.Idx) : ((tkRow i h1).view.emb x 0).val = wid i * 5040 + (x 0).val := by
  show k0_off10 i 0 + 1 * (x 0).val = _
  rw [off10_eq]
  show wid i * 5040 + 1 * (x 0).val = _
  omega

theorem set_bRow : (bRow i h1).view.set = setB (wid i) := by
  show ((View.whole (main_v1_scv : Ref sig .scVector)).slice (Rect.unit (s := S201600) (k0_off1 i) S25200.size (k0_off1_inb i h1))).set = _
  rw [View.set_slice]
  refine Finset.map_refl.trans ?_
  ext x
  unfold setB
  simp only [Finset.mem_filter, Finset.mem_univ, true_and]
  refine Rect.mem_set_unit.trans ?_
  rw [off1_eq]
  constructor
  · intro h
    have := h 0
    simp only [Matrix.cons_val_zero] at this
    omega
  · intro h a
    obtain rfl := Fin.eq_zero a
    simp only [Matrix.cons_val_zero]
    omega

theorem set_mRow : (mRow i h1).view.set = setB (wid i) := set_bRow i h1

theorem set_tkRow : (tkRow i h1).view.set = setT (wid i) := by
  show ((View.whole (main_v2_0_scv : Ref sig .scVector)).slice (Rect.unit (s := S40320) (k0_off10 i) S5040.size (k0_off10_inb i h1))).set = _
  rw [View.set_slice]
  refine Finset.map_refl.trans ?_
  ext x
  unfold setT
  simp only [Finset.mem_filter, Finset.mem_univ, true_and]
  refine Rect.mem_set_unit.trans ?_
  rw [off10_eq]
  constructor
  · intro h
    have := h 0
    simp only [Matrix.cons_val_zero] at this
    omega
  · intro h a
    obtain rfl := Fin.eq_zero a
    simp only [Matrix.cons_val_zero]
    omega

theorem pts_bRow (f : Buf (Elt F) (bLoc d)) :
    ((bRow i h1).view.loc (thr d i) ↦[(bRow i h1).view.set]{fullShare} f : sProp 𝕄) = bLoc d ↦[setB (wid i)]{fullShare} f := by
  rw [set_bRow]
theorem pts_mRow (f : Buf (Elt F) (gLoc d)) :
    ((mRow i h1).view.loc (thr d i) ↦[(mRow i h1).view.set]{fullShare} f : sProp 𝕄) = gLoc d ↦[setB (wid i)]{fullShare} f := by
  rw [set_mRow]
theorem pts_tkRow (f : Buf (Elt F) (tLoc d)) :
    ((tkRow i h1).view.loc (thr d i) ↦[(tkRow i h1).view.set]{fullShare} f : sProp 𝕄) = tLoc d ↦[setT (wid i)]{fullShare} f := by
  rw [set_tkRow]

/-- The tile's row of the words, as its copy reads it. -/
theorem read_bRow (B : Buf (Elt F) (bLoc d)) (x : S25200.Idx) : (bRow i h1).view.read (Elt F) B x = rowOf B (wid i) (x 0).val := by
  refine ((View.read_apply _ _).trans (cast_eq _ _)).trans ?_
  have hx : wid i * 25200 + (x 0).val < 201600 := by
    have h := (cond_iff i).mp h1
    have : (x 0).val < 25200 := (x 0).isLt
    omega
  unfold rowOf
  rw [dif_pos hx]
  refine congrArg B ?_
  funext a
  obtain rfl := Fin.eq_zero a
  exact Fin.ext (embB i h1 x)

/-- What the tile wrote of the selected words. -/
theorem tk_congr (B : Buf (Elt F) (bLoc d)) (f : Buf (Elt F) (tLoc d)) (hf : ∀ x, (tkRow i h1).view.read (Elt F) f x = tRow (rowOf B (wid i)) (x 0).val) :
    ((tkRow i h1).view.loc (thr d i) ↦[(tkRow i h1).view.set]{fullShare} f : sProp 𝕄) = tLoc d ↦[setT (wid i)]{fullShare} (tkOf B : Buf (Elt F) (tLoc d)) := by
  rw [← pts_tkRow d i h1]
  refine pointsTo_congr fun y hy => ?_
  obtain ⟨x, -, rfl⟩ := Finset.mem_map.mp hy
  have hx : (x 0).val < 5040 := (x 0).isLt
  refine Eq.trans (((View.read_apply _ _).trans (cast_eq _ _)).symm.trans (hf x)) ?_
  show _ = tRow (rowOf B (((tkRow i h1).view.emb x 0).val / 5040)) (((tkRow i h1).view.emb x 0).val % 5040)
  rw [embT]
  rw [show (wid i * 5040 + (x 0).val) / 5040 = wid i by omega, show (wid i * 5040 + (x 0).val) % 5040 = (x 0).val by omega]

/-- What the tile wrote of the map. -/
theorem map_congr (B : Buf (Elt F) (bLoc d)) (f : Buf (Elt F) (gLoc d)) (hf : ∀ x, (mRow i h1).view.read (Elt F) f x = wRow (rowOf B (wid i)) (x 0).val) :
    ((mRow i h1).view.loc (thr d i) ↦[(mRow i h1).view.set]{fullShare} f : sProp 𝕄) = gLoc d ↦[setB (wid i)]{fullShare} (mapOf B : Buf (Elt F) (gLoc d)) := by
  rw [← pts_mRow d i h1]
  refine pointsTo_congr fun y hy => ?_
  obtain ⟨x, -, rfl⟩ := Finset.mem_map.mp hy
  have hx : (x 0).val < 25200 := (x 0).isLt
  refine Eq.trans (((View.read_apply _ _).trans (cast_eq _ _)).symm.trans (hf x)) ?_
  show _ = wRow (rowOf B (((bRow i h1).view.emb x 0).val / 25200)) (((bRow i h1).view.emb x 0).val % 25200)
  rw [embB]
  rw [show (wid i * 25200 + (x 0).val) / 25200 = wid i by omega, show (wid i * 25200 + (x 0).val) % 25200 = (x 0).val by omega]

end Rows

/-! ## What the handshakes carry -/

/-- Row `n` of the three arrays (nothing, past the last row). -/
def piece (d : Dev nD) (B : Buf (Elt F) (bLoc d)) (t : Buf (Elt F) (tLoc d)) (g : Buf (Elt F) (gLoc d)) (n : ℕ) : sProp 𝕄 :=
  iprop((bLoc d ↦[setB n]{fullShare} B) ∗ (tLoc d ↦[setT n]{fullShare} t) ∗ (gLoc d ↦[setB n]{fullShare} g))

/-- A tile past the last row holds nothing, so that what it holds may be told as any contents. -/
theorem piece_past (d : Dev nD) (B : Buf (Elt F) (bLoc d)) (t t' : Buf (Elt F) (tLoc d)) (g g' : Buf (Elt F) (gLoc d)) {n : ℕ} (hn : ¬ n < 8) :
    piece d B t g n = piece d B t' g' n := by
  have hB : setB n = ∅ := by
    unfold setB
    refine Finset.filter_eq_empty_iff.mpr fun x _ h => hn ?_
    have : (x 0).val < 201600 := (x 0).isLt
    omega
  have hT : setT n = ∅ := by
    unfold setT
    refine Finset.filter_eq_empty_iff.mpr fun x _ h => hn ?_
    have : (x 0).val < 40320 := (x 0).isLt
    omega
  unfold piece
  have e1 : (tLoc d ↦[setT n]{fullShare} t : sProp 𝕄) = tLoc d ↦[setT n]{fullShare} t' := pointsTo_congr fun i hi => absurd (hT ▸ hi) (Finset.notMem_empty i)
  have e2 : (gLoc d ↦[setB n]{fullShare} g : sProp 𝕄) = gLoc d ↦[setB n]{fullShare} g' := pointsTo_congr fun i hi => absurd (hB ▸ hi) (Finset.notMem_empty i)
  rw [e1, e2]

instance piece_storable (d : Dev nD) (B : Buf (Elt F) (bLoc d)) (t : Buf (Elt F) (tLoc d)) (g : Buf (Elt F) (gLoc d)) (n : ℕ) : BI.Storable (upEmb : UEmb _ 𝕄) (piece d B t g n) := by
  unfold piece; infer_instance

variable (m : (ℓ : Loc nD τ sig) → Buf (Elt F) ℓ)
  (B : (d : Dev nD) → Buf (Elt F) (bLoc d))

/-- A SparseCore takes its tiles' rows of the three arrays, and brings them back with the sort's results. -/
def P : (K (F := F)).Pay (nD := nD) (Val := Elt F) (Name := ℕ) (U := UU) where
  st := fun q d c => match q with | 0 => bigSep Finset.univ fun i : Fin ((K (F := F)).nSub 0) => piece d (B d) (m (tLoc d)) (m (gLoc d)) (2 * i.val + c.val)
  dn := fun q d c => match q with | 0 => bigSep Finset.univ fun i : Fin ((K (F := F)).nSub 0) => piece d (B d) (tkOf (B d)) (mapOf (B d)) (2 * i.val + c.val)
  go := fun q d c i => match q with | 0 => piece d (B d) (m (tLoc d)) (m (gLoc d)) (2 * i.val + c.val)
  td := fun q d c i => match q with | 0 => piece d (B d) (tkOf (B d)) (mapOf (B d)) (2 * i.val + c.val)
  x := fun _ _ => iprop(emp)

instance P_storable : (P (F := F) m B).IsStorable where
  st q d c := match q with
    | 0 => (inferInstance : BI.Storable (upEmb : UEmb _ 𝕄) (bigSep Finset.univ fun i : Fin ((K (F := F)).nSub 0) => piece d (B d) (m (tLoc d)) (m (gLoc d)) (2 * i.val + c.val)))
  dn q d c := match q with
    | 0 => (inferInstance : BI.Storable (upEmb : UEmb _ 𝕄) (bigSep Finset.univ fun i : Fin ((K (F := F)).nSub 0) => piece d (B d) (tkOf (B d)) (mapOf (B d)) (2 * i.val + c.val)))
  go q d c i := match q with
    | 0 => (inferInstance : BI.Storable (upEmb : UEmb _ 𝕄) (piece d (B d) (m (tLoc d)) (m (gLoc d)) (2 * i.val + c.val)))
  td q d c i := match q with
    | 0 => (inferInstance : BI.Storable (upEmb : UEmb _ 𝕄) (piece d (B d) (tkOf (B d)) (mapOf (B d)) (2 * i.val + c.val)))

/-! ## The tile's obligation -/

section Tile

variable (d : Dev nD) (i : grid0.Coords)

abbrev cs0 : GSem nD τ sig := (thr d i, .dma cc0_scoped0.sem)
abbrev cs1 : GSem nD τ sig := (thr d i, .dma cc0_scoped1.sem)
abbrev cs2 : GSem nD τ sig := (thr d i, .dma cc0_scoped2.sem)

theorem cs_mem0 : cs0 d i ∈ ownCells (thr d i) := mem_ownCells.mpr ⟨rfl, by show (SemLoc.dma cc0_scoped0.sem : SemLoc sig).isScoped .scVector = true; decide⟩
theorem cs_mem1 : cs1 d i ∈ ownCells (thr d i) := mem_ownCells.mpr ⟨rfl, by show (SemLoc.dma cc0_scoped1.sem : SemLoc sig).isScoped .scVector = true; decide⟩
theorem cs_mem2 : cs2 d i ∈ ownCells (thr d i) := mem_ownCells.mpr ⟨rfl, by show (SemLoc.dma cc0_scoped2.sem : SemLoc sig).isScoped .scVector = true; decide⟩

theorem cs10 : cs1 d i ≠ cs0 d i := fun h => absurd (Prod.mk.inj h).2 (by decide)
theorem cs20 : cs2 d i ≠ cs0 d i := fun h => absurd (Prod.mk.inj h).2 (by decide)
theorem cs21 : cs2 d i ≠ cs1 d i := fun h => absurd (Prod.mk.inj h).2 (by decide)

/-- The three semaphores of the tile's copies are among its own. -/
theorem sems_eq : (ownSems0 (thr d i) : sProp 𝕄)
    = iprop(semVal (cs0 d i) 0 ∗ semVal (cs1 d i) 0 ∗ semVal (cs2 d i) 0 ∗ bigSep ((((ownCells (thr d i)).erase (cs0 d i)).erase (cs1 d i)).erase (cs2 d i)) fun g => semVal g 0) := by
  unfold SparseCore.Cfg.ownSems0
  rw [SparseCore.bigSep_erase' (cs_mem0 d i), SparseCore.bigSep_erase' (Finset.mem_erase.mpr ⟨cs10 d i, cs_mem1 d i⟩),
    SparseCore.bigSep_erase' (Finset.mem_erase.mpr ⟨cs21 d i, Finset.mem_erase.mpr ⟨cs20 d i, cs_mem2 d i⟩⟩)]

/-- A scratch array of the tile. -/
abbrev sref (i : grid0.Coords) (b : Ref sig .scVector) : DevRef τ sig := (Proc.scVector ((i 0).castLE hcore0) ((i 1).castLE hsub0)).devRef b

theorem sref_ne {a b : Ref sig .scVector} (h : a ≠ b) : sref i a ≠ sref i b := fun e => h (Proc.devRef_injective _ e)

theorem sref_mem {b : Ref sig .scVector} (h : (sref i b).owner = .proc (Proc.scVector ((i 0).castLE hcore0) ((i 1).castLE hsub0))) :
    sref i b ∈ ownRefs (τ := τ) (Proc.scVector ((i 0).castLE hcore0) ((i 1).castLE hsub0)) :=
  SparseCore.Cfg.mem_ownRefs_of_owner (p := Proc.scVector ((i 0).castLE hcore0) ((i 1).castLE hsub0)) h

/-- The tile's five scratch arrays are among its own. -/
theorem bufs_eq : (ownBufs (thr d i) : sProp 𝕄)
    = iprop((∃ f, (thr d i).loc cc0_scratch0 ↦{fullShare} f) ∗ (∃ f, (thr d i).loc cc0_scratch1 ↦{fullShare} f) ∗ (∃ f, (thr d i).loc cc0_scratch2 ↦{fullShare} f)
        ∗ (∃ f, (thr d i).loc cc0_scratch3 ↦{fullShare} f) ∗ (∃ f, (thr d i).loc cc0_scratch4 ↦{fullShare} f)
        ∗ bigSep ((((((ownRefs (τ := τ) (Proc.scVector ((i 0).castLE hcore0) ((i 1).castLE hsub0))).erase (sref i cc0_scratch0)).erase (sref i cc0_scratch1)).erase (sref i cc0_scratch2)).erase
            (sref i cc0_scratch3)).erase (sref i cc0_scratch4)) fun b => iprop(∃ f, ((d, b) : Loc nD τ sig) ↦{fullShare} f)) := by
  unfold SparseCore.Cfg.ownBufs
  refine (SparseCore.bigSep_erase' (sref_mem i (b := cc0_scratch0) rfl)).trans ?_
  rw [SparseCore.bigSep_erase' (Finset.mem_erase.mpr ⟨sref_ne i (by decide), sref_mem i (b := cc0_scratch1) rfl⟩),
    SparseCore.bigSep_erase' (Finset.mem_erase.mpr ⟨sref_ne i (by decide), Finset.mem_erase.mpr ⟨sref_ne i (by decide), sref_mem i (b := cc0_scratch2) rfl⟩⟩),
    SparseCore.bigSep_erase' (Finset.mem_erase.mpr ⟨sref_ne i (by decide), Finset.mem_erase.mpr ⟨sref_ne i (by decide), Finset.mem_erase.mpr ⟨sref_ne i (by decide), sref_mem i (b := cc0_scratch3) rfl⟩⟩⟩),
    SparseCore.bigSep_erase' (Finset.mem_erase.mpr ⟨sref_ne i (by decide), Finset.mem_erase.mpr ⟨sref_ne i (by decide), Finset.mem_erase.mpr ⟨sref_ne i (by decide), Finset.mem_erase.mpr ⟨sref_ne i (by decide),
      sref_mem i (b := cc0_scratch4) rfl⟩⟩⟩⟩)]

/-- A tile's run, from its row to its row's results. -/
theorem tile_body (hF : (K (F := F)).Facts) (O : CellTallies nD τ sig (HIx 1)) (W : Waits sig (HIx 1)) (hO : ∀ g, O g none = 0) :
    iprop(levAts (K (F := F)).L (K (F := F)).lev ∗ emp ∗ piece d (B d) (m (tLoc d)) (m (gLoc d)) (wid i)
        ∗ scopedBufs (thr d i) ∗ scopedSems0 (thr d i) ∗ owes (thr d i) O W)
      ⊢ WP (F := F) d i (cc0__sort_body i bW (Memref.isWhole_whole _) tW (Memref.isWhole_whole _) mW (Memref.isWhole_whole _) kaW (Memref.isWhole_whole _)
          vaW (Memref.isWhole_whole _) kbW (Memref.isWhole_whole _) vbW (Memref.isWhole_whole _) oW (Memref.isWhole_whole _) cc0_scoped0 cc0_scoped1 cc0_scoped2)
        fun _ => iprop(piece d (B d) (tkOf (B d)) (mapOf (B d)) (wid i) ∗ scopedBufs (thr d i) ∗ scopedSems0 (thr d i)
          ∗ ∃ W', ⌜∀ p ∈ W', p ∈ W ∨ p.2 = none⌝ ∗ owes (thr d i) O W') := by
  by_cases h1 : k0_cond1 i = 1#1
  · rw [(K (F := F)).scopedBufs_V hF d ((i 0).castLE hcore0) ((i 1).castLE hsub0), SparseCore.Cfg.scopedSems0_V (Val := Elt F) d ((i 0).castLE hcore0) ((i 1).castLE hsub0)]
    rw [show (ownSems0 (V d ((i 0).castLE hcore0) ((i 1).castLE hsub0)) : sProp 𝕄) = _ from sems_eq d i, show (ownBufs (V d ((i 0).castLE hcore0) ((i 1).castLE hsub0)) : sProp 𝕄) = _ from bufs_eq d i]
    unfold piece
    iintro ⟨#Hlv, -, ⟨Hb, Ht, Hg⟩, ⟨H0, H1, H2, H3, H4, Hbufs⟩, ⟨Hs0, Hs1, Hs2, Hsems⟩, HO⟩
    ihave Hb' := (Entails.of_eq (pts_bRow (F := F) d i h1 _).symm) $$ Hb
    ihave Ht' := (Entails.of_eq (pts_tkRow (F := F) d i h1 _).symm) $$ Ht
    ihave Hg' := (Entails.of_eq (pts_mRow (F := F) d i h1 _).symm) $$ Hg
    ihave Hw := (tile_wp d i h1 O W hO (B d) (rowOf (B d) (wid i)) (read_bRow d i h1 (B d))) $$ [Hb' Ht' Hg' H0 H1 H2 H3 H4 Hs0 Hs1 Hs2 HO]
    · isplitr; · iexact Hlv
      isplitl [Hb']; · iexact Hb'
      isplitl [Ht']; · iexists _; iexact Ht'
      isplitl [Hg']; · iexists _; iexact Hg'
      isplitl [H0]; · iexact H0
      isplitl [H1]; · iexact H1
      isplitl [H2]; · iexact H2
      isplitl [H3]; · iexact H3
      isplitl [H4]; · iexact H4
      isplitl [Hs0]; · iexact Hs0
      isplitl [Hs1]; · iexact Hs1
      isplitl [Hs2]; · iexact Hs2
      iexact HO
    iapply (wp_wand frame) $$ Hw
    iintro %_ ⟨Hb, ⟨%ft, %hft, Ht⟩, ⟨%fg, %hfg, Hg⟩, H0, H1, H2, H3, H4, Hs0, Hs1, Hs2, HO⟩
    ihave Hb' := (Entails.of_eq (pts_bRow (F := F) d i h1 _)) $$ Hb
    ihave Ht' := (Entails.of_eq (tk_congr (F := F) d i h1 (B d) ft hft)) $$ Ht
    ihave Hg' := (Entails.of_eq (map_congr (F := F) d i h1 (B d) fg hfg)) $$ Hg
    isplitl [Hb' Ht' Hg']
    · isplitl [Hb']; · iexact Hb'
      isplitl [Ht']; · iexact Ht'
      iexact Hg'
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [Hs0 Hs1 Hs2 Hsems]
    · isplitl [Hs0]; · iexact Hs0
      isplitl [Hs1]; · iexact Hs1
      isplitl [Hs2]; · iexact Hs2
      iexact Hsems
    iexact HO
  · rw [piece_past d (B d) (m (tLoc d)) (tkOf (B d)) (m (gLoc d)) (mapOf (B d)) (fun h => h1 ((cond_iff i).mpr h))]
    conv =>
      pattern cc0__sort_body _ _ _ _ _ _ _ _ _ _ _ _ _ _ _ _ _ _ _ _
      rw [cc0__sort_body_eq_skeleton]
      unfold cc0__sort_body_skel
      simp only [dif_neg h1]
    iintro ⟨-, -, Hp, Hsb, Hss, HO⟩
    unfold WP
    sl_exec
    sl_step
    isplitl [Hp]; · iexact Hp
    isplitl [Hsb]; · iexact Hsb
    isplitl [Hss]; · iexact Hss
    iexists W
    isplitr
    · ipureintro; exact fun p hp => .inl hp
    · iexact HO

end Tile

end Cert.Proof.Sort
end
end
-- ==== Proof.Mask.lean ====
/-
  The multiplication of the features by the map, as a region of the TensorCore's program: the body at a point of the
  grid leaves the product of its two blocks in the output's buffer, so the region leaves in the output's array the
  features, each times the map at its position.
-/
module

public import proofs.«01_k».proof.Proof.Rules
public import proofs.«01_k».proof.Proof.Gen.Kernel.Launch
public import proofs.«01_k».proof.Proof.Gen.Kernel.Points
public import Idealize.ShloMosaic.Lib.Pipeline.FrameBody
public import Idealize.ShloMosaic.Lib.Pipeline.RegionArrays
public import Idealize.ShloMosaic.Lib.Pipeline.Value
public import Idealize.ShloMosaic.Lib.Ring

@[expose] public section

set_option maxRecDepth 16384

noncomputable section

namespace Cert.Proof.Sort

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [BitOps F]

local notation "𝕄" => MT nD τ sig (HIx 1) (Elt F) ℕ UU ℕ

/-! ## The body -/

/-- The whole block of the features, and that of the map. -/
abbrev rectX : Rect S1x32x100x252 := Rect.unit (s := S1x32x100x252) ![0, 0, 0, 0] S1x32x100x252.size inb_S1x32x100x252_S1x32x100x252_0_0_0_0
abbrev rectW : Rect S1x100x252 := Rect.unit (s := S1x100x252) ![0, 0, 0] S1x100x252.size inb_S1x100x252_S1x100x252_0_0_0

/-- What the body leaves in the output's buffer, of the features' block and of the map's. -/
def prodBlk (x : Vec F S1x32x100x252 .f32) (w : Vec F S1x100x252 .f32) : Vec F S1x32x100x252 .f32 :=
  View.canon [⟨rectX, k1_pay1 (View.ld x rectX) (View.ld w rectW)⟩]

/-- The body's one store covers the output's buffer. -/
theorem rectX_covers (p : Vec F S1x32x100x252 .f32) (y : S1x32x100x252.Idx) :
    ∃ pc ∈ ([⟨rectX, p⟩] : List (View.Piece (Elt F) S1x32x100x252 .f32)), y ∈ pc.1.set :=
  View.cover_of_tiled [⟨rectX, p⟩] S1x32x100x252.size (by rfl) y

set_option maxHeartbeats 1000000 in
/-- The body keeps its two inputs and leaves their product in the output's buffer. -/
theorem mask_body_wp (d : Dev nD) (i : grid1.Coords) (bx : Memref sig .tc .vmem S1x32x100x252 .f32) (hbx : bx.IsWhole)
    (bw : Memref sig .tc .vmem S1x100x252 .f32) (hbw : bw.IsWhole) (bo : Memref sig .tc .vmem S1x32x100x252 .f32) (hbo : bo.IsWhole)
    (x : Vec F S1x32x100x252 .f32) (w : Vec F S1x100x252 .f32) (Φ : PUnit → sProp 𝕄) :
    iprop(owns (d : Thread nD τ) bx fullShare x ∗ owns (d : Thread nD τ) bw fullShare w ∗ (∃ o, owns (d : Thread nD τ) bo fullShare o)
        ∗ (iprop(owns (d : Thread nD τ) bx fullShare x ∗ owns (d : Thread nD τ) bw fullShare w ∗ owns (d : Thread nD τ) bo fullShare (prodBlk x w)) -∗ Φ ⟨⟩))
      ⊢ wp frame (wpE (defs₀ (F := F)) 𝒱₀ d none) Set.univ (cc1__mask_body i bx hbx bw hbw bo hbo) Φ := by
  rw [cc1__mask_body_eq_skeleton]
  unfold cc1__mask_body_skel owns
  iintro ⟨⟨%fx, %hx, Hx⟩, ⟨%fw, %hw, Hw⟩, ⟨%o, %fo, -, Ho⟩, Hk⟩
  subst hx hw
  sl_exec
  sl_step
  iapply Hk
  isplitl [Hx]
  · iexists fx; isplitr
    · ipureintro; rfl
    · iexact Hx
  isplitl [Hw]
  · iexists fw; isplitr
    · ipureintro; rfl
    · iexact Hw
  iexists _; isplitr
  rotate_left
  · iexact Ho
  · ipureintro; exact View.read_writes_eq_canon _ _ _ (rectX_covers _)

/-! ## The region's proof data -/

/-- The arrays of the TensorCores where the region is entered. -/
abbrev Arrs (F : FTy → Type) : Type := (d : Dev nD) → (b : Ref sig .tc) → Buf (Elt F) ((d : Thread nD τ).loc b)

variable (A : Arrs F)

/-- The block of window `w` at the point `t`. -/
def blkIn (d : Dev nD) (w : Fin cfg1.W) (t : Fin cfg1.N) : ((cfg1.win w).xblock (cfg1.grid.coords t)).Idx → Elt F (cfg1.win w).elt :=
  ((cfg1.win w).blk t).view.read (Elt F) (A d (Pipeline.arrRef spec1 w))

/-- The waits the TensorCore has on record after the sort. -/
def seen (d : Dev nD) : Set (SemLoc sig × HIx 1) := {p | (K (F := F)).lev (T d, p.1) p.2 ≤ 8}

def maskDat (d : Dev nD) : Dat τ (Elt F) (HIx 1) ℕ UU ℕ cfg1 d where
  A w := A d (Pipeline.arrRef spec1 w)
  after w t := match w with
    | ⟨0, _⟩ => blkIn A d 0 t
    | ⟨1, _⟩ => blkIn A d 1 t
    | ⟨2, _⟩ => prodBlk (blkIn A d 0 t) (blkIn A d 1 t)
  Φ _ := iprop(emp)
  q _ := fullShare
  owed _ := 0
  recorded _ := seen (F := F) d

theorem maskDat_A (d : Dev nD) (w : Fin cfg1.W) : (maskDat A d).A w = A d (Pipeline.arrRef spec1 w) := by dsimp only [maskDat]
theorem after_x (d : Dev nD) (t : Fin cfg1.N) : (maskDat A d).after 0 t = blkIn A d 0 t := by dsimp only [maskDat]
theorem after_w (d : Dev nD) (t : Fin cfg1.N) : (maskDat A d).after 1 t = blkIn A d 1 t := by dsimp only [maskDat]
theorem after_o (d : Dev nD) (t : Fin cfg1.N) : (maskDat A d).after 2 t = prodBlk (blkIn A d 0 t) (blkIn A d 1 t) := by dsimp only [maskDat]

/-- The features' buffer holds their block when the body starts, and the map's buffer the map's. -/
theorem before_x (d : Dev nD) (t : Fin cfg1.N) (o) : (maskDat A d).before 0 t o = blkIn A d 0 t := by
  refine ((maskDat A d).before_in_eq_fetched 0 rfl (fun _ => rfl) (fun _ _ _ => rfl) (fun t => ?_) t o).trans ?_
  · rw [after_x]; unfold Dat.blockOf blkIn; rw [maskDat_A]
  · unfold Dat.fetched Dat.blockOf blkIn; rw [maskDat_A]; rfl
theorem before_w (d : Dev nD) (t : Fin cfg1.N) (o) : (maskDat A d).before 1 t o = blkIn A d 1 t := by
  refine ((maskDat A d).before_in_eq_fetched 1 rfl (fun _ => rfl) (fun _ _ _ => rfl) (fun t => ?_) t o).trans ?_
  · rw [after_w]; unfold Dat.blockOf blkIn; rw [maskDat_A]
  · unfold Dat.fetched Dat.blockOf blkIn; rw [maskDat_A]; rfl

/-- What the body is started with at a point, and what it ends with. -/
def startsWith (d : Dev nD) (t : Fin cfg1.N) : sProp 𝕄 :=
  iprop((maskDat A d).Φ t.castSucc ∗ (maskDat A d).owesAt none t.castSucc
    ∗ (∃ o, owns (d : Thread nD τ) (st1_0 t) fullShare ((maskDat A d).before 0 t o))
    ∗ (∃ o, owns (d : Thread nD τ) (st1_1 t) fullShare ((maskDat A d).before 1 t o))
    ∗ (∃ o, owns (d : Thread nD τ) (st1_2 t) fullShare ((maskDat A d).before 2 t o)))
def endsWith (d : Dev nD) (t : Fin cfg1.N) : sProp 𝕄 :=
  iprop((maskDat A d).Φ t.succ ∗ (maskDat A d).owesAt none t.succ
    ∗ owns (d : Thread nD τ) (st1_0 t) fullShare ((maskDat A d).after 0 t)
    ∗ owns (d : Thread nD τ) (st1_1 t) fullShare ((maskDat A d).after 1 t)
    ∗ owns (d : Thread nD τ) (st1_2 t) fullShare ((maskDat A d).after 2 t))

theorem mask_point (d : Dev nD) (t : Fin cfg1.N) :
    startsWith A d t ⊢ wp frame (wpE (defs₀ (F := F)) 𝒱₀ d none) Set.univ (bodyAt1 t) (fun _ => endsWith A d t) := by
  unfold startsWith endsWith bodyAt1
  simp only [before_x, before_w]
  rw [show (maskDat A d).Φ t.succ = (maskDat A d).Φ t.castSucc from rfl,
    show (maskDat A d).owesAt none t.succ = (maskDat A d).owesAt none t.castSucc from rfl, after_x, after_w, after_o]
  iintro ⟨HΦ, HO, ⟨%o0, Hx⟩, ⟨%o1, Hw⟩, ⟨%o2, Ho⟩⟩
  iapply (mask_body_wp d (grid1.coords t) _ _ _ _ _ _ (blkIn A d 0 t) (blkIn A d 1 t) _)
  isplitl [Hx]; · iexact Hx
  isplitl [Hw]; · iexact Hw
  isplitl [Ho]; · iexists _; iexact Ho
  iintro ⟨Hx, Hw, Ho⟩
  isplitl [HΦ]; · iexact HΦ
  isplitl [HO]; · iexact HO
  isplitl [Hx]; · iexact Hx
  isplitl [Hw]; · iexact Hw
  iexact Ho

theorem mask_row (t : Fin cfg1.N) : defs₀ (F := F) .tc cfg1.body (cfg1.bodyArgs t (cfg1.slots t)) = bodyAt1 t := by
  rfl

/-- The body does at every point what the pipeline asks of it. -/
theorem mask_obligation (d : Dev nD) : BodyObligation (maskDat (F := F) A d) (defs₀ (F := F)) 𝒱₀ none Set.univ := fun t => by
  rw [bigSep_W1, bigSep_W1, mask_row]
  exact triple_restated (mask_point A d t) rfl .rfl fun _ => .rfl

/-! ## The region -/

/-- The features, the map and the product, as the region takes them and leaves them. -/
theorem mask_arrays (d : Dev nD) (G : (w : Fin cfg1.W) → Buf (Elt F) ((cfg1.win w).arr.view.loc (d : Thread nD τ))) :
    ((maskDat A d).arrays G : sProp 𝕄)
      = iprop(((d : Thread nD τ).loc main_arg0 ↦{fullShare} G 0) ∗ ((d : Thread nD τ).loc main_v6 ↦{fullShare} G 1) ∗ ((d : Thread nD τ).loc main_v7 ↦{fullShare} G 2)) := by
  unfold Dat.arrays
  rw [bigSep_W1, (arr_whole1 0).set_eq_univ, (arr_whole1 1).set_eq_univ, (arr_whole1 2).set_eq_univ]
  rfl

abbrev adm : (p : Fin 1) → (pcfgs (F := F) p).Adm := fun p => (cfgs p).toPCfg_adm

abbrev maskDats : (p : Fin 1) → (d : Dev nD) → Dat τ (Elt F) (HIx 1) ℕ UU ℕ (Pipeline.pin (pcfgs (F := F)) adm p) d :=
  fun p d => match p with | 0 => maskDat A d

/-- Nothing owed, and no wait on record but those seen. -/
def quiet (d : Dev nD) : sProp 𝕄 := iprop(∃ W : Waits sig (HIx 1), ⌜(K (F := F)).WBelow (T d) W 8⌝ ∗ owes (T d) (0 : CellTallies nD τ sig (HIx 1)) W)

theorem quiet_in (d : Dev nD) (t : Fin (cfg1.N + 1)) : quiet (F := F) d ⊢ ((maskDat A d).owesAt none t : sProp 𝕄) := by
  unfold quiet Dat.owesAt Pipeline.owesWithin
  iintro ⟨%W, %hW, HO⟩
  iexists W
  isplitr
  · ipureintro; exact fun p hp => Or.inl (hW p hp)
  · iexact HO

theorem quiet_out (d : Dev nD) (t : Fin (cfg1.N + 1)) : ((maskDat A d).owesAt none t : sProp 𝕄) ⊢ quiet (F := F) d := by
  unfold quiet Dat.owesAt Pipeline.owesWithin
  iintro ⟨%W, %hW, HO⟩
  iexists W
  isplitr
  · ipureintro
    intro p hp
    rcases hW hp with h | ⟨w, s, rfl⟩
    · exact h
    · exact Nat.zero_le _
  · iexact HO

/-- The features, the map and the product's array before the region, and after it. -/
def maskPre (d : Dev nD) : sProp 𝕄 :=
  iprop((((d : Thread nD τ).loc main_arg0 ↦{fullShare} A d main_arg0) ∗ ((d : Thread nD τ).loc main_v6 ↦{fullShare} A d main_v6) ∗ ((d : Thread nD τ).loc main_v7 ↦{fullShare} A d main_v7)) ∗ quiet (F := F) d)
/-- What the region leaves in the product's array. -/
def product (d : Dev nD) : Buf (Elt F) ((d : Thread nD τ).loc main_v7) := (maskDat A d).arrAt 2 cfg1.N
def maskPost (d : Dev nD) : sProp 𝕄 :=
  iprop((((d : Thread nD τ).loc main_arg0 ↦{fullShare} A d main_arg0) ∗ ((d : Thread nD τ).loc main_v6 ↦{fullShare} A d main_v6) ∗ ((d : Thread nD τ).loc main_v7 ↦{fullShare} product A d)) ∗ quiet (F := F) d)

def maskSeg : Pipeline.RegionSeg (pcfgs (F := F)) adm (maskDats A) none defs₀ 𝒱₀ (K (F := F)).L (K (F := F)).lev 0 where
  win := launch1.win.to₀
  block_pos := block_pos1
  stage_whole := stage_whole1
  K := PEmpty
  osem k := k.elim
  ho := Pipeline.OwnSemFacts.none _
  hbody d := (mask_obligation A d).loose
  hwaits := Pipeline.hwaits_of_owed_zero _ _ _ _ _ _ 0 fun _ _ => rfl
  pre := maskPre A
  post := maskPost A
  X _ := iprop(emp)
  Y _ := iprop(emp)
  Z _ := iprop(emp)
  hentry d := by
    rw [Pipeline.ownSems0_none, Pipeline.prefHeld_of_none _ rfl, show (maskDats A 0 d) = maskDat A d from rfl, mask_arrays]
    unfold maskPre
    iintro ⟨⟨HA, HO⟩, -, -⟩
    imodintro
    isplitl [HA]; · iexact HA
    isplitr; · iempintro
    isplitl [HO]; · iapply (quiet_in A d 0); iexact HO
    isplitr <;> iempintro
  hin d := by
    rw [show (maskDats A 0 d).Φ 0 = (iprop(emp) : sProp 𝕄) from rfl]
    iintro ⟨HX, -, -⟩; iexact HX
  hout d := by
    rw [Pipeline.ownSems0_none]
    iintro -
    isplitr; · iempintro
    isplitr; · iempintro
    iapply (Entails.of_eq (scopedRest1_eq (Ix := HIx 1) (Val := Elt F) (Name := ℕ) (U := UU) (Lvl := ℕ) d).symm)
    iempintro
  hexit d := by
    rw [show (maskDats A 0 d) = maskDat A d from rfl, mask_arrays]
    unfold maskPost product
    iintro ⟨⟨Hx, Hw, Ho⟩, HO, -, -⟩
    imodintro
    isplitl [Hx Hw Ho]
    · isplitl [Hx]
      · iapply (Entails.of_eq (congrArg (fun f => ((d : Thread nD τ).loc main_arg0 ↦{fullShare} f : sProp 𝕄)) (((maskDat A d).arrAt_in 0 rfl _).trans (maskDat_A A d 0)))); iexact Hx
      isplitl [Hw]
      · iapply (Entails.of_eq (congrArg (fun f => ((d : Thread nD τ).loc main_v6 ↦{fullShare} f : sProp 𝕄)) (((maskDat A d).arrAt_in 1 rfl _).trans (maskDat_A A d 1)))); iexact Hw
      iexact Ho
    · iapply (quiet_out A d _); iexact HO

/-- What the launch gives the TensorCore for the region. -/
def maskGhost (d : Dev nD) : sProp 𝕄 :=
  iprop(Pipeline.cellsGhost (Pipeline.pin (pcfgs (F := F)) adm) EP 0 d ∗ Pipeline.toksInit (Pipeline.pin (pcfgs (F := F)) adm) EP 0 d)

theorem mask_wp [∀ e, Nonempty (Elt F e)] (d : Dev nD) (Φ : PUnit → sProp 𝕄) :
    iprop((iprop(boundary (T d) ∗ maskPost A d) -∗ Φ ⟨⟩) ∗ boundary (T d) ∗ maskPre A d ∗ levAts (K (F := F)).L (K (F := F)).lev ∗ maskGhost d)
      ⊢ wp frame (wpE ((K (F := F)).defs (D (F := F))) 𝒱 (T d) none) Set.univ (Prog.lift (.customCall (SparseCore.inner (Pipeline.entry (0 : Fin 1))) ())) Φ := by
  refine BIBase.Entails.trans ?_ ((K (F := F)).wp_liftProg (D (F := F)) 𝒱 (T d) Set.univ none (Prog.lift (.customCall (Pipeline.entry (0 : Fin 1)) ())) Φ)
  refine BIBase.Entails.trans ?_ (Pipeline.RegionSeg.wp (pcfgs (F := F)) adm (maskDats A) none cellOf_inj EP defs₀ 𝒱₀ (K (F := F)).L (K (F := F)).lev (maskSeg A) d none (fun u hu => nomatch hu) _ Φ)
  unfold maskGhost
  change _ ⊢ iprop((iprop(boundary (T d) ∗ maskPost A d) -∗ wp frame (wpE (Pipeline.defs pcfgs defs₀) 𝒱₀.lift (T d) none) Set.univ (Prog.ret PUnit.unit) Φ)
    ∗ boundary (T d) ∗ maskPre A d ∗ _)
  iintro ⟨Hk, Hb, Hp, HL, Hg, Ht⟩
  isplitl [Hk]
  · iintro ⟨Hb, Hp⟩
    rw [wp_ret]; imodintro
    iapply Hk
    isplitl [Hb] <;> iassumption
  isplitl [Hb]; · iexact Hb
  isplitl [Hp]; · iexact Hp
  isplitl [HL]; · iexact HL
  isplitl [Hg] <;> iassumption

/-! ## What the region leaves -/

/-- The map's index of an index of the features. -/
def mapAt (i : S8x256x100x252.Idx) : S8x100x252.Idx :=
  fun a => match a with | ⟨0, _⟩ => ⟨(i 0).val, (i 0).isLt⟩ | ⟨1, _⟩ => ⟨(i 2).val, (i 2).isLt⟩ | ⟨2, _⟩ => ⟨(i 3).val, (i 3).isLt⟩

/-- The map's index under the block's. -/
def mapIn (y : S1x32x100x252.Idx) : S1x100x252.Idx :=
  fun a => match a with | ⟨0, _⟩ => ⟨0, Nat.one_pos⟩ | ⟨1, _⟩ => ⟨(y 2).val, (y 2).isLt⟩ | ⟨2, _⟩ => ⟨(y 3).val, (y 3).isLt⟩
/-- The block's index without its first coordinate. -/
def tail3 (y : S1x32x100x252.Idx) : S32x100x252.Idx :=
  fun a => match a with | ⟨0, _⟩ => ⟨(y 1).val, (y 1).isLt⟩ | ⟨1, _⟩ => ⟨(y 2).val, (y 2).isLt⟩ | ⟨2, _⟩ => ⟨(y 3).val, (y 3).isLt⟩

theorem rowMajor_tail3 (y : S1x32x100x252.Idx) : (S32x100x252.rowMajor (tail3 y)).val = (S1x32x100x252.rowMajor y).val := by
  have h0 : (y 0).val < 1 := (y 0).isLt
  rw [Shape.rowMajor_val_three, Shape.rowMajor_val_four]
  show ((y 1).val * 100 + (y 2).val) * 252 + (y 3).val = (((y 0).val * 32 + (y 1).val) * 100 + (y 2).val) * 252 + (y 3).val
  omega

/-- The product of the blocks, read at an index. -/
theorem pay_apply (x : Vec F S1x32x100x252 .f32) (w : Vec F S1x100x252 .f32) (y : S1x32x100x252.Idx) :
    k1_pay1 x w y = FloatOps.mulf (x y) (w (mapIn y)) := by
  have e1 : shapeCast S32x100x252 x shapeCasts_S1x32x100x252_S32x100x252 (tail3 y) = x y :=
    shapeCast_apply x shapeCasts_S1x32x100x252_S32x100x252 (tail3 y) y (rowMajor_tail3 y).symm
  have e2 : broadcastTo S32x100x252 (shapeCast S1x100x252 w shapeCasts_S1x100x252_S1x100x252) broadcasts_S1x100x252_S32x100x252 (tail3 y) = w (mapIn y) := by
    refine (broadcastTo_apply _ _ (tail3 y) (mapIn y) (fun a => match a with
      | ⟨0, _⟩ => rfl
      | ⟨1, _⟩ => rfl
      | ⟨2, _⟩ => rfl)).trans ?_
    exact shapeCast_apply w shapeCasts_S1x100x252_S1x100x252 (mapIn y) (mapIn y) rfl
  refine (show k1_pay1 x w y = _ from shapeCast_apply (mulf (shapeCast S32x100x252 x shapeCasts_S1x32x100x252_S32x100x252)
    (broadcastTo S32x100x252 (shapeCast S1x100x252 w shapeCasts_S1x100x252_S1x100x252) broadcasts_S1x100x252_S32x100x252))
    shapeCasts_S32x100x252_S1x32x100x252 y (tail3 y) (rowMajor_tail3 y)).trans ?_
  exact congrArg₂ FloatOps.mulf e1 e2

theorem prodBlk_apply (x : Vec F S1x32x100x252 .f32) (w : Vec F S1x100x252 .f32) (y : S1x32x100x252.Idx) :
    prodBlk x w y = FloatOps.mulf (x y) (w (mapIn y)) := by
  unfold prodBlk
  refine View.canon_apply_of_pieces (fun y => FloatOps.mulf (x y) (w (mapIn y))) _ ?_ y (rectX_covers _ y)
  intro pc hpc
  rcases List.mem_singleton.mp hpc with rfl
  intro z
  refine (pay_apply (View.ld x rectX) (View.ld w rectW) z).trans ?_
  exact congrArg (FloatOps.mulf (x (rectX.idx z))) (congrArg w (funext fun a => Fin.ext (match a with
    | ⟨0, _⟩ => rfl
    | ⟨1, _⟩ => rfl
    | ⟨2, _⟩ => rfl)))

/-- The points' blocks of the product. -/
theorem point_inj : ∀ t t' : Fin cfg1.N, win1_2.index t = win1_2.index t' → t = t' :=
  (by decide +kernel : ∀ t t' : Fin grid1.N, win1_2.index t = win1_2.index t' → t = t')

theorem points_disjoint (t t' : Fin cfg1.N) (_ : (cfg1.win 2).flush t = true) (_ : (cfg1.win 2).flush t' = true) (h : t ≠ t') :
    Disjoint ((cfg1.win 2).blk t).view.set ((cfg1.win 2).blk t').view.set :=
  (cfg1.win 2).disjoint_blk fun e => h (point_inj t t' e)

/-- The product's block at a point is what the body left there. -/
theorem product_block (d : Dev nD) (t : Fin cfg1.N) :
    ((cfg1.win 2).blk t).view.read (Elt F) (product A d) = (cfg1.win 2).cut (grid1.coords t) (prodBlk (blkIn A d 0 t) (blkIn A d 1 t)) := by
  refine ((maskDat A d).read_blk_arrAt_eq_flushed 2 points_disjoint cfg1.N t t.isLt (flush1_2 t)).trans ?_
  show (cfg1.win 2).cut (grid1.coords t) ((maskDat A d).after 2 t) = _
  rw [after_o]

/-- The point of an image and of a block of channels. -/
theorem point_exists : ∀ (n : Fin 8) (c : Fin 8), ∃ t : Fin cfg1.N, win1_2.index t = ![n.val, c.val, 0, 0] :=
  (by decide +kernel : ∀ (n : Fin 8) (c : Fin 8), ∃ t : Fin grid1.N, win1_2.index t = ![n.val, c.val, 0, 0])
theorem point_w : ∀ (t : Fin cfg1.N), win1_1.index t = ![win1_2.index t 0, 0, 0] ∧ win1_0.index t = win1_2.index t :=
  (by decide +kernel : ∀ (t : Fin grid1.N), win1_1.index t = ![win1_2.index t 0, 0, 0] ∧ win1_0.index t = win1_2.index t)

/-- The block's index of an index of the array. -/
def blockAt (i : S8x256x100x252.Idx) : S1x32x100x252.Idx :=
  fun a => match a with
    | ⟨0, _⟩ => ⟨0, Nat.one_pos⟩
    | ⟨1, _⟩ => ⟨(i 1).val % 32, Nat.mod_lt _ (by decide)⟩
    | ⟨2, _⟩ => ⟨(i 2).val, (i 2).isLt⟩
    | ⟨3, _⟩ => ⟨(i 3).val, (i 3).isLt⟩

/-- The region leaves the features, each times the map at its position. -/
theorem product_apply (d : Dev nD) (i : S8x256x100x252.Idx) :
    product A d i = FloatOps.mulf (A d main_arg0 i : F .f32) (A d main_v6 (mapAt i) : F .f32) := by
  have h0 : (i 0).val < 8 := (i 0).isLt
  have h1 : (i 1).val < 256 := (i 1).isLt
  obtain ⟨t, ht⟩ := point_exists ⟨(i 0).val, h0⟩ ⟨(i 1).val / 32, by omega⟩
  obtain ⟨hw, hx⟩ := point_w t
  have eo : ∀ a, ((win1_2.rect t).emb (blockAt i) a : ℕ) = (i a).val := by
    intro a
    rw [win1_2.rect_emb_val t (blockAt i) a, ht]
    match a with
    | ⟨0, _⟩ => show (i 0).val * 1 + 0 = (i 0).val; omega
    | ⟨1, _⟩ => show (i 1).val / 32 * 32 + (i 1).val % 32 = (i 1).val; omega
    | ⟨2, _⟩ => show 0 * 100 + (i 2).val = (i 2).val; omega
    | ⟨3, _⟩ => show 0 * 252 + (i 3).val = (i 3).val; omega
  have ex : ∀ a, ((win1_0.rect t).emb (blockAt i) a : ℕ) = (i a).val := by
    intro a
    rw [win1_0.rect_emb_val t (blockAt i) a, hx, ht]
    match a with
    | ⟨0, _⟩ => show (i 0).val * 1 + 0 = (i 0).val; omega
    | ⟨1, _⟩ => show (i 1).val / 32 * 32 + (i 1).val % 32 = (i 1).val; omega
    | ⟨2, _⟩ => show 0 * 100 + (i 2).val = (i 2).val; omega
    | ⟨3, _⟩ => show 0 * 252 + (i 3).val = (i 3).val; omega
  have ew : ∀ a, ((win1_1.rect t).emb (mapIn (blockAt i)) a : ℕ) = (mapAt i a).val := by
    intro a
    rw [win1_1.rect_emb_val t (mapIn (blockAt i)) a, hw, ht]
    match a with
    | ⟨0, _⟩ => show (i 0).val * 1 + 0 = (i 0).val; omega
    | ⟨1, _⟩ => show 0 * 100 + (i 2).val = (i 2).val; omega
    | ⟨2, _⟩ => show 0 * 252 + (i 3).val = (i 3).val; omega
  have h := congrFun (product_block A d t) (blockAt i)
  have hl : ((cfg1.win 2).blk t).view.read (Elt F) (product A d) (blockAt i) = product A d i :=
    congrArg (product A d) (show (win1_2.rect t).emb (blockAt i) = i from funext fun a => Fin.ext (eo a))
  have e1 : blkIn A d 0 t (blockAt i) = A d main_arg0 i :=
    congrArg (A d main_arg0) (show (win1_0.rect t).emb (blockAt i) = i from funext fun a => Fin.ext (ex a))
  have e2 : blkIn A d 1 t (mapIn (blockAt i)) = A d main_v6 (mapAt i) :=
    congrArg (A d main_v6) (show (win1_1.rect t).emb (mapIn (blockAt i)) = mapAt i from funext fun a => Fin.ext (ew a))
  refine (hl.symm.trans h).trans ?_
  refine (prodBlk_apply (blkIn A d 0 t) (blkIn A d 1 t) (blockAt i)).trans ?_
  exact congrArg₂ (FloatOps.mulf (F := F)) e1 e2

end Cert.Proof.Sort
end
end
-- ==== Proof.Main.lean ====
/-
  The run of the program: the words' reading, the sort's launch, the results' reading, the mask's region; from the launch theorem, what every run ends with.
-/
module

public import proofs.«01_k».proof.Proof.Launch
public import proofs.«01_k».proof.Proof.Mask
public import Idealize.ShloMosaic.Lib.SparseCore.Quiescent
public import Idealize.ShloMosaic.Lib.StableHlo.Run

@[expose] public section

noncomputable section

namespace Cert.Proof.Sort

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [BitOps F]

local notation "𝕄" => MT nD τ sig (HIx 1) (Elt F) ℕ UU ℕ

/-! ## The launch facts and the tile's obligation -/

theorem scfacts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

/-- The coordinates of a tile. -/
abbrev coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sort_body (coordsV c s) bW (Memref.isWhole_whole _) tW (Memref.isWhole_whole _) mW (Memref.isWhole_whole _) kaW (Memref.isWhole_whole _)
          vaW (Memref.isWhole_whole _) kbW (Memref.isWhole_whole _) vbW (Memref.isWhole_whole _) oW (Memref.isWhole_whole _) cc0_scoped0 cc0_scoped1 cc0_scoped2) ⟨⟩ c s := rfl

/-- The waits a tile leaves, in the launch theorem's words. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (m : (ℓ : Loc nD τ sig) → Buf (Elt F) ℓ) (ρ : Dev nD → PrngReg)

section Obl

variable (B : (d : Dev nD) → Buf (Elt F) (bLoc d))

theorem tileObl : (K (F := F)).TileObl (D (F := F)) 𝒱 (P m B) v₀ 0 := by
  intro d c i O W hO _ _
  simp only [show (P m B).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m B d (coordsV ⟨_, hc.1⟩ ⟨_, hc.2⟩) scfacts O W hO).trans (wp_mono frame _ _ fun _ => obl_post)

/-- A SparseCore hands its tiles what it took, and hands back what they brought. -/
theorem vecSplit : (K (F := F)).VecSplit' (P m B) 0 := by
  intro d c
  show (bigSep Finset.univ fun i : Fin ((K (F := F)).nSub 0) => piece d (B d) (m (tLoc d)) (m (gLoc d)) (2 * i.val + c.val))
    ⊢ |={Set.univ}=> iprop((bigSep Finset.univ fun i : Fin ((K (F := F)).nSub 0) => piece d (B d) (m (tLoc d)) (m (gLoc d)) (2 * i.val + c.val))
      ∗ ((bigSep Finset.univ fun i : Fin ((K (F := F)).nSub 0) => piece d (B d) (tkOf (B d)) (mapOf (B d)) (2 * i.val + c.val))
        -∗ bigSep Finset.univ fun i : Fin ((K (F := F)).nSub 0) => piece d (B d) (tkOf (B d)) (mapOf (B d)) (2 * i.val + c.val)))
  iintro H
  imodintro
  isplitl [H]; · iexact H
  iintro H; iexact H

/-- What the launch starts from: the handshakes' and the region's rounds. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem bigSep_emp' {I : Type} (s : Finset I) : (bigSep s fun _ => iprop(emp)) = (iprop(emp) : sProp 𝕄) := bigSep_emp_const s

/-- The region's rounds, dealt to the TensorCores. -/
theorem mask_ghosts : (BI.own (EP (F := F) (initOf (Pipeline.cells (nD := nD) (τ := τ) (Pipeline.pin (pcfgs (F := F)) adm) cellOf_inj)
      (Pipeline.launchToks (nD := nD) (τ := τ) (Pipeline.pin (pcfgs (F := F)) adm) cellOf_inj))) : sProp 𝕄)
    ⊢ iprop(|==> bigSep Finset.univ fun d : Dev nD => maskGhost (F := F) d) := by
  refine BIBase.Entails.trans (Pipeline.fund_ghost (Pipeline.pin (pcfgs (F := F)) adm) EP cellOf_inj) (BI.bupd_mono ?_)
  rw [show (bigSep Finset.univ fun d : Dev nD => maskGhost (F := F) d) = _ from bigSep_sep' _ _ _]
  rw [show (fun c : Dev nD => bigSep (Finset.univ : Finset (Fin 1)) fun p => (Pipeline.cellsGhost (Pipeline.pin (pcfgs (F := F)) adm) EP p c : sProp 𝕄))
      = fun c => Pipeline.cellsGhost (Pipeline.pin (pcfgs (F := F)) adm) EP 0 c from funext fun c => by rw [show (Finset.univ : Finset (Fin 1)) = {0} from rfl, bigSep_singleton],
    show (fun c : Dev nD => bigSep (Finset.univ : Finset (Fin 1)) fun p => (Pipeline.toksInit (Pipeline.pin (pcfgs (F := F)) adm) EP p c : sProp 𝕄))
      = fun c => Pipeline.toksInit (Pipeline.pin (pcfgs (F := F)) adm) EP 0 c from funext fun c => by rw [show (Finset.univ : Finset (Fin 1)) = {0} from rfl, bigSep_singleton]]
  exact Idealize.SL.BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => maskGhost (F := F) d)
        ∗ bigSep Finset.univ fun th : Thread nD τ => bigSep Finset.univ fun q : Fin 1 => (P m B).x q th) := by
  unfold u₀
  iintro Hu
  ihave H := (ownU_pair _ _) $$ Hu
  icases H with ⟨HH, HR⟩
  ihave H := (own_pair_emb embR _ _) $$ HR
  icases H with ⟨HP, -⟩
  imod (mask_ghosts (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Obl

/-! ## The rows are the arrays -/

/-- Two tiles' rows of one array share nothing, as the row of an element is one. -/
theorem rows_disjoint {s : Shape} (r : s.Idx → ℕ) (p p' : Fin 2 × Fin 16) (h : p ≠ p') :
    Disjoint (Finset.univ.filter fun x : s.Idx => r x = 2 * p.2.val + p.1.val) (Finset.univ.filter fun x : s.Idx => r x = 2 * p'.2.val + p'.1.val) := by
  refine Finset.disjoint_left.mpr fun x hx hx' => h ?_
  have e := (Finset.mem_filter.mp hx).2
  have e' := (Finset.mem_filter.mp hx').2
  have h1 := p.1.isLt
  have h1' := p'.1.isLt
  exact Prod.ext (Fin.ext (by omega)) (Fin.ext (by omega))

/-- The tiles' rows of one array are the array. -/
theorem rows_union {s : Shape} (r : s.Idx → ℕ) (hr : ∀ x, r x < 8) :
    ((Finset.univ : Finset (Fin 2 × Fin 16)).biUnion fun p => Finset.univ.filter fun x : s.Idx => r x = 2 * p.2.val + p.1.val) = Finset.univ := by
  refine Finset.eq_univ_iff_forall.mpr fun x => Finset.mem_biUnion.mpr ?_
  have := hr x
  refine ⟨(⟨r x % 2, by omega⟩, ⟨r x / 2, by omega⟩), Finset.mem_univ _, Finset.mem_filter.mpr ⟨Finset.mem_univ _, ?_⟩⟩
  show r x = 2 * (r x / 2) + r x % 2
  omega

theorem rows_whole (d : Dev nD) (B : Buf (Elt F) (bLoc d)) (t : Buf (Elt F) (tLoc d)) (g : Buf (Elt F) (gLoc d)) :
    (bigSep (Finset.univ : Finset (Fin 2)) fun c => bigSep (Finset.univ : Finset (Fin 16)) fun i => piece d B t g (2 * i.val + c.val))
      = (iprop((bLoc d ↦{fullShare} B) ∗ (tLoc d ↦{fullShare} t) ∗ (gLoc d ↦{fullShare} g)) : sProp 𝕄) := by
  have hB : ∀ f : Buf (Elt F) (bLoc d), (bigSep (Finset.univ : Finset (Fin 2 × Fin 16)) fun p => (bLoc d ↦[setB (2 * p.2.val + p.1.val)]{fullShare} f : sProp 𝕄)) = bLoc d ↦{fullShare} f := by
    intro f
    unfold setB
    rw [← pointsTo_biUnion _ _ fun p _ p' _ h => rows_disjoint (s := S201600) (fun x => (x 0).val / 25200) p p' h]
    rw [rows_union (s := S201600) (fun x => (x 0).val / 25200) fun x => by have : (x 0).val < 201600 := (x 0).isLt; show (x 0).val / 25200 < 8; omega]
  have hG : ∀ f : Buf (Elt F) (gLoc d), (bigSep (Finset.univ : Finset (Fin 2 × Fin 16)) fun p => (gLoc d ↦[setB (2 * p.2.val + p.1.val)]{fullShare} f : sProp 𝕄)) = gLoc d ↦{fullShare} f := by
    intro f
    unfold setB
    rw [← pointsTo_biUnion _ _ fun p _ p' _ h => rows_disjoint (s := S201600) (fun x => (x 0).val / 25200) p p' h]
    rw [rows_union (s := S201600) (fun x => (x 0).val / 25200) fun x => by have : (x 0).val < 201600 := (x 0).isLt; show (x 0).val / 25200 < 8; omega]
  have hT : ∀ f : Buf (Elt F) (tLoc d), (bigSep (Finset.univ : Finset (Fin 2 × Fin 16)) fun p => (tLoc d ↦[setT (2 * p.2.val + p.1.val)]{fullShare} f : sProp 𝕄)) = tLoc d ↦{fullShare} f := by
    intro f
    unfold setT
    rw [← pointsTo_biUnion _ _ fun p _ p' _ h => rows_disjoint (s := S40320) (fun x => (x 0).val / 5040) p p' h]
    rw [rows_union (s := S40320) (fun x => (x 0).val / 5040) fun x => by have : (x 0).val < 40320 := (x 0).isLt; show (x 0).val / 5040 < 8; omega]
  refine (bigSep_univ_prod fun p : Fin 2 × Fin 16 => piece d B t g (2 * p.2.val + p.1.val)).symm.trans ?_
  unfold piece
  rw [bigSep_sep', bigSep_sep', hB, hT, hG]

/-! ## @main on the TensorCore -/

abbrev rX : DevRef τ sig := Proc.devRef .tc (main_arg0 : Ref sig .tc)
abbrev rx : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2t : DevRef τ sig := Proc.devRef .tc (main_v2_0 : Ref sig .tc)
abbrev r2g : DevRef τ sig := Proc.devRef .tc (main_v2_1 : Ref sig .tc)
abbrev r3 : DevRef τ sig := Proc.devRef .tc (main_v3 : Ref sig .tc)
abbrev r4 : DevRef τ sig := Proc.devRef .tc (main_v4 : Ref sig .tc)
abbrev r5 : DevRef τ sig := Proc.devRef .tc (main_v5 : Ref sig .tc)
abbrev r6 : DevRef τ sig := Proc.devRef .tc (main_v6 : Ref sig .tc)
abbrev r7 : DevRef τ sig := Proc.devRef .tc (main_v7 : Ref sig .tc)

/-- The host operations. -/
abbrev op0 : HloOp τ sig (Elt F) := StableHlo.unary main_arg1 main_v0 (bitcastToInt : (⟨S8x100x252, .f32⟩ : BufTy).Contents (Elt F) → (⟨S8x100x252, .i32⟩ : BufTy).Contents (Elt F))
abbrev op1 : HloOp τ sig (Elt F) := StableHlo.reshape main_v0 main_v1 (rfl : (.i32 : EltTy) = .i32) shapeCasts_S8x100x252_S201600
abbrev op3 : HloOp τ sig (Elt F) := StableHlo.reshape main_v2_0 main_v3 (rfl : (.i32 : EltTy) = .i32) shapeCasts_S40320_S8x5040
abbrev op4 : HloOp τ sig (Elt F) := StableHlo.unary main_v3 main_v4 (bitcastToFloat .f32 : (⟨S8x5040, .i32⟩ : BufTy).Contents (Elt F) → (⟨S8x5040, .f32⟩ : BufTy).Contents (Elt F))
abbrev op5 : HloOp τ sig (Elt F) := StableHlo.reshape main_v2_1 main_v5 (rfl : (.i32 : EltTy) = .i32) shapeCasts_S201600_S8x100x252
abbrev op6 : HloOp τ sig (Elt F) := StableHlo.unary main_v5 main_v6 (bitcastToFloat .f32 : (⟨S8x100x252, .i32⟩ : BufTy).Contents (Elt F) → (⟨S8x100x252, .f32⟩ : BufTy).Contents (Elt F))

/-- The TensorCore's arrays. -/
abbrev S11 : Finset (DevRef τ sig) := {r1, r2t, r2g, rX, r6, r7, rx, r0, r3, r4, r5}
/-- Those the sort doesn't take. -/
abbrev S8 : Finset (DevRef τ sig) := {rX, r6, r7, rx, r0, r3, r4, r5}
/-- And those the mask doesn't take either. -/
abbrev S5 : Finset (DevRef τ sig) := {rx, r0, r3, r4, r5}

theorem held_S11 (d : Dev nD) (W : Valuation τ sig (Elt F)) :
    (held (T d) S11 W : sProp 𝕄) = iprop((bLoc d ↦{fullShare} W r1) ∗ (tLoc d ↦{fullShare} W r2t) ∗ (gLoc d ↦{fullShare} W r2g) ∗ held (T d) S8 W) := by
  unfold held S11 S8
  rw [SparseCore.bigSep_insert' (by decide), SparseCore.bigSep_insert' (by decide), SparseCore.bigSep_insert' (by decide)]

theorem held_S8 (d : Dev nD) (W : Valuation τ sig (Elt F)) :
    (held (T d) S8 W : sProp 𝕄) = iprop(((d, rX) ↦{fullShare} W rX) ∗ ((d, r6) ↦{fullShare} W r6) ∗ ((d, r7) ↦{fullShare} W r7) ∗ held (T d) S5 W) := by
  unfold held S8 S5
  rw [SparseCore.bigSep_insert' (by decide), SparseCore.bigSep_insert' (by decide), SparseCore.bigSep_insert' (by decide)]

/-- The array's contents at launch, when the sort starts, when it has ended, and at the end. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
/-- The words the sort takes. -/
def wordsB (d : Dev nD) : Buf (Elt F) (bLoc d) := V2 m d r1
def V3 (d : Dev nD) : Valuation τ sig (Elt F) := Function.update (Function.update (V2 m d) r2t (tkOf (wordsB m d))) r2g (mapOf (wordsB m d))
def V4 (d : Dev nD) : Valuation τ sig (Elt F) := (op3 (F := F)).result (V3 m d)
def V5 (d : Dev nD) : Valuation τ sig (Elt F) := (op4 (F := F)).result (V4 m d)
def V6 (d : Dev nD) : Valuation τ sig (Elt F) := (op5 (F := F)).result (V5 m d)
def V7 (d : Dev nD) : Valuation τ sig (Elt F) := (op6 (F := F)).result (V6 m d)
/-- What the mask's region starts from. -/
def A7 : Arrs F := fun d b => V7 m d (Proc.devRef .tc b)
def V8 (d : Dev nD) : Valuation τ sig (Elt F) := Function.update (V7 m d) r7 (product (A7 m) d)

theorem V2_t (d : Dev nD) : V2 m d r2t = m (tLoc d) := by
  unfold V2 V1
  rw [(op1 (F := F)).result_of_not_mem _ (show r2t ∉ ({r1} : Finset (DevRef τ sig)) by decide), (op0 (F := F)).result_of_not_mem _ (show r2t ∉ ({r0} : Finset (DevRef τ sig)) by decide)]
  rfl
theorem V2_g (d : Dev nD) : V2 m d r2g = m (gLoc d) := by
  unfold V2 V1
  rw [(op1 (F := F)).result_of_not_mem _ (show r2g ∉ ({r1} : Finset (DevRef τ sig)) by decide), (op0 (F := F)).result_of_not_mem _ (show r2g ∉ ({r0} : Finset (DevRef τ sig)) by decide)]
  rfl
theorem V3_t (d : Dev nD) : V3 m d r2t = tkOf (wordsB m d) := (Function.update_of_ne (show r2t ≠ r2g by decide) _ _).trans (Function.update_self _ _ _)
theorem V3_g (d : Dev nD) : V3 m d r2g = mapOf (wordsB m d) := Function.update_self _ _ _
theorem V3_of (d : Dev nD) {b : DevRef τ sig} (h : b ≠ r2t) (h' : b ≠ r2g) : V3 m d b = V2 m d b :=
  (Function.update_of_ne h' _ _).trans (Function.update_of_ne h _ _)

theorem held_S8_V3 (d : Dev nD) : (held (T d) S8 (V2 m d) : sProp 𝕄) = held (T d) S8 (V3 m d) := by
  unfold held
  refine bigSep_congr fun b hb => ?_
  rw [V3_of m d (by rintro rfl; exact absurd hb (by decide)) (by rintro rfl; exact absurd hb (by decide))]

theorem V8_7 (d : Dev nD) : V8 m d r7 = product (A7 m) d := Function.update_self _ _ _
theorem V8_of (d : Dev nD) {b : DevRef τ sig} (h : b ≠ r7) : V8 m d b = V7 m d b := Function.update_of_ne h _ _

theorem held_S5_V8 (d : Dev nD) : (held (T d) S5 (V7 m d) : sProp 𝕄) = held (T d) S5 (V8 m d) := by
  unfold held
  refine bigSep_congr fun b hb => ?_
  rw [V8_of m d (by rintro rfl; exact absurd hb (by decide))]

/-- The TensorCore owes nothing once the sort has ended. -/
theorem Otc_end (d : Dev nD) : (K (F := F)).Otc d 1 = 0 := by
  unfold SparseCore.Cfg.Otc
  exact Finset.sum_eq_zero fun q _ => if_neg (by have := q.isLt; omega)

/-- What the TensorCore has once the sort has ended: it owes nothing, and its handshakes are over. -/
theorem tcSt_end (d : Dev nD) : ∃ R : sProp 𝕄, ((K (F := F)).tcSt EH d 1 : sProp 𝕄)
    = iprop((∃ W, ⌜(K (F := F)).WBelow (T d) W 8⌝ ∗ owes (T d) (0 : CellTallies nD τ sig (HIx 1)) W) ∗ R) := by
  unfold SparseCore.Cfg.tcSt
  rw [Otc_end (F := F) d]
  exact ⟨_, rfl⟩

theorem unscoped_held (d : Dev nD) : (unscopedBufs d (fun b => m ((SparseCore.T d).loc b)) : sProp 𝕄) = held (T d) S11 (V0 m d) := by
  unfold unscopedBufs held S11
  rw [show (Finset.univ.filter fun b : Ref sig .tc => ¬ b.isScoped) = {main_v1, main_v2_0, main_v2_1, main_arg0, main_v6, main_v7, main_arg1, main_v0, main_v3, main_v4, main_v5} by decide]
  iterate 10 rw [SparseCore.bigSep_insert' (by decide)]
  rw [bigSep_singleton]
  iterate 10 rw [SparseCore.bigSep_insert' (by decide)]
  rw [bigSep_singleton]
  rfl

theorem st_eq (B : (d : Dev nD) → Buf (Elt F) (bLoc d)) (d : Dev nD) : (bigSep Finset.univ fun c : Fin ((K (F := F)).nCore 0) => (P m B).st 0 d c)
    = iprop((bLoc d ↦{fullShare} B d) ∗ (tLoc d ↦{fullShare} m (tLoc d)) ∗ (gLoc d ↦{fullShare} m (gLoc d))) :=
  rows_whole d (B d) (m (tLoc d)) (m (gLoc d))
theorem dn_eq (B : (d : Dev nD) → Buf (Elt F) (bLoc d)) (d : Dev nD) : (bigSep Finset.univ fun c : Fin ((K (F := F)).nCore 0) => (P m B).dn 0 d c)
    = iprop((bLoc d ↦{fullShare} B d) ∗ (tLoc d ↦{fullShare} (tkOf (B d) : Buf (Elt F) (tLoc d))) ∗ (gLoc d ↦{fullShare} (mapOf (B d) : Buf (Elt F) (gLoc d)))) :=
  rows_whole d (B d) (tkOf (B d)) (mapOf (B d))

/-- What @main leaves the claims: every array of the TensorCore. -/
abbrev FIN (d : Dev nD) : sProp 𝕄 := held (T d) S11 (V8 m d)

theorem hmain [∀ e, Nonempty (Elt F e)] (κ : GSem nD τ sig → ℕ) (d : Dev nD) :
    iprop((K (F := F)).ctx EH (P m (wordsB m)) κ ∗ (K (F := F)).tcSt EH d 0 ∗ (K (F := F)).tcRes m ρ d ∗ maskGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hgh⟩
  iapply (wp_hlo_within 𝒱 (SparseCore.T d) none Set.univ (op := op0) (S := S11) (show ({rx, r0} : Finset (DevRef τ sig)) ⊆ S11 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S11) (show ({r0, r1} : Finset (DevRef τ sig)) ⊆ S11 by decide) (V := V1 m d)) $$ [Hb Hheld]
  · isplitl [Hb]; · iexact Hb
    iexact Hheld
  iintro ⟨Hb, Hheld⟩
  rw [wp_ret]; imodintro
  ihave Hh := (Entails.of_eq (show (held (T d) S11 ((op1 (F := F)).result (V1 m d)) : sProp 𝕄) = _ from held_S11 (F := F) d (V2 m d))) $$ Hheld
  icases Hh with ⟨H1, Ht, Hg, Hrest⟩
  iapply ((K (F := F)).wp_run (D (F := F)) 𝒱 (EH := EH) (P := P m (wordsB m)) κ d 0) $$ [Hst H1 Ht Hg Hb Hrest Hts Hgh]
  isplitr; · iexact Hctx
  isplitl [Hst]; · iexact Hst
  isplitl [H1 Ht Hg]
  · rw [st_eq, V2_t, V2_g]
    isplitl [H1]; · iexact H1
    isplitl [Ht]; · iexact Ht
    iexact Hg
  iintro ⟨Hst, Hdn⟩
  ihave Hdn' := (Entails.of_eq (dn_eq m (wordsB m) d)) $$ Hdn
  icases Hdn' with ⟨H1, Ht, Hg⟩
  iapply (wp_hlo_within 𝒱 (SparseCore.T d) none Set.univ (op := op3) (S := S11) (show ({r2t, r3} : Finset (DevRef τ sig)) ⊆ S11 by decide) (V := V3 m d)) $$ [Hb H1 Ht Hg Hrest]
  · isplitl [Hb]; · iexact Hb
    rw [held_S11, V3_t, V3_g, V3_of m d (show r1 ≠ r2t by decide) (show r1 ≠ r2g by decide), ← held_S8_V3]
    isplitl [H1]; · iexact H1
    isplitl [Ht]; · iexact Ht
    isplitl [Hg]; · iexact Hg
    iexact Hrest
  iintro ⟨Hb, Hheld⟩
  rw [wp_ret]; imodintro
  iapply (wp_hlo_within 𝒱 (SparseCore.T d) none Set.univ (op := op4) (S := S11) (show ({r3, r4} : Finset (DevRef τ sig)) ⊆ S11 by decide) (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S11) (show ({r2g, r5} : Finset (DevRef τ sig)) ⊆ S11 by decide) (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S11) (show ({r5, r6} : Finset (DevRef τ sig)) ⊆ S11 by decide) (V := V6 m d)) $$ [Hb Hheld]
  · isplitl [Hb]; · iexact Hb
    iexact Hheld
  iintro ⟨Hb, Hheld⟩
  rw [wp_ret]; imodintro
  ihave Hh := (Entails.of_eq (show (held (T d) S11 ((op6 (F := F)).result (V6 m d)) : sProp 𝕄) = _ from held_S11 (F := F) d (V7 m d))) $$ Hheld
  icases Hh with ⟨H1, Ht, Hg, Hrest⟩
  ihave Hh := (Entails.of_eq (held_S8 (F := F) d (V7 m d))) $$ Hrest
  icases Hh with ⟨HX, H6, H7, Hrest⟩
  obtain ⟨R, hR⟩ := tcSt_end (F := F) d
  ihave Hst' := (Entails.of_eq (show ((K (F := F)).tcSt EH d ((0 : Fin 1).val + 1) : sProp 𝕄) = _ from hR)) $$ Hst
  icases Hst' with ⟨⟨%W, %hW, HO⟩, Hcell⟩
  iapply (mask_wp (A7 m) d) $$ [H1 Ht Hg HX H6 H7 Hrest HO Hcell Hb Hts Hgh]
  isplitr [HX H6 H7 HO Hb Hgh]
  · iintro ⟨Hb, Hp⟩
    unfold maskPost quiet
    icases Hp with ⟨⟨HX, H6, H7⟩, %W', %hW', HO⟩
    imodintro
    isplitl [HO Hcell]
    · iapply (Entails.of_eq hR.symm)
      isplitl [HO]
      · iexists W'; isplitr
        · ipureintro; exact hW'
        · iexact HO
      · iexact Hcell
    isplitr [Hb Hts]
    · unfold FIN
      rw [held_S11, held_S8, V8_7, ← held_S5_V8, V8_of m d (show r1 ≠ r7 by decide), V8_of m d (show r2t ≠ r7 by decide), V8_of m d (show r2g ≠ r7 by decide),
        V8_of m d (show rX ≠ r7 by decide), V8_of m d (show r6 ≠ r7 by decide)]
      isplitl [H1]; · iexact H1
      isplitl [Ht]; · iexact Ht
      isplitl [Hg]; · iexact Hg
      isplitl [HX]; · iexact HX
      isplitl [H6]; · iexact H6
      isplitl [H7]; · iexact H7
      iexact Hrest
    · isplitl [Hb] <;> iassumption
  isplitl [Hb]; · iexact Hb
  isplitl [HX H6 H7 HO]
  · unfold maskPre quiet
    isplitr [HO]
    · isplitl [HX]; · iexact HX
      isplitl [H6]; · iexact H6
      iexact H7
    · iexists W; isplitr
      · ipureintro; exact hW
      · iexact HO
  isplitr; · iapply ((K (F := F)).ctx_levAts κ); iexact Hctx
  iexact Hgh

/-! ## The run -/

theorem held_elem (d : Dev nD) (W : Valuation τ sig (Elt F)) {S : Finset (DevRef τ sig)} {b : DevRef τ sig} (hb : b ∈ S) :
    (held (T d) S W : sProp 𝕄) ⊢ ((d, b) : Loc nD τ sig) ↦{fullShare} W b := by
  unfold held
  rw [SparseCore.bigSep_erase' hb]
  exact sep_elim_left

/-- Every array held whole has the contents it is held with. -/
theorem held_agree (d : Dev nD) (W : Valuation τ sig (Elt F)) {S : Finset (DevRef τ sig)} (s' : Phys nD τ sig (Elt F)) {b : DevRef τ sig} (hb : b ∈ S) :
    iprop(held (T d) S W ∗ SI s') ⊢ (⌜s'.mem.mem (d, b) = W b⌝ : sProp 𝕄) := by
  iintro ⟨Hh, HSI⟩
  ihave Hx := (held_elem (F := F) d W hb) $$ Hh
  ihave H := (SI_pointsTo_agree (st := s') (ℓ := (d, b)) (I := Finset.univ) (q := fullShare) (f := W b)) $$ [HSI Hx]
  · isplitl [HSI] <;> iassumption
  icases H with %hx
  ipureintro
  exact funext fun i => hx i (Finset.mem_univ i)

def fq (d : Dev nD) (s' : Phys nD τ sig (Elt F)) : Prop := ∀ b ∈ S11, s'.mem.mem (d, b) = V8 m d b

theorem hfin (d : Dev nD) (s' : Phys nD τ sig (Elt F)) : iprop(FIN m d ∗ SI s') ⊢ (⌜fq m d s'⌝ : sProp 𝕄) := by
  unfold fq
  refine Entails.trans ?_ pure_forall.2
  refine forall_intro fun b => ?_
  exact pure_imp_intro fun hb => held_agree d _ s' hb

def QC : PUnit × MemSt nD τ sig (Elt F) → Prop := fun r => (∀ c : Dev nD, ∀ b ∈ S11, r.2.mem (c, b) = V8 m c b) ∧ r.2.sem = fun _ => 0

/-- Every run of the program ends, with the TensorCore's arrays at `V8` and every semaphore at zero. -/
theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m (wordsB m)) (A := ∅) scfacts v₀
    (fun q hq => match q with | 0 => nomatch hq)
    (fun q _ => match q with | 0 => tileObl m (wordsB m))
    (fun q _ => match q with | 0 => SparseCore.Cfg.VecSplit.of_plain (vecSplit m (wordsB m)))
    m ρ main (fun d => maskGhost d) (FIN m) (u₀ (F := F)) (sep_elim_left.trans (hu₀ m (wordsB m))) (hmain m ρ) (fq m) (hfin m) (QC m) (fun _ h hz => ⟨h, hz⟩)

end Cert.Proof.Sort
end
end
-- ==== Proof.TopK.lean ====
/-
  A stable sort of a row by descending word, as the row's order.
-/
module

public import proofs.«01_k».proof.Proof.Sort
public import Idealize.ShloMosaic.Lib.SortFacts
public import Idealize.ShloMosaic.Lib.SortKey

@[expose] public section

namespace Cert.Proof.Sort

open Idealize.ShloMosaic

/-! ## A stable sort puts equal keys in the order of their positions -/

section Stable

variable {n : ℕ} (G : Fin n → ℕ) (before : Fin n → Fin n → Bool) (hb : ∀ k k', before k k' = true ↔ G k < G k')

/-- Position `a` comes before position `b`: a smaller key, or the same key and an earlier position. -/
def Ahead (a b : Fin n) : Prop := G a < G b ∨ (G a = G b ∧ a < b)

include hb in
/-- Inserting a position that is earlier than every listed one keeps a list in order. -/
theorem insert_ahead (a : Fin n) (l : List (Fin n)) (hl : l.Pairwise (Ahead G)) (ha : ∀ b ∈ l, a < b) :
    (insertBefore before a l).Pairwise (Ahead G) := by
  induction l with
  | nil => exact List.pairwise_singleton _ _
  | cons b l ih =>
    rw [List.pairwise_cons] at hl
    unfold insertBefore
    split
    · rename_i h
      have h := (hb _ _).mp h
      refine List.pairwise_cons.mpr ⟨fun c hc => ?_, ih hl.2 fun c hc => ha c (List.mem_cons_of_mem _ hc)⟩
      rcases List.mem_cons.mp ((perm_insertBefore before a l).mem_iff.mp hc) with rfl | hc
      · exact Or.inl h
      · exact hl.1 c hc
    · rename_i h
      have h : ¬ G b < G a := fun h' => h ((hb _ _).mpr h')
      refine List.pairwise_cons.mpr ⟨fun c hc => ?_, List.pairwise_cons.mpr hl⟩
      have h1 : a < c := ha c hc
      have h2 : G a ≤ G c := by
        rcases List.mem_cons.mp hc with rfl | hc
        · omega
        · rcases hl.1 c hc with h3 | ⟨h3, -⟩ <;> omega
      unfold Ahead
      rcases Nat.lt_or_eq_of_le h2 with h3 | h3
      · exact Or.inl h3
      · exact Or.inr ⟨h3, h1⟩

include hb in
/-- The sort of a list of ascending positions is in order. -/
theorem sort_ahead (l : List (Fin n)) (hl : l.Pairwise (· < ·)) : (stableSort before l).Pairwise (Ahead G) := by
  induction l with
  | nil => exact List.Pairwise.nil
  | cons a l ih =>
    rw [List.pairwise_cons] at hl
    exact insert_ahead G before hb a _ (ih hl.2) fun b h => hl.1 b ((perm_stableSort before l).mem_iff.mp h)

include hb in
/-- The positions the sort lists are in order. -/
theorem sortedFrom_ahead {i j : Fin n} (h : i < j) : Ahead G (sortedFrom before i) (sortedFrom before j) := by
  have hp : (sortPositions n before).Pairwise (Ahead G) := sort_ahead G before hb _ (List.pairwise_lt_finRange n)
  exact List.pairwise_iff_get.mp hp _ _ h

end Stable

/-- A strictly increasing map of a finite range to itself is the identity. -/
theorem mono_id {n : ℕ} (g : Fin n → ℕ) (hg : ∀ i, g i < n) (hm : ∀ i j, i < j → g i < g j) (i : Fin n) : g i = i.val := by
  have hf : StrictMono fun i : Fin n => (⟨g i, hg i⟩ : Fin n) := fun i j h => hm i j h
  exact congrArg Fin.val (le_antisymm hf.apply_le hf.le_apply : (⟨g i, hg i⟩ : Fin n) = i)

/-! ## A row of words below `2 ^ 30` -/

section Row

variable (b : ℕ → BitVec 32) (hb : ∀ j < 25200, (b j).toNat < 2 ^ 30)

include hb in
theorem key_eq {j : ℕ} (hj : j < 25200) : (kys b j).toNat % 2 ^ (10 * 3) = 2 ^ 30 - 1 - (b j).toNat := by
  have := hb j hj
  unfold kys
  rw [BitVec.toNat_not]
  omega

include hb in
/-- One word is before another in the host's order exactly when it is the greater number. -/
theorem gt_iff {j j' : ℕ} (hj : j < 25200) (hj' : j' < 25200) :
    (FloatOps.cmpfTotal (F := Bits) (φ := .f32) .gt (b j) (b j') == 1#1) = true ↔ 2 ^ 30 - 1 - (b j).toNat < 2 ^ 30 - 1 - (b j').toNat := by
  have h1 := hb j hj
  have h2 := hb j' hj'
  have m1 : (b j).msb = false := BitVec.msb_eq_false_iff_two_mul_lt.mpr (by omega)
  have m2 : (b j').msb = false := BitVec.msb_eq_false_iff_two_mul_lt.mpr (by omega)
  rw [cmpfTotal_f32_eq_cmpi_sortableKey, sortableKey_of_msb_false _ m1, sortableKey_of_msb_false _ m2]
  show (BitVec.ofBool ((b j').slt (b j)) == 1#1) = true ↔ _
  have e : (b j').slt (b j) = decide ((b j').toNat < (b j).toNat) := by
    rw [BitVec.slt_eq_ult_of_msb_eq (m2.trans m1.symm)]; rfl
  rw [e]
  by_cases h : (b j').toNat < (b j).toNat
  · rw [decide_eq_true h]
    exact ⟨fun _ => by omega, fun _ => rfl⟩
  · rw [decide_eq_false h]
    exact ⟨fun h3 => absurd h3 (by decide), fun h3 => by omega⟩

include hb in
/-- The position a stable sort by the host's descending order puts at `p`. -/
theorem sortedFrom_row (before : Fin 25200 → Fin 25200 → Bool)
    (hbe : ∀ k k', before k k' = (FloatOps.cmpfTotal (F := Bits) (φ := .f32) .gt (b k.val) (b k'.val) == 1#1)) (p : Fin 25200) :
    (sortedFrom before p).val = io b p.val := by
  have ha : ∀ {i j : Fin 25200}, i < j → Ahead (fun k : Fin 25200 => 2 ^ 30 - 1 - (b k.val).toNat) (sortedFrom before i) (sortedFrom before j) :=
    sortedFrom_ahead _ _ fun k k' => by rw [hbe]; exact gt_iff b hb k.isLt k'.isLt
  have hm : ∀ i j : Fin 25200, i < j → sg b (sortedFrom before i).val < sg b (sortedFrom before j).val := by
    intro i j hij
    refine rank_lt_rank _ (sortedFrom before i).isLt ?_
    unfold gk
    rw [key_eq b hb (sortedFrom before i).isLt, key_eq b hb (sortedFrom before j).isLt]
    have hi := (sortedFrom before i).isLt
    rcases ha hij with h | ⟨h, h'⟩
    · exact lead_lt hi h
    · have h' : (sortedFrom before i).val < (sortedFrom before j).val := h'
      have h : 2 ^ 30 - 1 - (b (sortedFrom before i).val).toNat = 2 ^ 30 - 1 - (b (sortedFrom before j).val).toNat := h
      rw [h]
      exact Nat.add_lt_add_left h' _
  have e := mono_id (fun i => sg b (sortedFrom before i).val) (fun i => sg_lt b (sortedFrom before i).isLt) hm p
  exact (io_sg b (sortedFrom before p).isLt).symm.trans (congrArg (io b) e)

end Row

end Cert.Proof.Sort

end
-- ==== Proof.RefValue.lean ====
/-
  What the reference computes: its sorted values and its scattered products, by rows of words.
-/
module

public import proofs.«01_k».proof.Proof.TopK
public import proofs.«01_k».proof.Proof.Launch
public import proofs.«01_k».proof.Proof.Gen.Reference.Read
public import proofs.«01_k».proof.Proof.Gen.Reference
public import Idealize.ShloMosaic.Lib.Pipeline.Value
public import Idealize.ShloMosaic.Lib.Routing.OpsPair
public import Idealize.ShloMosaic.Lib.Routing.OpsSet
public import Idealize.ShloMosaic.Lib.ReduceAll

@[expose] public section

noncomputable section

namespace Cert.Proof.Sort

open Idealize.ShloMosaic Idealize.ShloMosaic.Routing Idealize.ShloMosaic.ValueIdx
open Cert.Reference.Read

/-! ## A stable sort of rows, read at an element -/

theorem along_row {R C : ℕ} (a : Fin R) (q k : Fin C) : Shape.Idx.along (s := shape2 R C) (ix2 a q) ⟨1, Nat.one_lt_two⟩ k = ix2 a k := by
  funext d
  unfold Shape.Idx.along
  match d with
  | ⟨0, _⟩ => exact Function.update_of_ne (fun h => absurd (congrArg Fin.val h) Nat.zero_ne_one) _ _
  | ⟨1, _⟩ => exact Function.update_self _ _ _

/-- The values and the positions the rows' greatest elements have. -/
theorem topK_read {R C k : ℕ} {α : Type} (hk : k ≤ C) (gt : α → α → BitVec 1) (x : (shape2 R C).Idx → α)
    (h : (shape2 R C).Slices (fun _ => 0) (shape2 R k)) (a : Fin R) (p : Fin k) :
    (Host.topK (shape2 R k) 1 gt x h).1 (ix2 a p) = x (ix2 a (sortedFrom (fun q q' => gt (x (ix2 a q)) (x (ix2 a q')) == 1#1) (p.castLE hk)))
      ∧ (Host.topK (shape2 R k) 1 gt x h).2 (ix2 a p) = BitVec.ofNat 32 (sortedFrom (fun q q' => gt (x (ix2 a q)) (x (ix2 a q')) == 1#1) (p.castLE hk)).val := by
  have hj : ∀ d : Fin (shape2 R C).rank, (ix2 (n0 := R) (n1 := C) a (p.castLE hk) d).val = 0 + (ix2 (n0 := R) (n1 := k) a p (d.cast h.1.symm)).val := by
    intro d
    rw [Nat.zero_add]
    match d with
    | ⟨0, _⟩ => rfl
    | ⟨1, _⟩ => rfl
  unfold Host.topK Host.sort2
  simp only [dif_pos (show 1 < (shape2 R C).rank from Nat.one_lt_two)]
  rw [extractStridedSlice_apply _ _ h (ix2 a p) (ix2 a (p.castLE hk)) hj, extractStridedSlice_apply _ _ h (ix2 a p) (ix2 a (p.castLE hk)) hj]
  have e : (fun q q' : Fin C => gt (x (Shape.Idx.along (s := shape2 R C) (ix2 a (p.castLE hk)) ⟨1, Nat.one_lt_two⟩ q))
      (x (Shape.Idx.along (s := shape2 R C) (ix2 a (p.castLE hk)) ⟨1, Nat.one_lt_two⟩ q')) == 1#1) = fun q q' => gt (x (ix2 a q)) (x (ix2 a q')) == 1#1 :=
    funext fun q => funext fun q' => by rw [along_row, along_row]
  exact ⟨(congrArg x (along_row a _ _)).trans (congrArg (fun f : Fin C → Fin C → Bool => x (ix2 a (sortedFrom f (p.castLE hk)))) e),
    (congrArg (iotaInDim (shape2 R C) 32 ⟨1, Nat.one_lt_two⟩) (along_row a _ _)).trans (congrArg (fun f : Fin C → Fin C → Bool => BitVec.ofNat 32 (sortedFrom f (p.castLE hk)).val) e)⟩

/-! ## Where the reference gathers and scatters -/

/-- An update lands at the row and the place its two words name, in its own channel. -/
theorem lands_row (idx : IVec Cert.Reference.S8x5040x2 32) (a a' : Fin 8) (p : Fin 5040) (j : Fin 25200) (c c' : Fin 256) :
    Cert.Reference.scatter_S8x25200x256_S8x5040x2_S8x5040x256_2_01_01_2.resultIdx? (ix3 a' p c') idx = some (ix3 a j c)
      ↔ (idx (ix3 a' p 0)).toInt = a.val ∧ (idx (ix3 a' p 1)).toInt = j.val ∧ c' = c := by
  generalize hd : Cert.Reference.scatter_S8x25200x256_S8x5040x2_S8x5040x256_2_01_01_2 = D
  have s0 : D.start (ix3 a' p c') idx 0 = (idx (ix3 a' p 0)).toInt := by
    subst hd
    refine congrArg (fun i => (idx i).toInt) (funext fun b => Fin.ext ?_)
    match b with
    | ⟨0, _⟩ => rfl
    | ⟨1, _⟩ => rfl
    | ⟨2, _⟩ => rfl
  have s1 : D.start (ix3 a' p c') idx 1 = (idx (ix3 a' p 1)).toInt := by
    subst hd
    refine congrArg (fun i => (idx i).toInt) (funext fun b => Fin.ext ?_)
    match b with
    | ⟨0, _⟩ => rfl
    | ⟨1, _⟩ => rfl
    | ⟨2, _⟩ => rfl
  have s2 : D.start (ix3 a' p c') idx 2 = 0 := by subst hd; rfl
  have w0 : D.window (ix3 a' p c') 0 = 0 := by subst hd; rfl
  have w1 : D.window (ix3 a' p c') 1 = 0 := by subst hd; rfl
  have w2 : D.window (ix3 a' p c') 2 = c'.val := by subst hd; rfl
  rw [resultIdx?_eq_some]
  constructor
  · intro h
    have h0 := h 0
    have h1 := h 1
    have h2 := h 2
    rw [s0, w0] at h0
    rw [s1, w1] at h1
    rw [s2, w2] at h2
    have h0 : (idx (ix3 a' p 0)).toInt + ((0 : ℕ) : Int) = (a.val : Int) := h0
    have h1 : (idx (ix3 a' p 1)).toInt + ((0 : ℕ) : Int) = (j.val : Int) := h1
    have h2 : (0 : Int) + ((c'.val : ℕ) : Int) = (c.val : Int) := h2
    exact ⟨by omega, by omega, Fin.ext (by omega)⟩
  · rintro ⟨h0, h1, rfl⟩ b
    match b with
    | ⟨0, _⟩ =>
      refine (congrArg₂ (fun u v => u + ((v : ℕ) : Int)) s0 w0).trans ?_
      rw [h0]; exact Int.add_zero _
    | ⟨1, _⟩ =>
      refine (congrArg₂ (fun u v => u + ((v : ℕ) : Int)) s1 w1).trans ?_
      rw [h1]; exact Int.add_zero _
    | ⟨2, _⟩ =>
      refine (congrArg₂ (fun u v => u + ((v : ℕ) : Int)) s2 w2).trans ?_
      exact Int.zero_add _

/-- The element gathered from a row at the place a word names. -/
theorem gather_row3 {α : Type} (y : Cert.Reference.S8x25200x256.Idx → α) (idx : IVec Cert.Reference.S8x5040x1 32) (a : Fin 8) (p : Fin 5040) (c : Fin 256)
    (n : Fin 25200) (hn : (idx (ix3 a p 0)).toInt = n.val) :
    Host.gather Cert.Reference.gather_S8x25200x256_S8x5040x1_S8x5040x256_2_1_0_0_1_2_11256 y idx (ix3 a p c) = y (ix3 a n c) := by
  unfold Host.gather
  refine congrArg y (funext fun b => Fin.ext ?_)
  match b with
  | ⟨0, _⟩ => exact (Nat.add_zero _).trans (Nat.zero_add _)
  | ⟨1, _⟩ =>
    have e : Cert.Reference.gather_S8x25200x256_S8x5040x1_S8x5040x256_2_1_0_0_1_2_11256.start (ix3 a p c) idx 1 = min (idx (ix3 a p 0)).toInt.toNat 25199 := by
      refine congrArg (fun i => min (idx i).toInt.toNat 25199) (funext fun b => Fin.ext ?_)
      match b with
      | ⟨0, _⟩ => rfl
      | ⟨1, _⟩ => rfl
      | ⟨2, _⟩ => rfl
    have hl := n.isLt
    refine (Nat.add_zero _).trans ((Nat.add_zero _).trans (e.trans ?_))
    rw [hn]
    show min ((n.val : Int)).toNat 25199 = n.val
    omega
  | ⟨2, _⟩ => exact Nat.zero_add _

/-! ## The reference's values -/

section Ref

variable (x : Cert.Reference.S8x100x252.Idx → BitVec 32) (B : Cert.Kernel.S201600.Idx → BitVec 32) (hc : Cert.Reference.S8x100x252.ShapeCasts Cert.Kernel.S201600)
  (hB : B = shapeCast Cert.Kernel.S201600 x hc)

include hB in
/-- The reference's rows are the rows of the words in order. -/
theorem ref_row (a : Fin 8) (j : Fin 25200) : (val_main_v2 (F := Bits) x (ix2 a j) : BitVec 32) = rowOf B a.val j.val := by
  have ha := a.isLt
  have hj := j.isLt
  unfold rowOf
  rw [val_main_v2_apply, dif_pos (by omega), hB]
  refine (shapeCast_apply x hc _ _ ?_).symm
  rw [Shape.rowMajor_val_three, Shape.rowMajor_val_one]
  show ((a.val * 25200 + j.val) / 25200 * 100 + (a.val * 25200 + j.val) / 252 % 100) * 252 + (a.val * 25200 + j.val) % 252 = a.val * 25200 + j.val
  omega

variable (hx : ∀ i, (x i).toNat < 2 ^ 30)

include hB hx in
/-- Every word of a row is below `2 ^ 30`. -/
theorem row_lt (n j : ℕ) : (rowOf B n j).toNat < 2 ^ 30 := by
  unfold rowOf
  split
  · rw [hB]; exact hx _
  · decide

include hB hx in
/-- The reference's sort, at a place of a row. -/
theorem ref_sorted (a : Fin 8) (p : Fin 25200) :
    (sortedFrom (fun q q' => FloatOps.cmpfTotal (F := Bits) (φ := .f32) .gt (val_main_v2 (F := Bits) x (ix2 a q)) (val_main_v2 (F := Bits) x (ix2 a q')) == 1#1) p).val
      = io (rowOf B a.val) p.val :=
  sortedFrom_row (rowOf B a.val) (fun j _ => row_lt x B hc hB hx _ _) _ (fun k k' => by rw [ref_row x B hc hB, ref_row x B hc hB]) p

include hB hx in
/-- The reference's second result: the selected words of each row in order. -/
theorem ref_values (a : Fin 8) (p : Fin 5040) : (val_main_values (F := Bits) x (ix2 a p) : BitVec 32) = tRow (rowOf B a.val) p.val := by
  unfold val_main_values
  refine ((topK_read (show 5040 ≤ 25200 by decide) _ _ _ a p).1.trans (ref_row x B hc hB a _)).trans ?_
  rw [ref_sorted x B hc hB hx]
  rfl

include hB hx in
/-- The positions they are taken from. -/
theorem ref_indices (a : Fin 8) (p : Fin 5040) : val_main_indices (F := Bits) x (ix2 a p) = BitVec.ofNat 32 (io (rowOf B a.val) p.val) := by
  unfold val_main_indices
  refine (topK_read (show 5040 ≤ 25200 by decide) _ _ _ a p).2.trans ?_
  rw [ref_sorted x B hc hB hx]
  rfl

/-- A word of a small number isn't negative. -/
theorem select_small (n : ℕ) (hn : n < 2 ^ 31) (y z : BitVec 32) (hy : z = BitVec.ofNat 32 n) : Scalar.select (IntOp.cmpi .slt z 0#32) y z = z := by
  have : z.msb = false := BitVec.msb_eq_false_iff_two_mul_lt.mpr (by rw [hy, BitVec.toNat_ofNat]; omega)
  have : IntOp.cmpi .slt z 0#32 = 0#1 := by
    show BitVec.ofBool (z.slt 0#32) = 0#1
    rw [BitVec.slt_zero_eq_msb, this]; rfl
  rw [this]
  rfl

theorem toInt_small (n : ℕ) (hn : n < 2 ^ 31) : (BitVec.ofNat 32 n).toInt = n := by
  rw [BitVec.toInt_eq_toNat_of_msb (BitVec.msb_eq_false_iff_two_mul_lt.mpr (by rw [BitVec.toNat_ofNat]; omega)), BitVec.toNat_ofNat]
  omega

/-- A word of a small number is at most another's. -/
theorem sle_small (n k : ℕ) (hk : k < 2 ^ 31) (h : n ≤ k) : IntOp.cmpi .sle (BitVec.ofNat 32 n) (BitVec.ofNat 32 k) = 1#1 := by
  show BitVec.ofBool ((BitVec.ofNat 32 n).sle (BitVec.ofNat 32 k)) = 1#1
  rw [BitVec.sle_iff_toInt_le.mpr (by rw [toInt_small n (by omega), toInt_small k hk]; omega)]
  rfl

theorem sge_small (n : ℕ) (hn : n < 2 ^ 31) : IntOp.cmpi .sge (BitVec.ofNat 32 n) 0#32 = 1#1 := by
  show BitVec.ofBool ((0#32).sle (BitVec.ofNat 32 n)) = 1#1
  rw [BitVec.sle_iff_toInt_le.mpr (by rw [toInt_small n hn]; exact Int.natCast_nonneg n)]
  rfl

include hB hx in
/-- The place a feature is taken from. -/
theorem ref_take (a : Fin 8) (p : Fin 5040) : val_main_call0_v4 (F := Bits) x (ix3 a p 0) = BitVec.ofNat 32 (io (rowOf B a.val) p.val) := by
  have hp := p.isLt
  have hio := (io_spec (rowOf B a.val) (p := p.val) (by omega)).1
  have e : idx_main_v3 (ix3 a p 0) = ix2 a p := by
    funext d
    match d with
    | ⟨0, _⟩ => rfl
    | ⟨1, _⟩ => rfl
  have e3 : val_main_v3 (F := Bits) x (ix3 a p 0) = BitVec.ofNat 32 (io (rowOf B a.val) p.val) := by
    rw [val_main_v3_apply, e]
    exact ref_indices x B hc hB hx a p
  rw [val_main_call0_v4_apply, val_main_call0_v1_apply, val_main_call0_v0_apply, val_main_call0_c_apply, select_small _ (by omega) _ _ e3]
  exact e3

include hB hx in
/-- Every place is inside the row, so that no feature is filled in. -/
theorem ref_inside (a : Fin 8) (p : Fin 5040) : val_main_call0_v11 (F := Bits) x (ix2 a p) = 1#1 := by
  have hio : ∀ k : Cert.Reference.S8x5040x1.Idx, val_main_call0_v10 (F := Bits) x k = 1#1 := by
    intro k
    obtain ⟨a', p', q', rfl⟩ : ∃ (a' : Fin 8) (p' : Fin 5040) (q' : Fin 1), k = ix3 a' p' q' := ⟨k 0, k 1, k 2, eq_ix3 k⟩
    obtain rfl : q' = 0 := Subsingleton.elim _ _
    have hp := p'.isLt
    have hio := (io_spec (rowOf B a'.val) (p := p'.val) (by omega)).1
    rw [val_main_call0_v10_apply, val_main_call0_v6_apply, val_main_call0_v9_apply, val_main_call0_v5_apply, val_main_call0_c_2_apply,
      val_main_call0_v8_apply, val_main_call0_v7_apply, val_main_call0_c_1_apply, ref_take x B hc hB hx, sge_small _ (by omega), sle_small _ _ (by omega) (by omega)]
    rfl
  unfold val_main_call0_v11
  exact Host.reduce_andi_one _ _ _ _ _ rfl hio

include hB hx in
/-- An update: a selected feature times its score. -/
theorem ref_update (x0 : Cert.Reference.S8x256x100x252.Idx → BitVec 32) (a : Fin 8) (p : Fin 5040) (c : Fin 256) (j : Fin 25200) (hj : io (rowOf B a.val) p.val = j.val) :
    val_main_v7 (F := Bits) x0 x (ix3 a p c) = FloatOps.mulf (F := Bits) (φ := .f32) (val_main_v1 (F := Bits) x0 (ix3 a j c)) (rowOf B a.val j.val) := by
  have e13 : idx_main_call0_v13 (ix3 a p c) = ix2 a p := by
    funext d
    match d with
    | ⟨0, _⟩ => rfl
    | ⟨1, _⟩ => rfl
  have e6 : idx_main_v5 (idx_main_v6 (ix3 a p c)) = ix2 a p := by
    funext d
    match d with
    | ⟨0, _⟩ => rfl
    | ⟨1, _⟩ => rfl
  have h4 : val_main_v4 (F := Bits) x0 x (ix3 a p c) = val_main_v1 (F := Bits) x0 (ix3 a j c) := by
    rw [val_main_v4_apply, val_main_call0_v13_apply, e13, ref_inside x B hc hB hx]
    have hl := j.isLt
    refine (show Scalar.select 1#1 _ _ = val_main_call0_v12 (F := Bits) x0 x (ix3 a p c) from rfl).trans ?_
    unfold val_main_call0_v12
    refine gather_row3 _ _ a p c j ?_
    rw [ref_take x B hc hB hx, toInt_small _ (by omega), hj]
  have h6 : val_main_v6 (F := Bits) x (ix3 a p c) = rowOf B a.val j.val := by
    rw [val_main_v6_apply, val_main_v5_apply, e6]
    exact (ref_values x B hc hB hx a p).trans (congrArg (rowOf B a.val) hj)
  exact congrArg₂ (FloatOps.mulf (F := Bits) (φ := .f32)) h4 h6

/-- The row an update is for. -/
theorem ref_col0 (a : Fin 8) (p : Fin 5040) : (val_main_v25 (F := Bits) x (ix3 a p 0)).toInt = a.val := by
  have ha := a.isLt
  unfold val_main_v25
  rw [concatenate_pair_apply_left (t := Cert.Reference.S8x5040x2) (s₁ := Cert.Reference.S8x5040x1) (s₂ := Cert.Reference.S8x5040x1) 2 _ _ _ (ix3 a p 0) rfl (ix3 a p 0)
    (fun d => match d with | ⟨0, _⟩ => rfl | ⟨1, _⟩ => rfl | ⟨2, _⟩ => rfl)]
  rw [val_main_v23_apply, val_main_v22_apply, val_main_v16_apply, val_main_v13_apply, val_main_v12_apply, val_main_c_apply,
    select_small a.val (by omega) _ _ (by rw [val_main_v11_apply, val_main_v10_apply]), val_main_v11_apply, val_main_v10_apply]
  exact toInt_small _ (by show a.val < 2 ^ 31; omega)

include hB hx in
/-- The place in the row an update is for. -/
theorem ref_col1 (a : Fin 8) (p : Fin 5040) : (val_main_v25 (F := Bits) x (ix3 a p 1)).toInt = io (rowOf B a.val) p.val := by
  have hp := p.isLt
  have hio := (io_spec (rowOf B a.val) (p := p.val) (by omega)).1
  unfold val_main_v25
  rw [concatenate_pair_apply_right (t := Cert.Reference.S8x5040x2) (s₁ := Cert.Reference.S8x5040x1) (s₂ := Cert.Reference.S8x5040x1) 2 _ _ _ (ix3 a p 1) rfl rfl (ix3 a p 0)
    (fun d => match d with | ⟨0, _⟩ => fun _ => rfl | ⟨1, _⟩ => fun _ => rfl | ⟨2, _⟩ => fun h => absurd rfl h) rfl]
  have e : idx_main_v24 (ix3 a p 0) = ix2 a p := by
    funext d
    match d with
    | ⟨0, _⟩ => rfl
    | ⟨1, _⟩ => rfl
  rw [val_main_v24_apply, e, val_main_v21_apply, val_main_v18_apply, val_main_v17_apply, val_main_c_1_apply,
    select_small _ (by omega) _ _ (ref_indices x B hc hB hx a p), ref_indices x B hc hB hx a p]
  exact toInt_small _ (by omega)

include hB hx in
/-- The reference's features, before they are given their shape: each times its score where the score is selected, times zero elsewhere. -/
theorem ref_sparse (x0 : Cert.Reference.S8x256x100x252.Idx → BitVec 32) (a : Fin 8) (j : Fin 25200) (c : Fin 256) :
    val_main_v26 (F := Bits) x0 x (ix3 a j c) = FloatOps.mulf (F := Bits) (φ := .f32) (val_main_v1 (F := Bits) x0 (ix3 a j c)) (wRow (rowOf B a.val) j.val) := by
  have hj := j.isLt
  have lands : ∀ (a' : Fin 8) (p : Fin 5040) (c' : Fin 256),
      Cert.Reference.scatter_S8x25200x256_S8x5040x2_S8x5040x256_2_01_01_2.resultIdx? (ix3 a' p c') (val_main_v25 (F := Bits) x) = some (ix3 a j c)
      ↔ a' = a ∧ io (rowOf B a.val) p.val = j.val ∧ c' = c := by
    intro a' p c'
    rw [lands_row, ref_col0, ref_col1 x B hc hB hx]
    constructor
    · rintro ⟨h1, h2, h3⟩
      obtain rfl : a' = a := Fin.ext (by omega)
      exact ⟨rfl, by omega, h3⟩
    · rintro ⟨rfl, h2, h3⟩
      exact ⟨rfl, by omega, h3⟩
  unfold val_main_v26 wRow
  split
  · rename_i h
    have e := io_sg (rowOf B a.val) (j := j.val) hj
    generalize sg (rowOf B a.val) j.val = q at h e
    refine scatter_set_hit _ _ _ _ _ _ (fun k hk => ?_) (ix3 a ⟨q, h⟩ c) ((lands a ⟨q, h⟩ c).mpr ⟨rfl, e, rfl⟩)
    obtain ⟨a', p', c', rfl⟩ : ∃ (a' : Fin 8) (p' : Fin 5040) (c' : Fin 256), k = ix3 a' p' c' := ⟨k 0, k 1, k 2, eq_ix3 k⟩
    obtain ⟨rfl, h2, rfl⟩ := (lands a' p' c').mp hk
    exact ref_update x B hc hB hx x0 a' p' c' j h2
  · rename_i h
    refine (scatter_set_miss _ _ _ _ _ fun k hk => ?_).trans ?_
    · obtain ⟨a', p', c', rfl⟩ : ∃ (a' : Fin 8) (p' : Fin 5040) (c' : Fin 256), k = ix3 a' p' c' := ⟨k 0, k 1, k 2, eq_ix3 k⟩
      have h2 := ((lands a' p' c').mp hk).2.1
      have hk1 := p'.isLt
      apply h
      rw [← h2, (io_spec _ (by omega)).2]
      exact hk1
    · rw [val_main_v9_apply, val_main_v8_apply, val_main_cst_apply]
      rfl

end Ref

end Cert.Proof.Sort

end
-- ==== Proof.Value.lean ====
/-
  The kernel's results as functions of its arguments, and their equality with the reference's.
-/
module

public import proofs.«01_k».proof.Proof.Main
public import proofs.«01_k».proof.Proof.RefValue
public import proofs.«01_k».proof.Pre_score_words
public import Idealize.ShloMosaic.Lib.StableHlo.Run

@[expose] public section

noncomputable section

namespace Cert.Proof.Sort

open Cert.Kernel Cert.Kernel.Gen
open Idealize.ShloMosaic Idealize.ShloMosaic.StableHlo Idealize.ShloMosaic.ValueIdx

section Kernel

variable {F : FTy → Type} [BitOps F] (m : (ℓ : Loc nD τ sig) → Buf (Elt F) ℓ) (d : Dev nD)

/-- The features' array is never written. -/
theorem V7_x : V7 m d rX = m (d, rX) := by
  unfold V7 V6 V5 V4
  rw [unary_result_ne (h := show main_arg0 ≠ main_v6 by decide), reshape_result_ne (h := show main_arg0 ≠ main_v5 by decide),
    unary_result_ne (h := show main_arg0 ≠ main_v4 by decide), reshape_result_ne (h := show main_arg0 ≠ main_v3 by decide),
    V3_of m d (show rX ≠ r2t by decide) (show rX ≠ r2g by decide)]
  unfold V2 V1
  rw [reshape_result_ne (h := show main_arg0 ≠ main_v1 by decide), unary_result_ne (h := show main_arg0 ≠ main_v0 by decide)]
  rfl
theorem V8_x : V8 m d rX = m (d, rX) := (V8_of m d (show rX ≠ r7 by decide)).trans (V7_x m d)

/-- The scores' array is never written. -/
theorem V8_scores : V8 m d rx = m (d, rx) := by
  rw [V8_of m d (show rx ≠ r7 by decide)]
  unfold V7 V6 V5 V4
  rw [unary_result_ne (h := show main_arg1 ≠ main_v6 by decide), reshape_result_ne (h := show main_arg1 ≠ main_v5 by decide),
    unary_result_ne (h := show main_arg1 ≠ main_v4 by decide), reshape_result_ne (h := show main_arg1 ≠ main_v3 by decide),
    V3_of m d (show rx ≠ r2t by decide) (show rx ≠ r2g by decide)]
  unfold V2 V1
  rw [reshape_result_ne (h := show main_arg1 ≠ main_v1 by decide), unary_result_ne (h := show main_arg1 ≠ main_v0 by decide)]
  rfl

/-- The words the sort takes are the scores'. -/
theorem words_eq : wordsB m d = shapeCast S201600 (bitcastToInt (m (d, rx) : S8x100x252.Idx → F .f32)) shapeCasts_S8x100x252_S201600 := by
  unfold wordsB V2 V1
  rw [reshape_result, unary_result]
  rfl

/-- The second result: the selected words of all rows. -/
theorem V8_tk : V8 m d r4 = (bitcastToFloat .f32 (shapeCast S8x5040 (tkOf (wordsB m d)) shapeCasts_S40320_S8x5040) : S8x5040.Idx → F .f32) := by
  rw [V8_of m d (show r4 ≠ r7 by decide)]
  unfold V7 V6 V5
  rw [unary_result_ne (h := show main_v4 ≠ main_v6 by decide), reshape_result_ne (h := show main_v4 ≠ main_v5 by decide), unary_result]
  unfold V4
  rw [reshape_result, V3_t]
  rfl

/-- The maps of all rows, as the mask takes them. -/
theorem V7_map : V7 m d r6 = (bitcastToFloat .f32 (shapeCast S8x100x252 (mapOf (wordsB m d)) shapeCasts_S201600_S8x100x252) : S8x100x252.Idx → F .f32) := by
  unfold V7
  rw [unary_result]
  unfold V6
  rw [reshape_result]
  unfold V5 V4
  rw [unary_result_ne (h := show main_v2_1 ≠ main_v4 by decide), reshape_result_ne (h := show main_v2_1 ≠ main_v3 by decide), V3_g]
  rfl

/-- The first result: each feature times the map at its position. -/
theorem V8_sparse (i : S8x256x100x252.Idx) : V8 m d r7 i = FloatOps.mulf (m (d, rX) i : F .f32) (V7 m d r6 (mapAt i) : F .f32) := by
  rw [V8_7]
  refine (product_apply (A7 m) d i).trans ?_
  unfold A7
  exact congrArg (fun f : S8x256x100x252.Idx → F .f32 => FloatOps.mulf (f i) (V7 m d r6 (mapAt i) : F .f32)) (V7_x m d)

end Kernel

/-- At the machine's words a bitcast keeps the word. -/
theorem bitcast_bits {s : Shape} (y : s.Idx → BitVec 32) : (bitcastToFloat (F := Bits) .f32 y : s.Idx → BitVec 32) = y := rfl

/-! ## The two programs' results are equal -/

section Equal

variable (x : S8x100x252.Idx → BitVec 32) (B : S201600.Idx → BitVec 32) (hB : B = shapeCast S201600 x shapeCasts_S8x100x252_S201600)
  (hx : ∀ i, (x i).toNat < 2 ^ 30)

include hB hx in
/-- The selected words are the reference's values. -/
theorem tk_eq : (Cert.Reference.Read.val_main_values (F := Bits) x : S8x5040.Idx → BitVec 32) = shapeCast S8x5040 (tkOf B) shapeCasts_S40320_S8x5040 := by
  funext i
  obtain ⟨a, p, rfl⟩ : ∃ (a : Fin 8) (p : Fin 5040), i = ix2 a p := ⟨i 0, i 1, eq_ix2 i⟩
  have ha := a.isLt
  have hp := p.isLt
  refine (ref_values x B _ hB hx a p).trans ?_
  refine ((shapeCast_apply (tkOf B) shapeCasts_S40320_S8x5040 (ix2 a p) (ixOf (n := 40320) (a.val * 5040 + p.val) (by omega)) ?_).trans ?_).symm
  · rw [Shape.rowMajor_val_two, Shape.rowMajor_val_one]; rfl
  · unfold tkOf
    show tRow (rowOf B ((a.val * 5040 + p.val) / 5040)) ((a.val * 5040 + p.val) % 5040) = _
    rw [show (a.val * 5040 + p.val) / 5040 = a.val by omega, show (a.val * 5040 + p.val) % 5040 = p.val by omega]

include hB hx in
/-- Each feature times the map at its position is the reference's. -/
theorem sparse_eq (x0 : S8x256x100x252.Idx → BitVec 32) (i : S8x256x100x252.Idx) :
    (Cert.Reference.Read.val_main_v28 (F := Bits) x0 x i : BitVec 32)
      = FloatOps.mulf (F := Bits) (φ := .f32) (x0 i) (shapeCast S8x100x252 (mapOf B) shapeCasts_S201600_S8x100x252 (mapAt i)) := by
  have h0 : (i 0).val < 8 := (i 0).isLt
  have h1 : (i 1).val < 256 := (i 1).isLt
  have h2 : (i 2).val < 100 := (i 2).isLt
  have h3 : (i 3).val < 252 := (i 3).isLt
  have ea : (((i 0).val * 256 + (i 1).val) * 100 + (i 2).val) * 252 + (i 3).val = ((i 0).val * 256 + (i 1).val) * 25200 + ((i 2).val * 252 + (i 3).val) := by omega
  have e : Cert.Reference.Read.idx_main_v27 (Cert.Reference.Read.idx_main_v28 i)
      = ix3 (⟨(i 0).val, h0⟩ : Fin 8) (⟨(i 2).val * 252 + (i 3).val, by omega⟩ : Fin 25200) (⟨(i 1).val, h1⟩ : Fin 256) := by
    funext a
    apply Fin.ext
    match a with
    | ⟨0, _⟩ => show ((((i 0).val * 256 + (i 1).val) * 100 + (i 2).val) * 252 + (i 3).val) / 6451200 = (i 0).val; omega
    | ⟨1, _⟩ => show ((((i 0).val * 256 + (i 1).val) * 100 + (i 2).val) * 252 + (i 3).val) % 25200 = (i 2).val * 252 + (i 3).val; omega
    | ⟨2, _⟩ => show ((((i 0).val * 256 + (i 1).val) * 100 + (i 2).val) * 252 + (i 3).val) / 25200 % 256 = (i 1).val; omega
  have ex : Cert.Reference.Read.idx_main_v0 (Cert.Reference.Read.idx_main_v1
      (ix3 (⟨(i 0).val, h0⟩ : Fin 8) (⟨(i 2).val * 252 + (i 3).val, by omega⟩ : Fin 25200) (⟨(i 1).val, h1⟩ : Fin 256))) = i := by
    funext a
    apply Fin.ext
    match a with
    | ⟨0, _⟩ => show (((i 0).val * 256 + (i 1).val) * 25200 + ((i 2).val * 252 + (i 3).val)) / 6451200 = (i 0).val; omega
    | ⟨1, _⟩ => show (((i 0).val * 256 + (i 1).val) * 25200 + ((i 2).val * 252 + (i 3).val)) / 25200 % 256 = (i 1).val; omega
    | ⟨2, _⟩ => show (((i 0).val * 256 + (i 1).val) * 25200 + ((i 2).val * 252 + (i 3).val)) / 252 % 100 = (i 2).val; omega
    | ⟨3, _⟩ => show (((i 0).val * 256 + (i 1).val) * 25200 + ((i 2).val * 252 + (i 3).val)) % 252 = (i 3).val; omega
  rw [Cert.Reference.Read.val_main_v28_apply, Cert.Reference.Read.val_main_v27_apply, e]
  refine (ref_sparse x B _ hB hx x0 _ _ _).trans ?_
  rw [Cert.Reference.Read.val_main_v1_apply, Cert.Reference.Read.val_main_v0_apply, ex]
  refine congrArg (FloatOps.mulf (F := Bits) (φ := .f32) (x0 i)) ?_
  refine ((shapeCast_apply (mapOf B) shapeCasts_S201600_S8x100x252 (mapAt i) (ixOf (n := 201600) ((i 0).val * 25200 + ((i 2).val * 252 + (i 3).val)) (by omega)) ?_).trans ?_).symm
  · rw [Shape.rowMajor_val_three, Shape.rowMajor_val_one]
    show (i 0).val * 25200 + ((i 2).val * 252 + (i 3).val) = ((i 0).val * 100 + (i 2).val) * 252 + (i 3).val
    omega
  · show wRow (rowOf B (((i 0).val * 25200 + ((i 2).val * 252 + (i 3).val)) / 25200)) (((i 0).val * 25200 + ((i 2).val * 252 + (i 3).val)) % 25200) = _
    rw [show ((i 0).val * 25200 + ((i 2).val * 252 + (i 3).val)) / 25200 = (i 0).val by omega,
      show ((i 0).val * 25200 + ((i 2).val * 252 + (i 3).val)) % 25200 = (i 2).val * 252 + (i 3).val by omega]

end Equal

/-- What the precondition says of each word. -/
theorem pre_words [Cert.Pre_score_words.Facts] (x0 : S8x256x100x252.Idx → BitVec 32) (x : S8x100x252.Idx → BitVec 32) (h : Cert.Pre_score_words.fn (F := Bits) x0 x = fun _ => 1#1) (i : S8x100x252.Idx) :
    (x i).toNat < 2 ^ 30 := by
  have h := congrFun h i
  have h : IntOp.andi (IntOp.cmpi .sge (x i) 0#32) (IntOp.cmpi .slt (x i) 1073741824#32) = 1#1 := h
  generalize x i = w at h ⊢
  have h : BitVec.ofBool ((0#32).sle w) &&& BitVec.ofBool (w.slt 1073741824#32) = 1#1 := h
  have h1 : (0#32).sle w = true := by
    cases e : (0#32).sle w
    · rw [e] at h; cases e' : w.slt 1073741824#32 <;> rw [e'] at h <;> exact absurd h (by decide)
    · rfl
  have h2 : w.slt 1073741824#32 = true := by
    cases e : w.slt 1073741824#32
    · rw [e, h1] at h; exact absurd h (by decide)
    · rfl
  have h1 := BitVec.sle_iff_toInt_le.mp h1
  have h2 := BitVec.slt_iff_toInt_lt.mp h2
  have e0 : (0#32).toInt = 0 := by decide
  have e1 : (1073741824#32).toInt = 1073741824 := by decide
  rw [e0] at h1
  rw [e1] at h2
  have := BitVec.toInt_eq_toNat_cond w
  split at this <;> omega

end Cert.Proof.Sort

end
-- ==== Proof.HeadIdeal.lean ====
/-
  The score head, as the program the ideal claims are of: the body at a point of the grid leaves in the output's buffer,
  row by row, the scores of its block of the features, so the region leaves in the output's array the scores of all of
  them. The last block of a column of the grid reaches past the array's end; a row of the output reads its own row of the
  block only, so what lies past the end reaches no row inside.
-/
module

public import proofs.«01_k».proof.Proof.Gen.ScoreIdeal
public import proofs.«01_k».proof.Proof.Gen.ScoreIdeal.Skeleton
public import proofs.«01_k».proof.Proof.Gen.ScoreIdeal.Launch
public import proofs.«01_k».proof.Proof.Gen.ScoreIdeal.Points
public import proofs.«01_k».proof.Proof.Gen.ScoreIdeal.Frame
public import Idealize.ShloMosaic.Lib.Pipeline.FrameBody
public import Idealize.ShloMosaic.Lib.Pipeline.Frame
public import Idealize.ShloMosaic.Lib.Pipeline.Value
public import Idealize.ShloMosaic.Lib.Ring

@[expose] public section

set_option maxRecDepth 16384

noncomputable section

namespace Cert.ScoreIdeal.Head

open Cert.ScoreIdeal Cert.ScoreIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type} [FloatOps F]

local notation "𝕄" => MT nD τ sig Unit (Elt F) ℕ (UR sig nD τ) ℕ

/-! ## The body -/

/-- The whole of the first weights, of a column of 256, and of a single number. -/
abbrev rectW : Rect S256x256 := Rect.unit (s := S256x256) ![0, 0] S256x256.size inb_S256x256_S256x256_0_0
abbrev rectC : Rect S256x1 := Rect.unit (s := S256x1) ![0, 0] S256x1.size inb_S256x1_S256x1_0_0
abbrev rectB : Rect S1x1 := Rect.unit (s := S1x1) ![0, 0] S1x1.size inb_S1x1_S1x1_0_0

/-- One row of a block of the features. -/
def rowOf (x : Vec F S1x256x8x252 .f32) (r : Fin 8) : Vec F S1x256x1x252 .f32 :=
  fun z => x (fun a => match a with
    | ⟨0, _⟩ => ⟨(z 0).val, (z 0).isLt⟩ | ⟨1, _⟩ => ⟨(z 1).val, (z 1).isLt⟩ | ⟨2, _⟩ => r | ⟨3, _⟩ => ⟨(z 3).val, (z 3).isLt⟩)

/-- The place in its row of an index of the output's block. -/
def inRow (y : S1x8x252.Idx) : S1x1x252.Idx :=
  fun a => match a with
    | ⟨0, _⟩ => ⟨(y 0).val, (y 0).isLt⟩ | ⟨1, _⟩ => ⟨0, Nat.one_pos⟩ | ⟨2, _⟩ => ⟨(y 2).val, (y 2).isLt⟩

/-- What the body leaves in the output's buffer: at each row, the scores of that row of the block of the features. -/
def headBlk (x : Vec F S1x256x8x252 .f32) (w1 : Vec F S256x256 .f32) (b1 w2 : Vec F S256x1 .f32) (b2 : Vec F S1x1 .f32) : Vec F S1x8x252 .f32 :=
  fun y => k0_pay2 (View.ld w1 rectW) (View.ld w2 rectC) (rowOf x ⟨(y 1).val, (y 1).isLt⟩) (View.ld b1 rectC) (View.ld b2 rectB) (inRow y)

theorem ld_row (x : Vec F S1x256x8x252 .f32) (q : Nat) (hi : ∀ a, (![0, 0, q, 0] : Fin 4 → Nat) a + S1x256x1x252.size a ≤ S1x256x8x252.size a)
    (r : Fin 8) (hr : r.val = q) : View.ld x (Rect.unit (s := S1x256x8x252) ![0, 0, q, 0] S1x256x1x252.size hi) = rowOf x r := by
  subst hr
  funext t
  refine congrArg x (funext fun a => Fin.ext ?_)
  match a with
  | ⟨0, _⟩ => show 0 + 1 * (t 0).val = (t 0).val; omega
  | ⟨1, _⟩ => show 0 + 1 * (t 1).val = (t 1).val; omega
  | ⟨2, _⟩ => have h : (t 2).val < 1 := (t 2).isLt; show r.val + 1 * (t 2).val = r.val; omega
  | ⟨3, _⟩ => show 0 + 1 * (t 3).val = (t 3).val; omega

/-- What is stored in a row is what `headBlk` has there. -/
theorem row_eq (x : Vec F S1x256x8x252 .f32) (w1 : Vec F S256x256 .f32) (b1 w2 : Vec F S256x1 .f32) (b2 : Vec F S1x1 .f32)
    (q : Nat) (hi : ∀ a, (![0, 0, q, 0] : Fin 4 → Nat) a + S1x256x1x252.size a ≤ S1x256x8x252.size a)
    (ho : ∀ a, (![0, q, 0] : Fin 3 → Nat) a + S1x1x252.size a ≤ S1x8x252.size a) (z : S1x1x252.Idx) :
    k0_pay2 (View.ld w1 rectW) (View.ld w2 rectC) (View.ld x (Rect.unit (s := S1x256x8x252) ![0, 0, q, 0] S1x256x1x252.size hi)) (View.ld b1 rectC) (View.ld b2 rectB) z
      = headBlk x w1 b1 w2 b2 ((Rect.unit (s := S1x8x252) ![0, q, 0] S1x1x252.size ho).idx z) := by
  have h0 : (z 0).val < 1 := (z 0).isLt
  have h1 : (z 1).val < 1 := (z 1).isLt
  unfold headBlk
  rw [ld_row x q hi ⟨_, _⟩ (show q + 1 * (z 1).val = q by omega)]
  refine congrArg _ (funext fun a => Fin.ext ?_)
  match a with
  | ⟨0, _⟩ => show (z 0).val = 0 + 1 * (z 0).val; omega
  | ⟨1, _⟩ => show (z 1).val = 0; omega
  | ⟨2, _⟩ => show (z 2).val = 0 + 1 * (z 2).val; omega

/-- The body's eight stores, the last first. -/
abbrev rows (p0 p1 p2 p3 p4 p5 p6 p7 : Vec F S1x1x252 .f32) : List (View.Piece (Elt F) S1x8x252 .f32) :=
  [⟨Rect.unit (s := S1x8x252) ![0, 7, 0] S1x1x252.size inb_S1x8x252_S1x1x252_0_7_0, p7⟩,
    ⟨Rect.unit (s := S1x8x252) ![0, 6, 0] S1x1x252.size inb_S1x8x252_S1x1x252_0_6_0, p6⟩,
    ⟨Rect.unit (s := S1x8x252) ![0, 5, 0] S1x1x252.size inb_S1x8x252_S1x1x252_0_5_0, p5⟩,
    ⟨Rect.unit (s := S1x8x252) ![0, 4, 0] S1x1x252.size inb_S1x8x252_S1x1x252_0_4_0, p4⟩,
    ⟨Rect.unit (s := S1x8x252) ![0, 3, 0] S1x1x252.size inb_S1x8x252_S1x1x252_0_3_0, p3⟩,
    ⟨Rect.unit (s := S1x8x252) ![0, 2, 0] S1x1x252.size inb_S1x8x252_S1x1x252_0_2_0, p2⟩,
    ⟨Rect.unit (s := S1x8x252) ![0, 1, 0] S1x1x252.size inb_S1x8x252_S1x1x252_0_1_0, p1⟩,
    ⟨Rect.unit (s := S1x8x252) ![0, 0, 0] S1x1x252.size inb_S1x8x252_S1x1x252_0_0_0, p0⟩]

/-- They cover the output's buffer. -/
theorem rows_cover (p0 p1 p2 p3 p4 p5 p6 p7 : Vec F S1x1x252 .f32) (y : S1x8x252.Idx) : ∃ pc ∈ rows p0 p1 p2 p3 p4 p5 p6 p7, y ∈ pc.1.set :=
  View.cover_of_tiled (rows p0 p1 p2 p3 p4 p5 p6 p7) S1x1x252.size (by rfl) y

set_option maxHeartbeats 4000000 in
/-- The body keeps its five inputs and leaves their scores in the output's buffer. -/
theorem body_wp (c : Dev nD) (i : grid0.Coords) (bx : Memref sig .tc .vmem S1x256x8x252 .f32) (hbx : bx.IsWhole)
    (bw1 : Memref sig .tc .vmem S256x256 .f32) (hbw1 : bw1.IsWhole) (bb1 : Memref sig .tc .vmem S256x1 .f32) (hbb1 : bb1.IsWhole)
    (bw2 : Memref sig .tc .vmem S256x1 .f32) (hbw2 : bw2.IsWhole) (bb2 : Memref sig .tc .vmem S1x1 .f32) (hbb2 : bb2.IsWhole)
    (bo : Memref sig .tc .vmem S1x8x252 .f32) (hbo : bo.IsWhole)
    (x : Vec F S1x256x8x252 .f32) (w1 : Vec F S256x256 .f32) (b1 w2 : Vec F S256x1 .f32) (b2 : Vec F S1x1 .f32) (Φ : PUnit → sProp 𝕄) :
    iprop(owns (c : Thread nD τ) bx fullShare x ∗ owns (c : Thread nD τ) bw1 fullShare w1 ∗ owns (c : Thread nD τ) bb1 fullShare b1
        ∗ owns (c : Thread nD τ) bw2 fullShare w2 ∗ owns (c : Thread nD τ) bb2 fullShare b2 ∗ (∃ o, owns (c : Thread nD τ) bo fullShare o)
        ∗ (iprop(owns (c : Thread nD τ) bx fullShare x ∗ owns (c : Thread nD τ) bw1 fullShare w1 ∗ owns (c : Thread nD τ) bb1 fullShare b1
            ∗ owns (c : Thread nD τ) bw2 fullShare w2 ∗ owns (c : Thread nD τ) bb2 fullShare b2
            ∗ owns (c : Thread nD τ) bo fullShare (headBlk x w1 b1 w2 b2)) -∗ Φ ⟨⟩))
      ⊢ wp frame (wpE (defs₀ (F := F)) Variants.none c none) Set.univ (cc0__score_body i bx hbx bw1 hbw1 bb1 hbb1 bw2 hbw2 bb2 hbb2 bo hbo) Φ := by
  simp only [cc0__score_body_eq_skeleton]; unfold cc0__score_body_skel
  simp only [k0_part1_eq_skeleton, k0_part2_eq_skeleton, k0_part3_eq_skeleton, k0_part4_eq_skeleton]
  unfold owns
  iintro ⟨⟨%fx, %hx, Hx⟩, ⟨%f1, %h1, H1⟩, ⟨%g1, %k1, G1⟩, ⟨%f2, %h2, H2⟩, ⟨%g2, %k2, G2⟩, ⟨%o, %fo, -, Ho⟩, Hk⟩
  subst hx h1 k1 h2 k2
  sl_exec
  sl_step
  iapply Hk
  isplitl [Hx]
  · iexists fx; isplitr
    · ipureintro; rfl
    · iexact Hx
  isplitl [H1]
  · iexists f1; isplitr
    · ipureintro; rfl
    · iexact H1
  isplitl [G1]
  · iexists g1; isplitr
    · ipureintro; rfl
    · iexact G1
  isplitl [H2]
  · iexists f2; isplitr
    · ipureintro; rfl
    · iexact H2
  isplitl [G2]
  · iexists g2; isplitr
    · ipureintro; rfl
    · iexact G2
  iexists _; isplitr
  rotate_left
  · iexact Ho
  · ipureintro
    refine (View.read_writes_eq_canon _ _ _ (rows_cover _ _ _ _ _ _ _ _)).trans (funext fun y => ?_)
    refine View.canon_apply_of_pieces (headBlk _ _ _ _ _) _ ?_ y (rows_cover _ _ _ _ _ _ _ _ y)
    intro pc hpc
    simp only [List.mem_cons, List.not_mem_nil, or_false] at hpc
    rcases hpc with rfl | rfl | rfl | rfl | rfl | rfl | rfl | rfl
    · exact fun z => row_eq (bx.view.read (Elt F) fx) (bw1.view.read (Elt F) f1) (bb1.view.read (Elt F) g1) (bw2.view.read (Elt F) f2) (bb2.view.read (Elt F) g2)
        7 inb_S1x256x8x252_S1x256x1x252_0_0_7_0 inb_S1x8x252_S1x1x252_0_7_0 z
    · exact fun z => row_eq (bx.view.read (Elt F) fx) (bw1.view.read (Elt F) f1) (bb1.view.read (Elt F) g1) (bw2.view.read (Elt F) f2) (bb2.view.read (Elt F) g2)
        6 inb_S1x256x8x252_S1x256x1x252_0_0_6_0 inb_S1x8x252_S1x1x252_0_6_0 z
    · exact fun z => row_eq (bx.view.read (Elt F) fx) (bw1.view.read (Elt F) f1) (bb1.view.read (Elt F) g1) (bw2.view.read (Elt F) f2) (bb2.view.read (Elt F) g2)
        5 inb_S1x256x8x252_S1x256x1x252_0_0_5_0 inb_S1x8x252_S1x1x252_0_5_0 z
    · exact fun z => row_eq (bx.view.read (Elt F) fx) (bw1.view.read (Elt F) f1) (bb1.view.read (Elt F) g1) (bw2.view.read (Elt F) f2) (bb2.view.read (Elt F) g2)
        4 inb_S1x256x8x252_S1x256x1x252_0_0_4_0 inb_S1x8x252_S1x1x252_0_4_0 z
    · exact fun z => row_eq (bx.view.read (Elt F) fx) (bw1.view.read (Elt F) f1) (bb1.view.read (Elt F) g1) (bw2.view.read (Elt F) f2) (bb2.view.read (Elt F) g2)
        3 inb_S1x256x8x252_S1x256x1x252_0_0_3_0 inb_S1x8x252_S1x1x252_0_3_0 z
    · exact fun z => row_eq (bx.view.read (Elt F) fx) (bw1.view.read (Elt F) f1) (bb1.view.read (Elt F) g1) (bw2.view.read (Elt F) f2) (bb2.view.read (Elt F) g2)
        2 inb_S1x256x8x252_S1x256x1x252_0_0_2_0 inb_S1x8x252_S1x1x252_0_2_0 z
    · exact fun z => row_eq (bx.view.read (Elt F) fx) (bw1.view.read (Elt F) f1) (bb1.view.read (Elt F) g1) (bw2.view.read (Elt F) f2) (bb2.view.read (Elt F) g2)
        1 inb_S1x256x8x252_S1x256x1x252_0_0_1_0 inb_S1x8x252_S1x1x252_0_1_0 z
    · exact fun z => row_eq (bx.view.read (Elt F) fx) (bw1.view.read (Elt F) f1) (bb1.view.read (Elt F) g1) (bw2.view.read (Elt F) f2) (bb2.view.read (Elt F) g2)
        0 inb_S1x256x8x252_S1x256x1x252_0_0_0_0 inb_S1x8x252_S1x1x252_0_0_0 z

/-! ## The region's proof data -/

variable (m : (ℓ : Loc nD τ sig) → Buf (Elt F) ℓ) (ρ : Dev nD → PrngReg)

/-- The features' block at a point, what of it lies past the array's end taken to be the zero word. -/
def xBlk (c : Dev nD) (t : Fin cfg0.N) : Vec F S1x256x8x252 .f32 :=
  win0_0.fill (grid0.coords t) (fun _ => Scalar.ofBits .f32 0x00000000#32) (iblk m c 0 t)

/-- The scores of a block at a point, whatever the features' buffer holds. -/
def scoresOf (c : Dev nD) (t : Fin cfg0.N) (x : Vec F S1x256x8x252 .f32) : Vec F S1x8x252 .f32 :=
  headBlk x (iblk m c 1 t) (iblk m c 2 t) (iblk m c 3 t) (iblk m c 4 t)

def headDat (c : Dev nD) : Dat τ (Elt F) Unit ℕ (UR sig nD τ) ℕ cfg0 c where
  A w := V m c (Pipeline.arrRef spec0 w)
  after w t := match w with
    | ⟨0, _⟩ => xBlk m c t
    | ⟨1, _⟩ => iblk m c 1 t
    | ⟨2, _⟩ => iblk m c 2 t
    | ⟨3, _⟩ => iblk m c 3 t
    | ⟨4, _⟩ => iblk m c 4 t
    | ⟨5, _⟩ => scoresOf m c t (xBlk m c t)
  Φ _ := Pipeline.ΦA spec0 c
  q _ := fullShare
  owed _ := 0

def dats (p : Fin 1) (c : Dev nD) : Dat τ (Elt F) Unit ℕ (UR sig nD τ) ℕ (cfgs p) c :=
  match p with
  | 0 => headDat m c

theorem A_eq (c : Dev nD) (w : Fin cfg0.W) : (headDat m c).A w = V m c (Pipeline.arrRef spec0 w) := by dsimp only [headDat]
theorem after_0 (c : Dev nD) (t : Fin cfg0.N) : (headDat m c).after 0 t = xBlk m c t := by dsimp only [headDat]
theorem after_1 (c : Dev nD) (t : Fin cfg0.N) : (headDat m c).after 1 t = iblk m c 1 t := by dsimp only [headDat]
theorem after_2 (c : Dev nD) (t : Fin cfg0.N) : (headDat m c).after 2 t = iblk m c 2 t := by dsimp only [headDat]
theorem after_3 (c : Dev nD) (t : Fin cfg0.N) : (headDat m c).after 3 t = iblk m c 3 t := by dsimp only [headDat]
theorem after_4 (c : Dev nD) (t : Fin cfg0.N) : (headDat m c).after 4 t = iblk m c 4 t := by dsimp only [headDat]
theorem after_5 (c : Dev nD) (t : Fin cfg0.N) : (headDat m c).after 5 t = scoresOf m c t (xBlk m c t) := by dsimp only [headDat]

/-- The features' buffer holds their block when the body starts, and past the array's end what it held. -/
theorem before_0 (c : Dev nD) (t : Fin cfg0.N) (d) :
    (headDat m c).before 0 t d = win0_0.fill (grid0.coords t) d (iblk m c 0 t) := by
  unfold Dat.before; rw [if_pos (fetch0_0 t)]; rfl
/-- The other inputs' buffers hold theirs. -/
theorem before_1 (c : Dev nD) (t : Fin cfg0.N) (d) : (headDat m c).before 1 t d = iblk m c 1 t := before0_1_of m (headDat m c) (A_eq m c 1) (after_1 m c) t d
theorem before_2 (c : Dev nD) (t : Fin cfg0.N) (d) : (headDat m c).before 2 t d = iblk m c 2 t := before0_2_of m (headDat m c) (A_eq m c 2) (after_2 m c) t d
theorem before_3 (c : Dev nD) (t : Fin cfg0.N) (d) : (headDat m c).before 3 t d = iblk m c 3 t := before0_3_of m (headDat m c) (A_eq m c 3) (after_3 m c) t d
theorem before_4 (c : Dev nD) (t : Fin cfg0.N) (d) : (headDat m c).before 4 t d = iblk m c 4 t := before0_4_of m (headDat m c) (A_eq m c 4) (after_4 m c) t d

/-- How far the features' block reaches inside the array: whole, except in its rows, where it reaches as far as the output's. -/
theorem moved_size : ∀ t : Fin grid0.N, win0_0.xsize (grid0.coords t) 0 = 1 ∧ win0_0.xsize (grid0.coords t) 1 = 256
    ∧ win0_0.xsize (grid0.coords t) 2 = win0_5.xsize (grid0.coords t) 1 ∧ win0_0.xsize (grid0.coords t) 3 = 252 := by decide +kernel

/-- What lies past the array's end reaches no row of the output inside it. -/
theorem scores_cut (c : Dev nD) (t : Fin cfg0.N) (x x' : Vec F S1x256x8x252 .f32)
    (h : win0_0.cut (grid0.coords t) x = win0_0.cut (grid0.coords t) x') :
    win0_5.cut (grid0.coords t) (scoresOf m c t x) = win0_5.cut (grid0.coords t) (scoresOf m c t x') := by
  funext j
  have hj : (j 1).val < win0_5.xsize (grid0.coords t) 1 := (j 1).isLt
  obtain ⟨s0, s1, s2, s3⟩ := moved_size t
  have e : rowOf x ⟨(win0_5.xinj (grid0.coords t) j 1).val, (win0_5.xinj (grid0.coords t) j 1).isLt⟩
      = rowOf x' ⟨(win0_5.xinj (grid0.coords t) j 1).val, (win0_5.xinj (grid0.coords t) j 1).isLt⟩ := by
    funext z
    let k : (win0_0.xblock (grid0.coords t)).Idx := fun a => match a with
      | ⟨0, _⟩ => ⟨(z 0).val, Nat.lt_of_lt_of_eq (z 0).isLt s0.symm⟩
      | ⟨1, _⟩ => ⟨(z 1).val, Nat.lt_of_lt_of_eq (z 1).isLt s1.symm⟩
      | ⟨2, _⟩ => ⟨(j 1).val, Nat.lt_of_lt_of_eq hj s2.symm⟩
      | ⟨3, _⟩ => ⟨(z 3).val, Nat.lt_of_lt_of_eq (z 3).isLt s3.symm⟩
    have hk : ∀ u : Vec F S1x256x8x252 .f32, rowOf u ⟨(win0_5.xinj (grid0.coords t) j 1).val, (win0_5.xinj (grid0.coords t) j 1).isLt⟩ z
        = u (win0_0.xinj (grid0.coords t) k) := fun u => congrArg u (funext fun a => Fin.ext (match a with
      | ⟨0, _⟩ => rfl
      | ⟨1, _⟩ => rfl
      | ⟨2, _⟩ => rfl
      | ⟨3, _⟩ => rfl))
    exact (hk x).trans ((congrFun h k).trans (hk x').symm)
  exact congrArg (fun r => k0_pay2 (View.ld (iblk m c 1 t) rectW) (View.ld (iblk m c 3 t) rectC) r (View.ld (iblk m c 2 t) rectC) (View.ld (iblk m c 4 t) rectB)
    (inRow (win0_5.xinj (grid0.coords t) j))) e

theorem defs_row (t : Fin cfg0.N) : defs₀ (F := F) .tc cfg0.body (cfg0.bodyArgs t (cfg0.slots t)) = bodyAt0 t := by
  unfold defs₀; rw [Defs.onTc_tc]

/-- The body does at every point what the pipeline asks of it. -/
theorem obligation (c : Dev nD) : BodyObligationLoose (headDat (F := F) m c) (defs₀ (F := F)) Variants.none () Set.univ := fun t => by
  rw [bigSep_W0, bigSep_W0, defs_row]
  simp only
  rw [show (headDat m c).Φ t.succ = (headDat m c).Φ t.castSucc from rfl,
    show (headDat m c).owesAt () t.succ = (headDat m c).owesAt () t.castSucc from rfl]
  iintro ⟨HΦ, HO, ⟨%d0, Hx⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4,
    after_0 m c t, after_1 m c t, after_2 m c t, after_3 m c t, after_4 m c t, after_5 m c t]
  have hx : win0_0.cut (grid0.coords t) (xBlk m c t) = iblk m c 0 t := win0_0.cut_fill _ _ _
  have hd : win0_0.cut (grid0.coords t) (win0_0.fill (grid0.coords t) d0 (iblk m c 0 t)) = iblk m c 0 t := win0_0.cut_fill _ _ _
  iapply (body_wp c (grid0.coords t) _ _ _ _ _ _ _ _ _ _ _ _ (win0_0.fill (grid0.coords t) d0 (iblk m c 0 t)) (iblk m c 1 t) (iblk m c 2 t) (iblk m c 3 t) (iblk m c 4 t) _)
  isplitl [Hx]; · iexact Hx
  isplitl [H1]; · iexact H1
  isplitl [H2]; · iexact H2
  isplitl [H3]; · iexact H3
  isplitl [H4]; · iexact H4
  isplitl [H5]; · iexists _; iexact H5
  iintro ⟨Hx, H1, H2, H3, H4, H5⟩
  isplitl [HΦ]; · iexact HΦ
  isplitl [HO]; · iexact HO
  isplitl [Hx]
  · iexists d0
    rw [show (cfg0.win 0).fill (cfg0.grid.coords t) d0 ((cfg0.win 0).cut (cfg0.grid.coords t) (xBlk m c t))
      = win0_0.fill (grid0.coords t) d0 (iblk m c 0 t) from congrArg _ hx]
    iexact Hx
  isplitl [H1]; · iexact H1
  isplitl [H2]; · iexact H2
  isplitl [H3]; · iexact H3
  isplitl [H4]; · iexact H4
  iexists (scoresOf m c t (win0_0.fill (grid0.coords t) d0 (iblk m c 0 t)))
  rw [show (cfg0.win 5).fill (cfg0.grid.coords t) (scoresOf m c t (win0_0.fill (grid0.coords t) d0 (iblk m c 0 t)))
      ((cfg0.win 5).cut (cfg0.grid.coords t) (scoresOf m c t (xBlk m c t)))
    = scoresOf m c t (win0_0.fill (grid0.coords t) d0 (iblk m c 0 t)) from
      win0_5.fill_congr_cut (grid0.coords t) (scores_cut m c t _ _ (hd.trans hx.symm))]
  iexact H5

/-! ## The run -/

set_option backward.isDefEq.respectTransparency.types false in
set_option maxHeartbeats 4000000 in
/-- Every run ends, each array of the region at what the points wrote into it, every other array as it was, every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => obligation m c) (hshare := fun c => (headDat m c).share_full fun _ => rfl)
    (howed := fun _ _ => rfl) (V := V m) (hmain := hmain m Variants.none) (hA := A_eq m) (hΦ := fun _ _ => rfl)

/-- What the region leaves in the output's array. -/
def scores (c : Dev nD) : Buf (Elt F) ((c : Thread nD τ).loc main_v2) := (headDat m c).arrAt 5 cfg0.N

/-- Every run ends with the scores in the result, the arguments as they were and every semaphore at zero. -/
theorem run : θ_run defs (onTc (τ := τ) (main (F := F))) ⟨m, fun _ => 0, ρ⟩ (fun r => (∀ c : Dev nD,
      r.2.mem ((c.tc : Thread nD τ).loc main_v2) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r ⟨h, hs⟩ => ⟨fun c => ⟨(h c).1 5,
      ((h c).1 0).trans (((headDat m c).arrAt_in 0 rfl _).trans ((A_eq m c 0).trans (V_main_arg0 m c))),
      ((h c).1 1).trans (((headDat m c).arrAt_in 1 rfl _).trans ((A_eq m c 1).trans (V_main_arg1 m c))),
      ((h c).2 main_arg2 (Pipeline.mem_restRefs_of main_arg2 (by decide) (by decide))).trans (V_main_arg2 m c),
      ((h c).1 3).trans (((headDat m c).arrAt_in 3 rfl _).trans ((A_eq m c 3).trans (V_main_arg3 m c))),
      ((h c).2 main_arg4 (Pipeline.mem_restRefs_of main_arg4 (by decide) (by decide))).trans (V_main_arg4 m c)⟩, hs⟩) (run_quiescent m ρ)

end Cert.ScoreIdeal.Head
end
-- ==== Proof.HeadValue.lean ====
/-
  The score head's value over the extended reals: at every image and place, the score the reference computes there. Both
  are the logistic function of the same sum, read out of the two programs element by element; the kernel multiplies the
  weights by the features where the reference multiplies the features by the weights.
-/
module

public import proofs.«01_k».proof.Proof.HeadIdeal
public import proofs.«01_k».proof.Proof.Gen.ScoreReferenceIdeal
public import proofs.«01_k».proof.Proof.Gen.ScoreReferenceIdeal.Run
public import proofs.«01_k».proof.Proof.Gen.ScoreReferenceIdeal.Read
public import Idealize.ShloMosaic.Lib.Pipeline.ValueKit.Partial
public import Idealize.ShloMosaic.Lib.Pointwise.Contract
public import Idealize.ShloMosaic.Lib.Pointwise.Tactic
public import Idealize.ShloMosaic.Lib.IdealHost
public import Idealize.ShloMosaic.PureOps.Ideal.Laws

@[expose] public section

set_option maxRecDepth 16384

noncomputable section

namespace Cert.ScoreIdeal.Head

open Cert.ScoreIdeal Cert.ScoreIdeal.Gen
open Idealize.ShloMosaic Idealize.ShloMosaic.TcCoe

/-! ## The mathematics -/

/-- The score of a place of an image: two layers over its channels, the logistic function of the second's value. -/
def score (x : S8x256x100x252.Idx → EReal) (w1 : S256x256.Idx → EReal) (b1 : S256.Idx → EReal) (w2 : S256x1.Idx → EReal) (b2 : S1.Idx → EReal)
    (n : Fin 8) (h : Fin 100) (w : Fin 252) : EReal :=
  Ideal.logistic (∑ k : Fin 256, max (∑ e : Fin 256, x (ix4 n e h w) * w1 (ix2 e k) + b1 (ix1 k)) 0 * w2 (ix2 k 0) + b2 (ix1 0))

/-! ## The reference -/

/-- The coordinates of a place of a channel of an image, from its number among all of them. -/
theorem coords_of (n e h w : ℕ) (he : e < 256) (hh : h < 100) (hw : w < 252) :
    ((n * 256 + e) * 25200 + (h * 252 + w)) / 6451200 = n ∧ ((n * 256 + e) * 25200 + (h * 252 + w)) / 25200 % 256 = e
      ∧ ((n * 256 + e) * 25200 + (h * 252 + w)) / 252 % 100 = h ∧ ((n * 256 + e) * 25200 + (h * 252 + w)) % 252 = w := by
  refine ⟨?_, ?_, ?_, ?_⟩ <;> omega

section
open Cert.ScoreReferenceIdeal.Read

/-- The reference's result at an image and a place of it. -/
theorem ref_apply (x : S8x256x100x252.Idx → EReal) (w1 : S256x256.Idx → EReal) (b1 : S256.Idx → EReal) (w2 : S256x1.Idx → EReal) (b2 : S1.Idx → EReal)
    (i : S8x100x252.Idx) :
    val_main_v18 (F := Ideal) x w1 b1 w2 b2 i = score x w1 b1 w2 b2 ⟨(i 0).val, (i 0).isLt⟩ ⟨(i 1).val, (i 1).isLt⟩ ⟨(i 2).val, (i 2).isLt⟩ := by
  rw [val_main_v18_apply, val_main_v17_apply, val_main_v15_apply, val_main_v13_apply, val_main_v12_apply, val_main_v11_apply, val_main_v10_apply,
    val_main_v7_apply, val_main_v16_apply, val_main_v14_apply, val_main_v9_apply, val_main_v8_apply]
  simp only [val_main_cst_apply, val_main_cst_0_apply, val_main_v6_apply, val_main_v5_apply, val_main_v2_apply, val_main_v1_apply, val_main_v0_apply,
    val_main_v4_apply, val_main_v3_apply, val_main_call0_v0_apply, val_main_call0_cst_apply]
  pointwise
  have h0 : (i 0).val < 8 := (i 0).isLt
  have h1 : (i 1).val < 100 := (i 1).isLt
  have h2 : (i 2).val < 252 := (i 2).isLt
  have f0 : (idx_main_v18 i 0).val = (i 0).val := by show (((i 0).val * 100 + (i 1).val) * 252 + (i 2).val) / 25200 = (i 0).val; omega
  have f1 : (idx_main_v18 i 1).val = (i 1).val * 252 + (i 2).val := by
    show (((i 0).val * 100 + (i 1).val) * 252 + (i 2).val) % 25200 = (i 1).val * 252 + (i 2).val; omega
  have g0 : (idx_main_v11 (idx_main_v18 i) 0).val = (i 0).val := by
    show ((idx_main_v18 i 0).val * 25200 + (idx_main_v18 i 1).val) / 25200 = (i 0).val
    rw [f0, f1]; omega
  have g1 : (idx_main_v11 (idx_main_v18 i) 1).val = (i 1).val * 252 + (i 2).val := by
    show ((idx_main_v18 i 0).val * 25200 + (idx_main_v18 i 1).val) / 1 % 25200 = (i 1).val * 252 + (i 2).val
    rw [f0, f1]; omega
  unfold score Ideal.logistic
  refine congrArg (fun s => Ideal.div 1 (1 + Ideal.exp (-s))) (congrArg₂ (· + ·) (Finset.sum_congr rfl fun k _ => ?_) ?_)
  · refine congrArg₂ (· * ·) (congrArg (max · 0) (congrArg₂ (· + ·) (Finset.sum_congr rfl fun e _ => ?_) ?_)) ?_
    · refine congrArg₂ (· * ·) (congrArg x (funext fun a => Fin.ext ?_)) (congrArg w1 (funext fun a => Fin.ext ?_))
      · obtain ⟨c0, c1, c2, c3⟩ := coords_of (i 0).val e.val (i 1).val (i 2).val e.isLt h1 h2
        match a with
        | ⟨0, _⟩ =>
          show (((idx_main_v11 (idx_main_v18 i) 0).val * 256 + e.val) * 25200 + (idx_main_v11 (idx_main_v18 i) 1).val) / 6451200 = (i 0).val
          rw [g0, g1]; exact c0
        | ⟨1, _⟩ =>
          show (((idx_main_v11 (idx_main_v18 i) 0).val * 256 + e.val) * 25200 + (idx_main_v11 (idx_main_v18 i) 1).val) / 25200 % 256 = e.val
          rw [g0, g1]; exact c1
        | ⟨2, _⟩ =>
          show (((idx_main_v11 (idx_main_v18 i) 0).val * 256 + e.val) * 25200 + (idx_main_v11 (idx_main_v18 i) 1).val) / 252 % 100 = (i 1).val
          rw [g0, g1]; exact c2
        | ⟨3, _⟩ =>
          show (((idx_main_v11 (idx_main_v18 i) 0).val * 256 + e.val) * 25200 + (idx_main_v11 (idx_main_v18 i) 1).val) % 252 = (i 2).val
          rw [g0, g1]; exact c3
      · match a with
        | ⟨0, _⟩ => rfl
        | ⟨1, _⟩ => rfl
    · exact congrArg b1 (funext fun a => Fin.ext (match a with | ⟨0, _⟩ => rfl))
    · exact congrArg w2 (funext fun a => Fin.ext (match a with | ⟨0, _⟩ => rfl | ⟨1, _⟩ => rfl))
  · exact congrArg b2 (funext fun a => Fin.ext (match a with | ⟨0, _⟩ => rfl))

end

/-! ## The kernel's body -/

/-- What the body computes for a row of a block, at a place of the row. -/
theorem pay_apply (w1 : Vec Ideal S256x256 .f32) (w2 : Vec Ideal S256x1 .f32) (xs : Vec Ideal S1x256x1x252 .f32) (b1 : Vec Ideal S256x1 .f32)
    (b2 : Vec Ideal S1x1 .f32) (z : S1x1x252.Idx) :
    k0_pay2 (F := Ideal) w1 w2 xs b1 b2 z
      = Ideal.logistic (∑ k : Fin 256, w2 (ix2 k 0) * max (∑ e : Fin 256, w1 (ix2 e k) * xs (ix4 0 e 0 ⟨(z 2).val, (z 2).isLt⟩) + b1 (ix2 k 0)) 0 + b2 (ix2 0 0)) := by
  have row : ∀ e : Fin 256, shapeCast S256x252 xs shapeCasts_S1x256x1x252_S256x252 (ix2 e ⟨(z 2).val, (z 2).isLt⟩)
      = xs (ix4 0 e 0 ⟨(z 2).val, (z 2).isLt⟩) := fun e => by
    refine shapeCast_apply _ _ _ _ ?_
    rewrite [Shape.rowMajor_val_two, Shape.rowMajor_val_four]
    show ((0 * 256 + e.val) * 1 + 0) * 252 + (z 2).val = e.val * 252 + (z 2).val
    omega
  unfold k0_pay2
  have z0 : (z 0).val < 1 := (z 0).isLt
  have z1 : (z 1).val < 1 := (z 1).isLt
  refine (shapeCast_apply _ _ z (ix2 (n0 := 1) (n1 := 252) 0 ⟨(z 2).val, (z 2).isLt⟩) ?_).trans ?_
  · rewrite [Shape.rowMajor_val_two, Shape.rowMajor_val_three]
    show 0 * 252 + (z 2).val = ((z 0).val * 1 + (z 1).val) * 252 + (z 2).val
    omega
  rw [shapeCast_self b1, shapeCast_self b2]
  pointwise [dot_S256x256_S256x252_S256x252_0_0_1_1_n_n, dot_S256x1_S256x252_S1x252_0_0_1_1_n_n]
  refine congrArg Ideal.logistic (congrArg (· + _) (Finset.sum_congr rfl fun k _ => ?_))
  refine congrArg₂ (fun a b : EReal => a * b) rfl (congrArg (fun a : EReal => max a 0) (congrArg₂ (fun a b : EReal => a + b) ?_ rfl))
  exact Finset.sum_congr rfl fun e _ => congrArg₂ (fun a b : EReal => a * b) rfl (row e)

/-! ## The region's blocks -/

section
variable {F : FTy → Type} [FloatOps F] (m : (ℓ : Loc nD τ sig) → Buf (Elt F) ℓ) (c : Dev nD)

/-- The region finds the first bias as a column and the second as a single number. -/
theorem V_main_v0 : V m c main_v0 = shapeCast S256x1 (m ((c : Thread nD τ).loc main_arg2)) shapeCasts_S256_S256x1 := by
  show StableHlo.after hostOps0 _ (Proc.devRef .tc main_v0) = _
  after_results
  rfl
theorem V_main_v1 : V m c main_v1 = shapeCast S1x1 (m ((c : Thread nD τ).loc main_arg4)) shapeCasts_S1_S1x1 := by
  show StableHlo.after hostOps0 _ (Proc.devRef .tc main_v1) = _
  after_results
  rfl

/-- Where the blocks of a point lie: the features' as the output's, over all their channels; the rest whole. -/
theorem point_at : ∀ t : Fin cfg0.N, win0_0.index t = ![win0_5.index t 0, 0, win0_5.index t 1, 0] ∧ win0_5.index t 2 = 0
    ∧ win0_1.index t = ![0, 0] ∧ win0_2.index t = ![0, 0] ∧ win0_3.index t = ![0, 0] ∧ win0_4.index t = ![0, 0] :=
  (by decide +kernel : ∀ t : Fin grid0.N, win0_0.index t = ![win0_5.index t 0, 0, win0_5.index t 1, 0] ∧ win0_5.index t 2 = 0
    ∧ win0_1.index t = ![0, 0] ∧ win0_2.index t = ![0, 0] ∧ win0_3.index t = ![0, 0] ∧ win0_4.index t = ![0, 0])

/-- The first weights, as the body reads them. -/
theorem w1_at (t : Fin cfg0.N) (e k : Fin 256) : View.ld (iblk m c 1 t : Vec F S256x256 .f32) rectW (ix2 e k) = m ((c : Thread nD τ).loc main_arg1) (ix2 e k) := by
  obtain ⟨-, -, h, -, -, -⟩ := point_at t
  refine (congrArg (V m c main_arg1) (show (win0_1.rect t).emb (rectW.idx (ix2 e k)) = ix2 e k from funext fun a => Fin.ext ?_)).trans
    (congrFun (V_main_arg1 m c) (ix2 e k))
  rw [win0_1.rect_emb_val t _ a, h]
  match a with
  | ⟨0, _⟩ => show 0 * 256 + (0 + 1 * e.val) = e.val; omega
  | ⟨1, _⟩ => show 0 * 256 + (0 + 1 * k.val) = k.val; omega

/-- The second weights. -/
theorem w2_at (t : Fin cfg0.N) (k : Fin 256) : View.ld (iblk m c 3 t : Vec F S256x1 .f32) rectC (ix2 k 0) = m ((c : Thread nD τ).loc main_arg3) (ix2 k 0) := by
  obtain ⟨-, -, -, -, h, -⟩ := point_at t
  refine (congrArg (V m c main_arg3) (show (win0_3.rect t).emb (rectC.idx (ix2 k 0)) = ix2 k 0 from funext fun a => Fin.ext ?_)).trans
    (congrFun (V_main_arg3 m c) (ix2 k 0))
  rw [win0_3.rect_emb_val t _ a, h]
  match a with
  | ⟨0, _⟩ => show 0 * 256 + (0 + 1 * k.val) = k.val; omega
  | ⟨1, _⟩ => rfl

/-- The first bias. -/
theorem b1_at (t : Fin cfg0.N) (k : Fin 256) : View.ld (iblk m c 2 t : Vec F S256x1 .f32) rectC (ix2 k 0) = m ((c : Thread nD τ).loc main_arg2) (ix1 k) := by
  obtain ⟨-, -, -, h, -, -⟩ := point_at t
  refine (congrArg (V m c main_v0) (show (win0_2.rect t).emb (rectC.idx (ix2 k 0)) = ix2 k 0 from funext fun a => Fin.ext ?_)).trans
    ((congrFun (V_main_v0 m c) (ix2 k 0)).trans (shapeCast_apply _ _ _ (ix1 k) ?_))
  · rw [win0_2.rect_emb_val t _ a, h]
    match a with
    | ⟨0, _⟩ => show 0 * 256 + (0 + 1 * k.val) = k.val; omega
    | ⟨1, _⟩ => rfl
  · rewrite [Shape.rowMajor_val_one, Shape.rowMajor_val_two]
    show k.val = k.val * 1 + 0
    omega

/-- The second bias. -/
theorem b2_at (t : Fin cfg0.N) : View.ld (iblk m c 4 t : Vec F S1x1 .f32) rectB (ix2 0 0) = m ((c : Thread nD τ).loc main_arg4) (ix1 0) := by
  obtain ⟨-, -, -, -, -, h⟩ := point_at t
  refine (congrArg (V m c main_v1) (show (win0_4.rect t).emb (rectB.idx (ix2 0 0)) = ix2 0 0 from funext fun a => Fin.ext ?_)).trans
    ((congrFun (V_main_v1 m c) (ix2 0 0)).trans (shapeCast_apply _ _ _ (ix1 0) ?_))
  · rw [win0_4.rect_emb_val t _ a, h]
    match a with
    | ⟨0, _⟩ => rfl
    | ⟨1, _⟩ => rfl
  · rewrite [Shape.rowMajor_val_one, Shape.rowMajor_val_two]
    rfl

/-- The features, in a row of the block inside the array: that image's and row's. -/
theorem x_at (t : Fin cfg0.N) (y : (win0_5.xblock (grid0.coords t)).Idx) (e : Fin 256) (i : S8x100x252.Idx)
    (hi : ∀ a, ((win0_5.rect t).emb y a : ℕ) = (i a).val) (r : Fin 8) (hr : r.val = (y 1).val) (w : Fin 252) (hw : w.val = (y 2).val) :
    rowOf (xBlk m c t) r (ix4 0 e 0 w)
      = m ((c : Thread nD τ).loc main_arg0) (ix4 ⟨(i 0).val, (i 0).isLt⟩ e ⟨(i 1).val, (i 1).isLt⟩ ⟨(i 2).val, (i 2).isLt⟩) := by
  obtain ⟨h, h5, -, -, -, -⟩ := point_at t
  obtain ⟨s0, s1, s2, s3⟩ := moved_size t
  have hy : (y 1).val < win0_5.xsize (grid0.coords t) 1 := (y 1).isLt
  have hy0 : (y 0).val < 1 := Nat.lt_of_lt_of_le (y 0).isLt (win0_5.xsize_le (grid0.coords t) 0)
  let k : (win0_0.xblock (grid0.coords t)).Idx := fun a => match a with
    | ⟨0, _⟩ => ⟨0, Nat.lt_of_lt_of_eq Nat.one_pos s0.symm⟩
    | ⟨1, _⟩ => ⟨e.val, Nat.lt_of_lt_of_eq e.isLt s1.symm⟩
    | ⟨2, _⟩ => ⟨(y 1).val, Nat.lt_of_lt_of_eq hy s2.symm⟩
    | ⟨3, _⟩ => ⟨w.val, Nat.lt_of_lt_of_eq w.isLt s3.symm⟩
  have e1 : rowOf (xBlk m c t) r (ix4 0 e 0 w) = xBlk m c t (win0_0.xinj (grid0.coords t) k) := congrArg (xBlk m c t) (funext fun a => Fin.ext (match a with
    | ⟨0, _⟩ => rfl
    | ⟨1, _⟩ => rfl
    | ⟨2, _⟩ => hr
    | ⟨3, _⟩ => rfl))
  refine e1.trans ((congrFun (win0_0.cut_fill (grid0.coords t) (fun _ => Scalar.ofBits .f32 0x00000000#32) (iblk m c 0 t)) k).trans ?_)
  refine (congrArg (V m c main_arg0) (show (win0_0.rect t).emb k = ix4 ⟨(i 0).val, (i 0).isLt⟩ e ⟨(i 1).val, (i 1).isLt⟩ ⟨(i 2).val, (i 2).isLt⟩
    from funext fun a => Fin.ext ?_)).trans (congrFun (V_main_arg0 m c) _)
  have i0 := (win0_5.rect_emb_val t y 0).symm.trans (hi 0)
  have i1 := (win0_5.rect_emb_val t y 1).symm.trans (hi 1)
  have i2 := (win0_5.rect_emb_val t y 2).symm.trans (hi 2)
  rw [h5] at i2
  rw [win0_0.rect_emb_val t _ a, h]
  match a with
  | ⟨0, _⟩ => show win0_5.index t 0 * 1 + 0 = (i 0).val; have i0 : win0_5.index t 0 * 1 + (y 0).val = (i 0).val := i0; omega
  | ⟨1, _⟩ => show 0 * 256 + e.val = e.val; omega
  | ⟨2, _⟩ => show win0_5.index t 1 * 8 + (y 1).val = (i 1).val; exact i1
  | ⟨3, _⟩ => show 0 * 252 + w.val = (i 2).val; have i2 : 0 * 252 + (y 2).val = (i 2).val := i2; omega

end

/-! ## The scores -/

variable (m : (ℓ : Loc nD τ sig) → Buf (Elt Ideal) ℓ) (c : Dev nD)

/-- The scores of the arguments, as the result's array. -/
def scoreArr : Buf (Elt Ideal) ((c : Thread nD τ).loc main_v2) := fun i : S8x100x252.Idx =>
  score (m ((c : Thread nD τ).loc main_arg0)) (m ((c : Thread nD τ).loc main_arg1)) (m ((c : Thread nD τ).loc main_arg2))
    (m ((c : Thread nD τ).loc main_arg3)) (m ((c : Thread nD τ).loc main_arg4))
    ⟨(i 0).val, (i 0).isLt⟩ ⟨(i 1).val, (i 1).isLt⟩ ⟨(i 2).val, (i 2).isLt⟩

/-- Equal factors, in the other order. -/
theorem mul_swap {a b a' b' : EReal} (ha : a = a') (hb : b = b') : a * b = b' * a' := by rw [ha, hb, mul_comm]

/-- What a point writes back is the scores of its rows. -/
theorem point_scores (t : Fin cfg0.N) (y : (win0_5.xblock (grid0.coords t)).Idx) :
    scoresOf m c t (xBlk m c t) (win0_5.xinj (grid0.coords t) y) = scoreArr m c ((win0_5.rect t).emb y) := by
  refine (pay_apply _ _ _ _ _ _).trans (congrArg Ideal.logistic (congrArg₂ (· + ·) (Finset.sum_congr rfl fun k _ => ?_) (b2_at m c t)))
  refine mul_swap (w2_at m c t k) (congrArg (fun a : EReal => max a 0) (congrArg₂ (fun a b : EReal => a + b) (Finset.sum_congr rfl fun e _ => ?_) (b1_at m c t k)))
  exact mul_swap (w1_at m c t e k) (x_at m c t y e ((win0_5.rect t).emb y) (fun _ => rfl) _ rfl _ rfl)

/-- The region leaves the scores of its arguments. -/
theorem scores_eq : scores m c = scoreArr m c :=
  (headDat m c).arrAt_eq_of_coversWhere_of_agree 5 (scoreArr m c) (fun _ => True) (by decide +kernel)
    (fun t _ y => (congrFun (after_5 m c t) _).trans (point_scores m c t y)) (fun _ h => absurd trivial h)

/-- They are what the reference leaves. -/
theorem scores_reference : scores m c
    = Cert.ScoreReferenceIdeal.Read.val_main_v18 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
  (scores_eq m c).trans (funext fun i => (ref_apply _ _ _ _ _ i).symm)

end Cert.ScoreIdeal.Head
end
-- ==== Proof.lean ====
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Gen.Kernel.Launch
public import proofs.«01_k».proof.Proof.Gen.Kernel.Points
public import proofs.«01_k».proof.Proof.Gen.Reference.Read
public import proofs.«01_k».proof.Proof.Value
public import proofs.«01_k».proof.Proof.HeadBits
public import proofs.«01_k».proof.Proof.HeadIdeal
public import proofs.«01_k».proof.Proof.HeadValue
public import Idealize.ShloMosaic.Lib.Quiescent
public import proofs.«01_k».proof.Proof.Gen.Pre_score_words
public import proofs.«01_k».proof.Proof.Gen.Score
public import proofs.«01_k».proof.Proof.Gen.Score.Skeleton
public import proofs.«01_k».proof.Proof.Gen.Score.Launch
public import proofs.«01_k».proof.Proof.Gen.Score.Points
public import proofs.«01_k».proof.Proof.Gen.Score.Frame
public import proofs.«01_k».proof.Proof.Gen.ScoreIdeal
public import proofs.«01_k».proof.Proof.Gen.ScoreIdeal.Skeleton
public import proofs.«01_k».proof.Proof.Gen.ScoreIdeal.Launch
public import proofs.«01_k».proof.Proof.Gen.ScoreIdeal.Points
public import proofs.«01_k».proof.Proof.Gen.ScoreIdeal.Frame
public import proofs.«01_k».proof.Proof.Gen.ScoreReferenceIdeal
public import proofs.«01_k».proof.Proof.Gen.ScoreReferenceIdeal.Run
public import proofs.«01_k».proof.Proof.Gen.ScoreReferenceIdeal.Read
public import Idealize.ShloMosaic.Adequacy
public import Idealize.ShloMosaic.Init

@[expose] public section

noncomputable section

namespace Cert.Proof

open Idealize.ShloMosaic Idealize.SL.Sem Cert.Kernel

/-- Every run of the kernel ends, its arguments as they were, every semaphore at zero. -/
theorem frame_kernel : quiescent_Kernel := by
  intro m g _
  exact (θ_run (Cert.Kernel.defs (F := Bits)) _ _).mono
    (fun _ h => ⟨fun c => ⟨(h.1 c Sort.rX (by decide)).trans (Sort.V8_x m c), (h.1 c Sort.rx (by decide)).trans (Sort.V8_scores m c)⟩, h.2⟩)
    (Sort.run_main (F := Bits) m g)

/-- Every run of the reference ends, its arguments as they were, every semaphore at zero. -/
theorem frame_reference : quiescent_Reference := by
  intro m g _
  exact (θ_run (Cert.Reference.defs (F := Bits)) _ _).mono (fun r h => ⟨fun c => (h c).2.2, sem_eq_zero_of_no_sems (by decide) r.2⟩)
    (Cert.Reference.Value.run (F := Bits) m g)

/-- On scores whose words are below `2 ^ 30` the kernel's two results are the reference's, bit for bit. -/
theorem same_bits : bitexact_Kernel_Reference_pre_score_words := by
  intro m g m' g' hpre hag
  have hw : ∀ c : Dev nD, ∀ i, (m ((c.tc : Thread nD τ).loc main_arg1) i : BitVec 32).toNat < 2 ^ 30 := fun c => Sort.pre_words _ _ (hpre c)
  have hB : ∀ c : Dev nD, Sort.wordsB m c = shapeCast S201600 (m ((c.tc : Thread nD τ).loc main_arg1) : S8x100x252.Idx → BitVec 32) Gen.shapeCasts_S8x100x252_S201600 := fun c => Sort.words_eq m c
  refine ⟨fun c => Sort.V8 m c Sort.r7, fun c => Sort.V8 m c Sort.r4, ?_, ?_⟩
  · exact (θ_run (Cert.Kernel.defs (F := Bits)) _ _).mono
      (fun _ h c => ⟨h.1 c Sort.r7 (by decide), h.1 c Sort.r4 (by decide), (h.1 c Sort.rX (by decide)).trans (Sort.V8_x m c),
        (h.1 c Sort.rx (by decide)).trans (Sort.V8_scores m c)⟩)
      (Sort.run_main (F := Bits) m g)
  · refine (θ_run (Cert.Reference.defs (F := Bits)) _ _).mono (fun _ h c => ⟨(h c).1.trans ?_, (h c).2.1.trans ?_, (h c).2.2⟩)
      (Cert.Reference.Value.run (F := Bits) m' g')
    · refine (Cert.Reference.Read.val_main_v28_eq (F := Bits) _ _).trans ?_
      rw [(hag c).1, (hag c).2]
      funext i
      refine (Sort.sparse_eq (m ((c.tc : Thread nD τ).loc main_arg1)) (Sort.wordsB m c) (hB c) (hw c) (m ((c.tc : Thread nD τ).loc main_arg0)) i).trans ?_
      refine Eq.trans ?_ (Sort.V8_sparse m c i).symm
      exact congrArg (fun f : S8x100x252.Idx → BitVec 32 => FloatOps.mulf (F := Bits) (φ := .f32) (m ((c.tc : Thread nD τ).loc main_arg0) i) (f (Sort.mapAt i)))
        ((Sort.V7_map m c).trans (Sort.bitcast_bits _)).symm
    · refine (Cert.Reference.Read.val_main_values_eq (F := Bits) _).trans ?_
      rw [(hag c).2]
      exact (Sort.tk_eq (m ((c.tc : Thread nD τ).loc main_arg1)) (Sort.wordsB m c) (hB c) (hw c)).trans ((Sort.V8_tk m c).trans (Sort.bitcast_bits _)).symm

/-- Every run of the score head ends, its arguments as they were, every semaphore at zero. -/
theorem frame_score : quiescent_Score := by
  intro m g _
  exact (θ_run (Cert.Score.defs (F := Bits)) _ _).mono (fun _ h => ⟨fun c => (h.1 c).2, h.2⟩) (Cert.Score.Head.run (F := Bits) m g)

/-- The same over the extended reals. -/
theorem frame_score_ideal : quiescent_ScoreIdeal := by
  intro m g _
  exact (θ_run (Cert.ScoreIdeal.defs (F := Ideal)) _ _).mono (fun _ h => ⟨fun c => (h.1 c).2, h.2⟩) (Cert.ScoreIdeal.Head.run (F := Ideal) m g)

/-- Every run of the score head's reference over the extended reals ends, its arguments as they were, every semaphore at zero. -/
theorem frame_score_reference : quiescent_ScoreReferenceIdeal := by
  intro m g _
  exact (θ_run (Cert.ScoreReferenceIdeal.defs (F := Ideal)) _ _).mono (fun r h => ⟨fun c => (h c).2, sem_eq_zero_of_no_sems (by decide) r.2⟩)
    (Cert.ScoreReferenceIdeal.Value.run (F := Ideal) m g)

/-- Over the extended reals the score head's result is its reference's. -/
theorem same_scores : algebraic_ScoreIdeal_ScoreReferenceIdeal := by
  intro m g m' g' _ hag
  refine ⟨fun c => Cert.ScoreIdeal.Head.scores m c, ?_, ?_⟩
  · exact (θ_run (Cert.ScoreIdeal.defs (F := Ideal)) _ _).mono (fun _ h => h.1) (Cert.ScoreIdeal.Head.run (F := Ideal) m g)
  · refine (θ_run (Cert.ScoreReferenceIdeal.defs (F := Ideal)) _ _).mono (fun _ h c => ⟨(h c).1.trans ?_, (h c).2⟩)
      (Cert.ScoreReferenceIdeal.Value.run (F := Ideal) m' g')
    refine (Cert.ScoreReferenceIdeal.Read.val_main_v18_eq (F := Ideal) _ _ _ _ _).trans ?_
    rw [(hag c).1, (hag c).2.1, (hag c).2.2.1, (hag c).2.2.2.1, (hag c).2.2.2.2]
    exact (Cert.ScoreIdeal.Head.scores_reference m c).symm

/-- The claims. -/
theorem claim : Cert.Claim := ⟨Cert.Kernel.Gen.facts, Cert.Reference.Gen.facts, Cert.Score.Gen.facts, Cert.ScoreIdeal.Gen.facts,
  Cert.ScoreReferenceIdeal.Gen.facts, Cert.Pre_score_words.Gen.facts,
  frame_kernel, fun m g _ => frame_kernel m g trivial, frame_reference, fun m g _ => frame_reference m g trivial,
  frame_score, frame_score_ideal, frame_score_reference, same_bits, trivial, same_scores⟩

end Cert.Proof

end
